-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_decays_below_infinity [hPre_decays_below_infinity : Cert.Pre_decays_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_decays_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_decays_below_infinity [hPre_decays_below_infinity : Cert.Pre_decays_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_decays_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_projection [hPre_finite_projection : Cert.Pre_finite_projection.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_projection.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_projection [hPre_finite_projection : Cert.Pre_finite_projection.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_projection.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_copies_agree [hPre_copies_agree : Cert.Pre_copies_agree.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_copies_agree.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_copies_agree [hPre_copies_agree : Cert.Pre_copies_agree.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_copies_agree.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_decays_below_infinity [hKernelIdeal : Cert.KernelIdeal.Facts] [hPre_decays_below_infinity : Cert.Pre_decays_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_decays_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_decays_below_infinity [hReferenceIdeal : Cert.ReferenceIdeal.Facts] [hPre_decays_below_infinity : Cert.Pre_decays_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_decays_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite_projection [hKernel4Ideal : Cert.Kernel4Ideal.Facts] [hPre_finite_projection : Cert.Pre_finite_projection.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_projection m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite_projection [hReference4Ideal : Cert.Reference4Ideal.Facts] [hPre_finite_projection : Cert.Pre_finite_projection.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_projection m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_copies_agree [hKernel5Ideal : Cert.Kernel5Ideal.Facts] [hPre_copies_agree : Cert.Pre_copies_agree.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_copies_agree m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_copies_agree [hReference5Ideal : Cert.Reference5Ideal.Facts] [hPre_copies_agree : Cert.Pre_copies_agree.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_copies_agree m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal_pre_decays_below_infinity [hKernelIdeal : Cert.KernelIdeal.Facts] [hReferenceIdeal : Cert.ReferenceIdeal.Facts] [hPre_decays_below_infinity : Cert.Pre_decays_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_decays_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v9_1)) (v2 : (c : Dev Cert.Kernel2Ideal.nD) → Buf (Elt Ideal) ((c.tc : Thread Cert.Kernel2Ideal.nD Cert.Kernel2Ideal.τ).loc Cert.Kernel2Ideal.main_v9_2)) (v3 : (c : Dev Cert.Kernel2Ideal.nD) → Buf (Elt Ideal) ((c.tc : Thread Cert.Kernel2Ideal.nD Cert.Kernel2Ideal.τ).loc Cert.Kernel2Ideal.main_v9_3)) (v4 : (c : Dev Cert.Kernel2Ideal.nD) → Buf (Elt Ideal) ((c.tc : Thread Cert.Kernel2Ideal.nD Cert.Kernel2Ideal.τ).loc Cert.Kernel2Ideal.main_v9_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v9_1) = v1 c
          ∧ r.2.mem ((c.tc : Thread Cert.Kernel2Ideal.nD Cert.Kernel2Ideal.τ).loc Cert.Kernel2Ideal.main_v9_2) = v2 c
          ∧ r.2.mem ((c.tc : Thread Cert.Kernel2Ideal.nD Cert.Kernel2Ideal.τ).loc Cert.Kernel2Ideal.main_v9_3) = v3 c
          ∧ r.2.mem ((c.tc : Thread Cert.Kernel2Ideal.nD Cert.Kernel2Ideal.τ).loc Cert.Kernel2Ideal.main_v9_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_v15) = v1 c
          ∧ r.2.mem ((c.tc : Thread Cert.Reference2Ideal.nD Cert.Reference2Ideal.τ).loc Cert.Reference2Ideal.main_v26) = v2 c
          ∧ r.2.mem ((c.tc : Thread Cert.Reference2Ideal.nD Cert.Reference2Ideal.τ).loc Cert.Reference2Ideal.main_v17) = v3 c
          ∧ r.2.mem ((c.tc : Thread Cert.Reference2Ideal.nD Cert.Reference2Ideal.τ).loc Cert.Reference2Ideal.main_v25) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_finite_projection [hKernel4Ideal : Cert.Kernel4Ideal.Facts] [hReference4Ideal : Cert.Reference4Ideal.Facts] [hPre_finite_projection : Cert.Pre_finite_projection.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_projection m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v71_0)) (v1 : (c : Dev Cert.Kernel4Ideal.nD) → Buf (Elt Ideal) ((c.tc : Thread Cert.Kernel4Ideal.nD Cert.Kernel4Ideal.τ).loc Cert.Kernel4Ideal.main_v71_1)) (v2 : (c : Dev Cert.Kernel4Ideal.nD) → Buf (Elt Ideal) ((c.tc : Thread Cert.Kernel4Ideal.nD Cert.Kernel4Ideal.τ).loc Cert.Kernel4Ideal.main_v71_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v71_0) = v0 c
          ∧ r.2.mem ((c.tc : Thread Cert.Kernel4Ideal.nD Cert.Kernel4Ideal.τ).loc Cert.Kernel4Ideal.main_v71_1) = v1 c
          ∧ r.2.mem ((c.tc : Thread Cert.Kernel4Ideal.nD Cert.Kernel4Ideal.τ).loc Cert.Kernel4Ideal.main_v71_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v101) = v0 c
          ∧ r.2.mem ((c.tc : Thread Cert.Reference4Ideal.nD Cert.Reference4Ideal.τ).loc Cert.Reference4Ideal.main_v105) = v1 c
          ∧ r.2.mem ((c.tc : Thread Cert.Reference4Ideal.nD Cert.Reference4Ideal.τ).loc Cert.Reference4Ideal.main_v109) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal_pre_copies_agree [hKernel5Ideal : Cert.Kernel5Ideal.Facts] [hReference5Ideal : Cert.Reference5Ideal.Facts] [hPre_copies_agree : Cert.Pre_copies_agree.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_copies_agree m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v73) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_decays_below_infinity : Cert.Pre_decays_below_infinity.Facts) (hPre_finite_projection : Cert.Pre_finite_projection.Facts) (hPre_copies_agree : Cert.Pre_copies_agree.Facts),
    quiescent_Kernel (hKernel := hKernel)
    ∧ quiescent_KernelIdeal (hKernelIdeal := hKernelIdeal)
    ∧ quiescent_KernelIdeal_pre_decays_below_infinity (hKernelIdeal := hKernelIdeal) (hPre_decays_below_infinity := hPre_decays_below_infinity)
    ∧ quiescent_ReferenceIdeal (hReferenceIdeal := hReferenceIdeal)
    ∧ quiescent_ReferenceIdeal_pre_decays_below_infinity (hReferenceIdeal := hReferenceIdeal) (hPre_decays_below_infinity := hPre_decays_below_infinity)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_projection (hKernel4Ideal := hKernel4Ideal) (hPre_finite_projection := hPre_finite_projection)
    ∧ quiescent_Reference4Ideal (hReference4Ideal := hReference4Ideal)
    ∧ quiescent_Reference4Ideal_pre_finite_projection (hReference4Ideal := hReference4Ideal) (hPre_finite_projection := hPre_finite_projection)
    ∧ quiescent_Kernel5 (hKernel5 := hKernel5)
    ∧ quiescent_Kernel5Ideal (hKernel5Ideal := hKernel5Ideal)
    ∧ quiescent_Kernel5Ideal_pre_copies_agree (hKernel5Ideal := hKernel5Ideal) (hPre_copies_agree := hPre_copies_agree)
    ∧ quiescent_Reference5Ideal (hReference5Ideal := hReference5Ideal)
    ∧ quiescent_Reference5Ideal_pre_copies_agree (hReference5Ideal := hReference5Ideal) (hPre_copies_agree := hPre_copies_agree)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_decays_below_infinity (hKernelIdeal := hKernelIdeal) (hReferenceIdeal := hReferenceIdeal) (hPre_decays_below_infinity := hPre_decays_below_infinity)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_projection (hKernel4Ideal := hKernel4Ideal) (hReference4Ideal := hReference4Ideal) (hPre_finite_projection := hPre_finite_projection)
    ∧ preserves_Kernel5_Kernel5Ideal
    ∧ algebraic_Kernel5Ideal_Reference5Ideal_pre_copies_agree (hKernel5Ideal := hKernel5Ideal) (hReference5Ideal := hReference5Ideal) (hPre_copies_agree := hPre_copies_agree)
    ∧ preserves_Kernel6_Kernel6Ideal
    ∧ algebraic_Kernel6Ideal_Reference6Ideal (hKernel6Ideal := hKernel6Ideal) (hReference6Ideal := hReference6Ideal)
-- ==== Pre_copies_agree.lean ====
abbrev S16 : Shape := ⟨1, ![16]⟩
abbrev S2x16384x1024 : Shape := ⟨3, ![2, 16384, 1024]⟩
abbrev S2x16384x256 : Shape := ⟨3, ![2, 16384, 256]⟩
abbrev S2x16384x2x2x64 : Shape := ⟨5, ![2, 16384, 2, 2, 64]⟩
abbrev S2x16384x2x1x64 : Shape := ⟨5, ![2, 16384, 2, 1, 64]⟩
abbrev S2x16384x2x64 : Shape := ⟨4, ![2, 16384, 2, 64]⟩

class Facts : Prop where
  bitsLt_bf16_f32 : FTy.bits .bf16 < FTy.bits .f32
  shapeCasts_S2x16384x256_S2x16384x2x2x64 : S2x16384x256.ShapeCasts S2x16384x2x2x64
  slices_S2x16384x2x2x64_S2x16384x2x1x64_0_0_0_0_0 : S2x16384x2x2x64.Slices ![0, 0, 0, 0, 0] S2x16384x2x1x64
  shapeCasts_S2x16384x2x1x64_S2x16384x2x64 : S2x16384x2x1x64.ShapeCasts S2x16384x2x64
  slices_S2x16384x2x2x64_S2x16384x2x1x64_0_0_0_1_0 : S2x16384x2x2x64.Slices ![0, 0, 0, 1, 0] S2x16384x2x1x64

variable [Facts]

def fn {F : FTy → Type} [FloatOps F] (main_arg0 : FVec F S16 .f32) (main_arg1 : FVec F S2x16384x1024 .bf16) (main_arg2 : FVec F S2x16384x256 .bf16) (main_arg3 : FVec F S2x16384x256 .bf16) : IVec S2x16384x2x64 1 :=
  let main_v0 : FVec F S2x16384x256 .f32 := (extf .f32 · bitsLt_bf16_f32) main_arg2
  let main_v1 : FVec F S2x16384x2x2x64 .f32 := shapeCast S2x16384x2x2x64 main_v0 shapeCasts_S2x16384x256_S2x16384x2x2x64
  let main_v2 : FVec F S2x16384x2x1x64 .f32 := (extractStridedSlice S2x16384x2x1x64 ![0, 0, 0, 0, 0] · slices_S2x16384x2x2x64_S2x16384x2x1x64_0_0_0_0_0) main_v1
  let main_v3 : FVec F S2x16384x2x64 .f32 := shapeCast S2x16384x2x64 main_v2 shapeCasts_S2x16384x2x1x64_S2x16384x2x64
  let main_v4 : FVec F S2x16384x256 .f32 := (extf .f32 · bitsLt_bf16_f32) main_arg2
  let main_v5 : FVec F S2x16384x2x2x64 .f32 := shapeCast S2x16384x2x2x64 main_v4 shapeCasts_S2x16384x256_S2x16384x2x2x64
  let main_v6 : FVec F S2x16384x2x1x64 .f32 := (extractStridedSlice S2x16384x2x1x64 ![0, 0, 0, 1, 0] · slices_S2x16384x2x2x64_S2x16384x2x1x64_0_0_0_1_0) main_v5
  let main_v7 : FVec F S2x16384x2x64 .f32 := shapeCast S2x16384x2x64 main_v6 shapeCasts_S2x16384x2x1x64_S2x16384x2x64
  let main_v8 : IVec S2x16384x2x64 1 := cmpf .oeq main_v3 main_v7
  let main_v9 : FVec F S2x16384x256 .f32 := (extf .f32 · bitsLt_bf16_f32) main_arg3
  let main_v10 : FVec F S2x16384x2x2x64 .f32 := shapeCast S2x16384x2x2x64 main_v9 shapeCasts_S2x16384x256_S2x16384x2x2x64
  let main_v11 : FVec F S2x16384x2x1x64 .f32 := (extractStridedSlice S2x16384x2x1x64 ![0, 0, 0, 0, 0] · slices_S2x16384x2x2x64_S2x16384x2x1x64_0_0_0_0_0) main_v10
  let main_v12 : FVec F S2x16384x2x64 .f32 := shapeCast S2x16384x2x64 main_v11 shapeCasts_S2x16384x2x1x64_S2x16384x2x64
  let main_v13 : FVec F S2x16384x256 .f32 := (extf .f32 · bitsLt_bf16_f32) main_arg3
  let main_v14 : FVec F S2x16384x2x2x64 .f32 := shapeCast S2x16384x2x2x64 main_v13 shapeCasts_S2x16384x256_S2x16384x2x2x64
  let main_v15 : FVec F S2x16384x2x1x64 .f32 := (extractStridedSlice S2x16384x2x1x64 ![0, 0, 0, 1, 0] · slices_S2x16384x2x2x64_S2x16384x2x1x64_0_0_0_1_0) main_v14
  let main_v16 : FVec F S2x16384x2x64 .f32 := shapeCast S2x16384x2x64 main_v15 shapeCasts_S2x16384x2x1x64_S2x16384x2x64
  let main_v17 : IVec S2x16384x2x64 1 := cmpf .oeq main_v12 main_v16
  let main_v18 : IVec S2x16384x2x64 1 := andi main_v8 main_v17
  main_v18
-- ==== Pre_decays_below_infinity.lean ====
abbrev S2x16384x512 : Shape := ⟨3, ![2, 16384, 512]⟩
abbrev S2x16384x1024 : Shape := ⟨3, ![2, 16384, 1024]⟩
abbrev S4x256 : Shape := ⟨2, ![4, 256]⟩
abbrev S_ : Shape := ⟨0, ![]⟩

class Facts : Prop where
  bcast_S_S2x16384x512 : S_.BroadcastsInDim S2x16384x512 (![] : Fin 0 → Fin S2x16384x512.rank)

variable [Facts]

def fn {F : FTy → Type} [FloatOps F] (main_arg0 : FVec F S2x16384x512 .f32) (main_arg1 : FVec F S2x16384x512 .f32) (main_arg2 : FVec F S2x16384x512 .f32) (main_arg3 : FVec F S2x16384x1024 .bf16) (main_arg4 : FVec F S2x16384x1024 .f32) (main_arg5 : FVec F S4x256 .f32) : IVec S2x16384x512 1 :=
  let main_cst : FVec F S_ .f32 := constant S_ .f32 0x7F800000#32
  let main_v0 : FVec F S2x16384x512 .f32 := broadcastInDim S2x16384x512 ![] bcast_S_S2x16384x512 main_cst
  let main_v1 : IVec S2x16384x512 1 := cmpf .olt main_arg2 main_v0
  main_v1
-- ==== Pre_finite_projection.lean ====
abbrev S32768x1024 : Shape := ⟨2, ![32768, 1024]⟩
abbrev S2x16384 : Shape := ⟨2, ![2, 16384]⟩
abbrev S1024 : Shape := ⟨1, ![1024]⟩
abbrev S1024x1280 : Shape := ⟨2, ![1024, 1280]⟩
abbrev S1280 : Shape := ⟨1, ![1280]⟩
abbrev S64 : Shape := ⟨1, ![64]⟩
abbrev S_ : Shape := ⟨0, ![]⟩
abbrev S1x1024 : Shape := ⟨2, ![1, 1024]⟩
abbrev S1024x1152 : Shape := ⟨2, ![1024, 1152]⟩
abbrev S1152x1024 : Shape := ⟨2, ![1152, 1024]⟩
abbrev S1152 : Shape := ⟨1, ![1152]⟩
abbrev S1152x1 : Shape := ⟨2, ![1152, 1]⟩
abbrev S35073x1024 : Shape := ⟨2, ![35073, 1024]⟩

class Facts : Prop where
  bcast_S_S32768x1024 : S_.BroadcastsInDim S32768x1024 (![] : Fin 0 → Fin S32768x1024.rank)
  bcast_S_S1024 : S_.BroadcastsInDim S1024 (![] : Fin 0 → Fin S1024.rank)
  bcast_S1024_S1x1024_1 : S1024.BroadcastsInDim S1x1024 (![1] : Fin 1 → Fin S1x1024.rank)
  slices_S1024x1280_S1024x1152_0_0 : S1024x1280.Slices ![0, 0] S1024x1152
  transposes_S1024x1152_S1152x1024_1_0 : S1024x1152.Transposes [1, 0] S1152x1024
  bcast_S_S1152x1024 : S_.BroadcastsInDim S1152x1024 (![] : Fin 0 → Fin S1152x1024.rank)
  slices_S1280_S1152_0 : S1280.Slices ![0] S1152
  bcast_S_S1152 : S_.BroadcastsInDim S1152 (![] : Fin 0 → Fin S1152.rank)
  bcast_S1152_S1152x1_0 : S1152.BroadcastsInDim S1152x1 (![0] : Fin 1 → Fin S1152x1.rank)
  bcast_S1152x1_S1152x1024_0_1 : S1152x1.BroadcastsInDim S1152x1024 (![0, 1] : Fin 2 → Fin S1152x1024.rank)
  concatenates_S32768x1024_S1x1024_S1152x1024_S1152x1024_S35073x1024_d0 : Shape.Concatenates [S32768x1024, S1x1024, S1152x1024, S1152x1024] S35073x1024 0

variable [Facts]

def fn {F : FTy → Type} [FloatOps F] (main_arg0 : FVec F S32768x1024 .f32) (main_arg1 : IVec S2x16384 32) (main_arg2 : FVec F S1024 .f32) (main_arg3 : FVec F S1024x1280 .f32) (main_arg4 : FVec F S1280 .f32) (main_arg5 : FVec F S64 .f32) (main_arg6 : FVec F S64 .f32) : IVec S35073x1024 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_v3 : FVec F S1024 .f32 := Host.absf main_arg2
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : IVec S1x1024 1 := broadcastInDim S1x1024 ![1] bcast_S1024_S1x1024_1 main_v5
  let main_v7 : FVec F S1024x1152 .f32 := (extractStridedSlice S1024x1152 ![0, 0] · slices_S1024x1280_S1024x1152_0_0) main_arg3
  let main_v8 : FVec F S1152x1024 .f32 := (transpose S1152x1024 [1, 0] · transposes_S1024x1152_S1152x1024_1_0) main_v7
  let main_v9 : FVec F S1152x1024 .f32 := Host.absf main_v8
  let main_cst_1 : FVec F S_ .f32 := constant S_ .f32 0x7F800000#32
  let main_v10 : FVec F S1152x1024 .f32 := broadcastInDim S1152x1024 ![] bcast_S_S1152x1024 main_cst_1
  let main_v11 : IVec S1152x1024 1 := cmpf .olt main_v9 main_v10
  let main_v12 : FVec F S1152 .f32 := (extractStridedSlice S1152 ![0] · slices_S1280_S1152_0) main_arg4
  let main_v13 : FVec F S1152 .f32 := Host.absf main_v12
  let main_cst_2 : FVec F S_ .f32 := constant S_ .f32 0x7F800000#32
  let main_v14 : FVec F S1152 .f32 := broadcastInDim S1152 ![] bcast_S_S1152 main_cst_2
  let main_v15 : IVec S1152 1 := cmpf .olt main_v13 main_v14
  let main_v16 : IVec S1152x1 1 := broadcastInDim S1152x1 ![0] bcast_S1152_S1152x1_0 main_v15
  let main_v17 : IVec S1152x1024 1 := broadcastInDim S1152x1024 ![0, 1] bcast_S1152x1_S1152x1024_0_1 main_v16
  let main_v18 : IVec S35073x1024 1 := concatenate S35073x1024 0 [⟨S32768x1024, main_v2⟩, ⟨S1x1024, main_v6⟩, ⟨S1152x1024, main_v11⟩, ⟨S1152x1024, main_v17⟩] concatenates_S32768x1024_S1x1024_S1152x1024_S1152x1024_S35073x1024_d0
  main_v18
-- ==== Kernel.lean ====
abbrev S2x16384x512 : Shape := ⟨3, ![2, 16384, 512]⟩
abbrev S2x16384x1024 : Shape := ⟨3, ![2, 16384, 1024]⟩
abbrev S4x256 : Shape := ⟨2, ![4, 256]⟩
abbrev S1x1024 : Shape := ⟨2, ![1, 1024]⟩
abbrev S2x64x512 : Shape := ⟨3, ![2, 64, 512]⟩
abbrev S2x64x1024 : Shape := ⟨3, ![2, 64, 1024]⟩
abbrev S8x256x128 : Shape := ⟨3, ![8, 256, 128]⟩
abbrev S64x64 : Shape := ⟨2, ![64, 64]⟩
abbrev S1x64x512 : Shape := ⟨3, ![1, 64, 512]⟩
abbrev S64x512 : Shape := ⟨2, ![64, 512]⟩
abbrev S1x512 : Shape := ⟨2, ![1, 512]⟩
abbrev S64x128 : Shape := ⟨2, ![64, 128]⟩
abbrev S1x64x256 : Shape := ⟨3, ![1, 64, 256]⟩
abbrev S64x256 : Shape := ⟨2, ![64, 256]⟩
abbrev S1x256x128 : Shape := ⟨3, ![1, 256, 128]⟩
abbrev S256x128 : Shape := ⟨2, ![256, 128]⟩
abbrev S1x128 : Shape := ⟨2, ![1, 128]⟩
abbrev S64 : Shape := ⟨1, ![64]⟩
abbrev S64x1 : Shape := ⟨2, ![64, 1]⟩
abbrev S1x256 : Shape := ⟨2, ![1, 256]⟩

abbrev nBuf : Space → Nat
  | .hbm => 8
  | .vmem => 14
  | .smem => 0
  | _ => 0

abbrev bufTy : (tb : Table) → Fin (tcTables nBuf tb) → BufTy
  | .hbm, ⟨0, _⟩ => ⟨S2x16384x512, .f32⟩
  | .hbm, ⟨1, _⟩ => ⟨S2x16384x512, .f32⟩
  | .hbm, ⟨2, _⟩ => ⟨S2x16384x512, .f32⟩
  | .hbm, ⟨3, _⟩ => ⟨S2x16384x1024, .bf16⟩
  | .hbm, ⟨4, _⟩ => ⟨S2x16384x1024, .f32⟩
  | .hbm, ⟨5, _⟩ => ⟨S4x256, .f32⟩
  | .hbm, ⟨6, _⟩ => ⟨S1x1024, .f32⟩
  | .hbm, ⟨7, _⟩ => ⟨S2x16384x1024, .bf16⟩
  | .local _ .vmem, ⟨0, _⟩ => ⟨S2x64x512, .f32⟩
  | .local _ .vmem, ⟨1, _⟩ => ⟨S2x64x512, .f32⟩
  | .local _ .vmem, ⟨2, _⟩ => ⟨S2x64x512, .f32⟩
  | .local _ .vmem, ⟨3, _⟩ => ⟨S2x64x512, .f32⟩
  | .local _ .vmem, ⟨4, _⟩ => ⟨S2x64x512, .f32⟩
  | .local _ .vmem, ⟨5, _⟩ => ⟨S2x64x512, .f32⟩
  | .local _ .vmem, ⟨6, _⟩ => ⟨S2x64x1024, .bf16⟩
  | .local _ .vmem, ⟨7, _⟩ => ⟨S2x64x1024, .bf16⟩
  | .local _ .vmem, ⟨8, _⟩ => ⟨S2x64x1024, .f32⟩
  | .local _ .vmem, ⟨9, _⟩ => ⟨S2x64x1024, .f32⟩
  | .local _ .vmem, ⟨10, _⟩ => ⟨S1x1024, .f32⟩
  | .local _ .vmem, ⟨11, _⟩ => ⟨S2x64x1024, .bf16⟩
  | .local _ .vmem, ⟨12, _⟩ => ⟨S2x64x1024, .bf16⟩
  | .local _ .vmem, ⟨13, _⟩ => ⟨S8x256x128, .f32⟩
  | _, _ => ⟨S2x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S2x16384x512 : Shape := ⟨3, ![2, 16384, 512]⟩
abbrev S2x16384x1024 : Shape := ⟨3, ![2, 16384, 1024]⟩
abbrev S4x256 : Shape := ⟨2, ![4, 256]⟩
abbrev S2x256x64x4x128 : Shape := ⟨5, ![2, 256, 64, 4, 128]⟩
abbrev S256x2x4x64x128 : Shape := ⟨5, ![256, 2, 4, 64, 128]⟩
abbrev S_ : Shape := ⟨0, ![]⟩
abbrev S2x256x64x4x256 : Shape := ⟨5, ![2, 256, 64, 4, 256]⟩
abbrev S256x2x4x64x256 : Shape := ⟨5, ![256, 2, 4, 64, 256]⟩
abbrev S64x64 : Shape := ⟨2, ![64, 64]⟩
abbrev S2x4x128x256 : Shape := ⟨4, ![2, 4, 128, 256]⟩
abbrev S1x2x4x64x128 : Shape := ⟨5, ![1, 2, 4, 64, 128]⟩
abbrev S2x4x64x128 : Shape := ⟨4, ![2, 4, 64, 128]⟩
abbrev S1x2x4x64x256 : Shape := ⟨5, ![1, 2, 4, 64, 256]⟩
abbrev S2x4x64x256 : Shape := ⟨4, ![2, 4, 64, 256]⟩
abbrev S2x4x1x128 : Shape := ⟨4, ![2, 4, 1, 128]⟩
abbrev S2x4x64x64 : Shape := ⟨4, ![2, 4, 64, 64]⟩
abbrev S2x4x128 : Shape := ⟨3, ![2, 4, 128]⟩
abbrev S2x4x128x1 : Shape := ⟨4, ![2, 4, 128, 1]⟩
abbrev S2x16384x4x256 : Shape := ⟨4, ![2, 16384, 4, 256]⟩
abbrev S2x16384x4 : Shape := ⟨3, ![2, 16384, 4]⟩
abbrev S2x16384x4x1 : Shape := ⟨4, ![2, 16384, 4, 1]⟩
abbrev S1x1x4x256 : Shape := ⟨4, ![1, 1, 4, 256]⟩

abbrev nBuf : Space → Nat
  | .hbm => 135
  | .vmem => 0
  | .smem => 0
  | _ => 0

abbrev hbmTy0_0 (i : Nat) : BufTy := match i % 128 with
  | 0 => ⟨S2x16384x512, .f32⟩
  | 1 => ⟨S2x16384x512, .f32⟩
  | 2 => ⟨S2x16384x512, .f32⟩
  | 3 => ⟨S2x16384x1024, .bf16⟩
  | 4 => ⟨S2x16384x1024, .f32⟩
  | 5 => ⟨S4x256, .f32⟩
  | 6 => ⟨S2x256x64x4x128, .f32⟩
  | 7 => ⟨S256x2x4x64x128, .f32⟩
  | 8 => ⟨S_, .f32⟩
  | 9 => ⟨S256x2x4x64x128, .f32⟩
  | 10 => ⟨S256x2x4x64x128, .f32⟩
  | 11 => ⟨S2x256x64x4x128, .f32⟩
  | 12 => ⟨S256x2x4x64x128, .f32⟩
  | 13 => ⟨S2x16384x1024, .f32⟩
  | 14 => ⟨S2x256x64x4x256, .f32⟩
  | 15 => ⟨S256x2x4x64x256, .f32⟩
  | 16 => ⟨S2x256x64x4x128, .f32⟩
  | 17 => ⟨S256x2x4x64x128, .f32⟩
  | 18 => ⟨S_, .i1⟩
  | 19 => ⟨S64x64, .i1⟩
  | 20 => ⟨S64x64, .i32⟩
  | 21 => ⟨S_, .i32⟩
  | 22 => ⟨S64x64, .i32⟩
  | 23 => ⟨S64x64, .i32⟩
  | 24 => ⟨S64x64, .i32⟩
  | 25 => ⟨S64x64, .i1⟩
  | 26 => ⟨S_, .i1⟩
  | 27 => ⟨S64x64, .i1⟩
  | 28 => ⟨S64x64, .i1⟩
  | 29 => ⟨S_, .f32⟩
  | 30 => ⟨S2x4x128x256, .f32⟩
  | 31 => ⟨S_, .f32⟩
  | 32 => ⟨S256x2x4x64x256, .f32⟩
  | 33 => ⟨S_, .i32⟩
  | 34 => ⟨S256x2x4x64x128, .f32⟩
  | 35 => ⟨S256x2x4x64x128, .f32⟩
  | 36 => ⟨S256x2x4x64x256, .f32⟩
  | 37 => ⟨S256x2x4x64x128, .f32⟩
  | 38 => ⟨S64x64, .i1⟩
  | 39 => ⟨S_, .i32⟩
  | 40 => ⟨S2x4x128x256, .f32⟩
  | 41 => ⟨S256x2x4x64x256, .f32⟩
  | 42 => ⟨S_, .i32⟩
  | 43 => ⟨S_, .i1⟩
  | 44 => ⟨S_, .i32⟩
  | 45 => ⟨S_, .i32⟩
  | 46 => ⟨S_, .i32⟩
  | 47 => ⟨S_, .i32⟩
  | 48 => ⟨S1x2x4x64x128, .f32⟩
  | 49 => ⟨S2x4x64x128, .f32⟩
  | 50 => ⟨S_, .i32⟩
  | 51 => ⟨S_, .i32⟩
  | 52 => ⟨S_, .i32⟩
  | 53 => ⟨S_, .i32⟩
  | 54 => ⟨S1x2x4x64x128, .f32⟩
  | 55 => ⟨S2x4x64x128, .f32⟩
  | 56 => ⟨S_, .i32⟩
  | 57 => ⟨S_, .i32⟩
  | 58 => ⟨S_, .i32⟩
  | 59 => ⟨S_, .i32⟩
  | 60 => ⟨S1x2x4x64x256, .f32⟩
  | 61 => ⟨S2x4x64x256, .f32⟩
  | 62 => ⟨S_, .i32⟩
  | 63 => ⟨S_, .i32⟩
  | 64 => ⟨S_, .i32⟩
  | 65 => ⟨S_, .i32⟩
  | 66 => ⟨S1x2x4x64x128, .f32⟩
  | 67 => ⟨S2x4x64x128, .f32⟩
  | 68 => ⟨S_, .f32⟩
  | 69 => ⟨S_, .f32⟩
  | 70 => ⟨S2x4x64x128, .f32⟩
  | 71 => ⟨S2x4x1x128, .f32⟩
  | 72 => ⟨S2x4x64x128, .f32⟩
  | 73 => ⟨S2x4x64x128, .f32⟩
  | 74 => ⟨S2x4x64x128, .f32⟩
  | 75 => ⟨S2x4x64x128, .f32⟩
  | 76 => ⟨S2x4x64x128, .f32⟩
  | 77 => ⟨S2x4x64x64, .f32⟩
  | 78 => ⟨S_, .f32⟩
  | 79 => ⟨S_, .f32⟩
  | 80 => ⟨S2x4x64x64, .i1⟩
  | 81 => ⟨S2x4x64x64, .f32⟩
  | 82 => ⟨S2x4x64x64, .f32⟩
  | 83 => ⟨S2x4x64x256, .f32⟩
  | 84 => ⟨S2x4x64x256, .f32⟩
  | 85 => ⟨S2x4x64x256, .f32⟩
  | 86 => ⟨S2x4x64x128, .f32⟩
  | 87 => ⟨S2x4x64x128, .f32⟩
  | 88 => ⟨S2x4x64x128, .f32⟩
  | 89 => ⟨S2x4x64x128, .f32⟩
  | 90 => ⟨S2x4x128, .f32⟩
  | 91 => ⟨S2x4x128, .f32⟩
  | 92 => ⟨S2x4x128x1, .f32⟩
  | 93 => ⟨S2x4x128x256, .f32⟩
  | 94 => ⟨S2x4x128x256, .f32⟩
  | 95 => ⟨S2x4x128x256, .f32⟩
  | 96 => ⟨S2x4x128x256, .f32⟩
  | 97 => ⟨S1x2x4x64x256, .f32⟩
  | 98 => ⟨S_, .i32⟩
  | 99 => ⟨S_, .i32⟩
  | 100 => ⟨S_, .i32⟩
  | 101 => ⟨S_, .i32⟩
  | 102 => ⟨S256x2x4x64x256, .f32⟩
  | 103 => ⟨S_, .i32⟩
  | 104 => ⟨S_, .i32⟩
  | 105 => ⟨S2x256x64x4x256, .f32⟩
  | 106 => ⟨S2x16384x4x256, .f32⟩
  | 107 => ⟨S2x16384x4x256, .f32⟩
  | 108 => ⟨S_, .f32⟩
  | 109 => ⟨S2x16384x4, .f32⟩
  | 110 => ⟨S2x16384x4x1, .f32⟩
  | 111 => ⟨S_, .f32⟩
  | 112 => ⟨S2x16384x4x1, .f32⟩
  | 113 => ⟨S2x16384x4x1, .f32⟩
  | 114 => ⟨S_, .f32⟩
  | 115 => ⟨S2x16384x4x1, .f32⟩
  | 116 => ⟨S2x16384x4x1, .f32⟩
  | 117 => ⟨S2x16384x4x1, .f32⟩
  | 118 => ⟨S2x16384x4x256, .f32⟩
  | 119 => ⟨S2x16384x4x256, .f32⟩
  | 120 => ⟨S1x1x4x256, .f32⟩
  | 121 => ⟨S2x16384x4x256, .f32⟩
  | 122 => ⟨S2x16384x4x256, .f32⟩
  | 123 => ⟨S2x16384x1024, .f32⟩
  | 124 => ⟨S2x16384x1024, .f32⟩
  | 125 => ⟨S2x16384x1024, .f32⟩
  | 126 => ⟨S_, .f32⟩
  | 127 => ⟨S2x16384x1024, .f32⟩
  | _ => ⟨S2x16384x512, .f32⟩

abbrev hbmTy0_1 (i : Nat) : BufTy := match i % 128 with
  | 0 => ⟨S2x16384x1024, .f32⟩
  | 1 => ⟨S_, .f32⟩
  | 2 => ⟨S2x16384x1024, .f32⟩
  | 3 => ⟨S2x16384x1024, .f32⟩
  | 4 => ⟨S2x16384x1024, .f32⟩
  | 5 => ⟨S2x16384x1024, .f32⟩
  | 6 => ⟨S2x16384x1024, .bf16⟩
  | _ => ⟨S2x16384x512, .f32⟩

abbrev hbmTy (i : Nat) : BufTy := match i / 128 with
  | 0 => hbmTy0_0 i
  | 1 => hbmTy0_1 i
  | _ => ⟨S2x16384x512, .f32⟩

abbrev bufTy : (tb : Table) → Fin (tcTables nBuf tb) → BufTy
  | .hbm, ⟨i, _⟩ => hbmTy i
  | _, _ => ⟨S2x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_0 : Ref sig .tc := ⟨.hbm, 26, rfl⟩
abbrev main_call0_v5 : Ref sig .tc := ⟨.hbm, 27, rfl⟩
abbrev main_v12 : Ref sig .tc := ⟨.hbm, 28, rfl⟩
abbrev main_cst_0 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_c_2 : Ref sig .tc := ⟨.hbm, 33, rfl⟩
abbrev main_v15_0 : Ref sig .tc := ⟨.hbm, 34, rfl⟩
abbrev main_v15_1 : Ref sig .tc := ⟨.hbm, 35, rfl⟩
abbrev main_v15_2 : Ref sig .tc := ⟨.hbm, 36, rfl⟩
abbrev main_v15_3 : Ref sig .tc := ⟨.hbm, 37, rfl⟩
abbrev main_v15_4 : Ref sig .tc := ⟨.hbm, 38, rfl⟩
abbrev main_v15_5 : Ref sig .tc := ⟨.hbm, 39, rfl⟩
abbrev main_v15_6 : Ref sig .tc := ⟨.hbm, 40, rfl⟩
abbrev main_v15_7 : Ref sig .tc := ⟨.hbm, 41, rfl⟩
abbrev main_while0c_c_13 : Ref sig .tc := ⟨.hbm, 42, rfl⟩
abbrev main_while0c_v35 : Ref sig .tc := ⟨.hbm, 43, rfl⟩
abbrev main_while0b_call1_c : Ref sig .tc := ⟨.hbm, 44, rfl⟩
abbrev main_while0b_call1_c_0 : Ref sig .tc := ⟨.hbm, 45, rfl⟩
abbrev main_while0b_call1_c_1 : Ref sig .tc := ⟨.hbm, 46, rfl⟩
abbrev main_while0b_call1_c_2 : Ref sig .tc := ⟨.hbm, 47, rfl⟩
abbrev main_while0b_call1_v0 : Ref sig .tc := ⟨.hbm, 48, rfl⟩
abbrev main_while0b_v35 : Ref sig .tc := ⟨.hbm, 49, rfl⟩
abbrev main_while0b_call2_c : Ref sig .tc := ⟨.hbm, 50, rfl⟩
abbrev main_while0b_call2_c_0 : Ref sig .tc := ⟨.hbm, 51, rfl⟩
abbrev main_while0b_call2_c_1 : Ref sig .tc := ⟨.hbm, 52, rfl⟩
abbrev main_while0b_call2_c_2 : Ref sig .tc := ⟨.hbm, 53, rfl⟩
abbrev main_while0b_call2_v0 : Ref sig .tc := ⟨.hbm, 54, rfl⟩
abbrev main_while0b_v36 : Ref sig .tc := ⟨.hbm, 55, rfl⟩
abbrev main_while0b_call3_c : Ref sig .tc := ⟨.hbm, 56, rfl⟩
abbrev main_while0b_call3_c_0 : Ref sig .tc := ⟨.hbm, 57, rfl⟩
abbrev main_while0b_call3_c_1 : Ref sig .tc := ⟨.hbm, 58, rfl⟩
abbrev main_while0b_call3_c_2 : Ref sig .tc := ⟨.hbm, 59, rfl⟩
abbrev main_while0b_call3_v0 : Ref sig .tc := ⟨.hbm, 60, rfl⟩
abbrev main_while0b_v37 : Ref sig .tc := ⟨.hbm, 61, rfl⟩
abbrev main_while0b_call4_c : Ref sig .tc := ⟨.hbm, 62, rfl⟩
abbrev main_while0b_call4_c_0 : Ref sig .tc := ⟨.hbm, 63, rfl⟩
abbrev main_while0b_call4_c_1 : Ref sig .tc := ⟨.hbm, 64, rfl⟩
abbrev main_while0b_call4_c_2 : Ref sig .tc := ⟨.hbm, 65, rfl⟩
abbrev main_while0b_call4_v0 : Ref sig .tc := ⟨.hbm, 66, rfl⟩
abbrev main_while0b_v38 : Ref sig .tc := ⟨.hbm, 67, rfl⟩
abbrev main_while0b_call5_call0_cst : Ref sig .tc := ⟨.hbm, 68, rfl⟩
abbrev main_while0b_call5_call0_v0 : Ref sig .tc := ⟨.hbm, 69, rfl⟩
abbrev main_while0b_v39 : Ref sig .tc := ⟨.hbm, 70, rfl⟩
abbrev main_while0b_v40 : Ref sig .tc := ⟨.hbm, 71, rfl⟩
abbrev main_while0b_v41 : Ref sig .tc := ⟨.hbm, 72, rfl⟩
abbrev main_while0b_v42 : Ref sig .tc := ⟨.hbm, 73, rfl⟩
abbrev main_while0b_v43 : Ref sig .tc := ⟨.hbm, 74, rfl⟩
abbrev main_while0b_v44 : Ref sig .tc := ⟨.hbm, 75, rfl⟩
abbrev main_while0b_v45 : Ref sig .tc := ⟨.hbm, 76, rfl⟩
abbrev main_while0b_v46 : Ref sig .tc := ⟨.hbm, 77, rfl⟩
abbrev main_while0b_cst_13 : Ref sig .tc := ⟨.hbm, 78, rfl⟩
abbrev main_while0b_call6_v0 : Ref sig .tc := ⟨.hbm, 79, rfl⟩
abbrev main_while0b_call6_v1 : Ref sig .tc := ⟨.hbm, 80, rfl⟩
abbrev main_while0b_call6_v2 : Ref sig .tc := ⟨.hbm, 81, rfl⟩
abbrev main_while0b_v47 : Ref sig .tc := ⟨.hbm, 82, rfl⟩
abbrev main_while0b_v48 : Ref sig .tc := ⟨.hbm, 83, rfl⟩
abbrev main_while0b_v49 : Ref sig .tc := ⟨.hbm, 84, rfl⟩
abbrev main_while0b_v50 : Ref sig .tc := ⟨.hbm, 85, rfl⟩
abbrev main_while0b_v51 : Ref sig .tc := ⟨.hbm, 86, rfl⟩
abbrev main_while0b_v52 : Ref sig .tc := ⟨.hbm, 87, rfl⟩
abbrev main_while0b_v53 : Ref sig .tc := ⟨.hbm, 88, rfl⟩
abbrev main_while0b_v54 : Ref sig .tc := ⟨.hbm, 89, rfl⟩
abbrev main_while0b_v55 : Ref sig .tc := ⟨.hbm, 90, rfl⟩
abbrev main_while0b_v56 : Ref sig .tc := ⟨.hbm, 91, rfl⟩
abbrev main_while0b_v57 : Ref sig .tc := ⟨.hbm, 92, rfl⟩
abbrev main_while0b_v58 : Ref sig .tc := ⟨.hbm, 93, rfl⟩
abbrev main_while0b_v59 : Ref sig .tc := ⟨.hbm, 94, rfl⟩
abbrev main_while0b_v60 : Ref sig .tc := ⟨.hbm, 95, rfl⟩
abbrev main_while0b_v61 : Ref sig .tc := ⟨.hbm, 96, rfl⟩
abbrev main_while0b_call7_v0 : Ref sig .tc := ⟨.hbm, 97, rfl⟩
abbrev main_while0b_call7_c : Ref sig .tc := ⟨.hbm, 98, rfl⟩
abbrev main_while0b_call7_c_0 : Ref sig .tc := ⟨.hbm, 99, rfl⟩
abbrev main_while0b_call7_c_1 : Ref sig .tc := ⟨.hbm, 100, rfl⟩
abbrev main_while0b_call7_c_2 : Ref sig .tc := ⟨.hbm, 101, rfl⟩
abbrev main_while0b_v62 : Ref sig .tc := ⟨.hbm, 102, rfl⟩
abbrev main_while0b_c_14 : Ref sig .tc := ⟨.hbm, 103, rfl⟩
abbrev main_while0b_v63 : Ref sig .tc := ⟨.hbm, 104, rfl⟩
abbrev main_v16 : Ref sig .tc := ⟨.hbm, 105, rfl⟩
abbrev main_v17 : Ref sig .tc := ⟨.hbm, 106, rfl⟩
abbrev main_v18 : Ref sig .tc := ⟨.hbm, 107, rfl⟩
abbrev main_cst_3 : Ref sig .tc := ⟨.hbm, 108, rfl⟩
abbrev main_v19 : Ref sig .tc := ⟨.hbm, 109, rfl⟩
abbrev main_v20 : Ref sig .tc := ⟨.hbm, 110, rfl⟩
abbrev main_cst_4 : Ref sig .tc := ⟨.hbm, 111, rfl⟩
abbrev main_v21 : Ref sig .tc := ⟨.hbm, 112, rfl⟩
abbrev main_v22 : Ref sig .tc := ⟨.hbm, 113, rfl⟩
abbrev main_cst_5 : Ref sig .tc := ⟨.hbm, 114, rfl⟩
abbrev main_v23 : Ref sig .tc := ⟨.hbm, 115, rfl⟩
abbrev main_v24 : Ref sig .tc := ⟨.hbm, 116, rfl⟩
abbrev main_v25 : Ref sig .tc := ⟨.hbm, 117, rfl⟩
abbrev main_v26 : Ref sig .tc := ⟨.hbm, 118, rfl⟩
abbrev main_v27 : Ref sig .tc := ⟨.hbm, 119, rfl⟩
abbrev main_v28 : Ref sig .tc := ⟨.hbm, 120, rfl⟩
abbrev main_v29 : Ref sig .tc := ⟨.hbm, 121, rfl⟩
abbrev main_v30 : Ref sig .tc := ⟨.hbm, 122, rfl⟩
abbrev main_v31 : Ref sig .tc := ⟨.hbm, 123, rfl⟩
abbrev main_call8_v0 : Ref sig .tc := ⟨.hbm, 124, rfl⟩
abbrev main_call8_v1 : Ref sig .tc := ⟨.hbm, 125, rfl⟩
abbrev main_call8_cst : Ref sig .tc := ⟨.hbm, 126, rfl⟩
abbrev main_call8_v2 : Ref sig .tc := ⟨.hbm, 127, rfl⟩
abbrev main_call8_v3 : Ref sig .tc := ⟨.hbm, 128, rfl⟩
abbrev main_call8_cst_0 : Ref sig .tc := ⟨.hbm, 129, rfl⟩
abbrev main_call8_v4 : Ref sig .tc := ⟨.hbm, 130, rfl⟩
abbrev main_call8_v5 : Ref sig .tc := ⟨.hbm, 131, rfl⟩
abbrev main_v32 : Ref sig .tc := ⟨.hbm, 132, rfl⟩
abbrev main_v33 : Ref sig .tc := ⟨.hbm, 133, rfl⟩
abbrev main_v34 : Ref sig .tc := ⟨.hbm, 134, rfl⟩

abbrev nD : Nat := 1
abbrev τ : Topo := Topo.v7x

variable {F : FTy → Type} [FloatOps F]

abbrev main_while0_count : Scf.Loop 32 := ⟨0#32, 256#32, 1#32⟩
-- ==== Kernel2.lean ====
abbrev S32768x1024 : Shape := ⟨2, ![32768, 1024]⟩
abbrev S1024 : Shape := ⟨1, ![1024]⟩
abbrev S1024x3088 : Shape := ⟨2, ![1024, 3088]⟩
abbrev S16x512 : Shape := ⟨2, ![16, 512]⟩
abbrev S512 : Shape := ⟨1, ![512]⟩
abbrev S1024x3072 : Shape := ⟨2, ![1024, 3072]⟩
abbrev S1024x16 : Shape := ⟨2, ![1024, 16]⟩
abbrev S_ : Shape := ⟨0, ![]⟩
abbrev S1024x128 : Shape := ⟨2, ![1024, 128]⟩
abbrev S128x512 : Shape := ⟨2, ![128, 512]⟩
abbrev S1x1024 : Shape := ⟨2, ![1, 1024]⟩
abbrev S1x512 : Shape := ⟨2, ![1, 512]⟩
abbrev S32768x512 : Shape := ⟨2, ![32768, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S1024x512 : Shape := ⟨2, ![1024, 512]⟩
abbrev S1024x1024 : Shape := ⟨2, ![1024, 1024]⟩
abbrev S256x128 : Shape := ⟨2, ![256, 128]⟩

abbrev nBuf : Space → Nat
  | .hbm => 23
  | .vmem => 17
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3088, .f32⟩
  | .hbm, ⟨3, _⟩ => ⟨S16x512, .f32⟩
  | .hbm, ⟨4, _⟩ => ⟨S512, .f32⟩
  | .hbm, ⟨5, _⟩ => ⟨S1024x3072, .f32⟩
  | .hbm, ⟨6, _⟩ => ⟨S1024x3072, .bf16⟩
  | .hbm, ⟨7, _⟩ => ⟨S1024x16, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x128, .bf16⟩
  | .hbm, ⟨12, _⟩ => ⟨S_, .i32⟩
  | .hbm, ⟨13, _⟩ => ⟨S_, .f32⟩
  | .hbm, ⟨14, _⟩ => ⟨S128x512, .f32⟩
  | .hbm, ⟨15, _⟩ => ⟨S128x512, .bf16⟩
  | .hbm, ⟨16, _⟩ => ⟨S1x1024, .f32⟩
  | .hbm, ⟨17, _⟩ => ⟨S1x512, .f32⟩
  | .hbm, ⟨18, _⟩ => ⟨S32768x512, .f32⟩
  | .hbm, ⟨19, _⟩ => ⟨S32768x512, .f32⟩
  | .hbm, ⟨20, _⟩ => ⟨S32768x1024, .bf16⟩
  | .hbm, ⟨21, _⟩ => ⟨S32768x1024, .f32⟩
  | .hbm, ⟨22, _⟩ => ⟨S32768x512, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3072, .bf16⟩
  | .local _ .vmem, ⟨4, _⟩ => ⟨S1024x128, .bf16⟩
  | .local _ .vmem, ⟨5, _⟩ => ⟨S128x512, .bf16⟩
  | .local _ .vmem, ⟨6, _⟩ => ⟨S1x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x1024, .bf16⟩
  | .local _ .vmem, ⟨12, _⟩ => ⟨S256x1024, .bf16⟩
  | .local _ .vmem, ⟨13, _⟩ => ⟨S256x1024, .f32⟩
  | .local _ .vmem, ⟨14, _⟩ => ⟨S256x1024, .f32⟩
  | .local _ .vmem, ⟨15, _⟩ => ⟨S256x512, .f32⟩
  | .local _ .vmem, ⟨16, _⟩ => ⟨S256x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v9_3 : Ref sig .tc := ⟨.hbm, 21, rfl⟩
abbrev main_v9_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S32768x1024 : Shape := ⟨2, ![32768, 1024]⟩
abbrev S1024 : Shape := ⟨1, ![1024]⟩
abbrev S1024x3088 : Shape := ⟨2, ![1024, 3088]⟩
abbrev S16x512 : Shape := ⟨2, ![16, 512]⟩
abbrev S512 : Shape := ⟨1, ![512]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3088 : Shape := ⟨2, ![32768, 3088]⟩
abbrev S32768x512 : Shape := ⟨2, ![32768, 512]⟩
abbrev S32768x16 : Shape := ⟨2, ![32768, 16]⟩
abbrev S1x512 : Shape := ⟨2, ![1, 512]⟩

abbrev nBuf : Space → Nat
  | .hbm => 51
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3088, .f32⟩
  | .hbm, ⟨3, _⟩ => ⟨S16x512, .f32⟩
  | .hbm, ⟨4, _⟩ => ⟨S512, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x3088, .f32⟩
  | .hbm, ⟨22, _⟩ => ⟨S32768x512, .f32⟩
  | .hbm, ⟨23, _⟩ => ⟨S32768x512, .f32⟩
  | .hbm, ⟨24, _⟩ => ⟨S32768x1024, .f32⟩
  | .hbm, ⟨25, _⟩ => ⟨S32768x1024, .f32⟩
  | .hbm, ⟨26, _⟩ => ⟨S32768x16, .f32⟩
  | .hbm, ⟨27, _⟩ => ⟨S32768x512, .f32⟩
  | .hbm, ⟨28, _⟩ => ⟨S1x512, .f32⟩
  | .hbm, ⟨29, _⟩ => ⟨S32768x512, .f32⟩
  | .hbm, ⟨30, _⟩ => ⟨S32768x512, .f32⟩
  | .hbm, ⟨31, _⟩ => ⟨S32768x512, .f32⟩
  | .hbm, ⟨32, _⟩ => ⟨S_, .f32⟩
  | .hbm, ⟨33, _⟩ => ⟨S32768x512, .f32⟩
  | .hbm, ⟨34, _⟩ => ⟨S32768x512, .f32⟩
  | .hbm, ⟨35, _⟩ => ⟨S32768x512, .f32⟩
  | .hbm, ⟨36, _⟩ => ⟨S32768x512, .f32⟩
  | .hbm, ⟨37, _⟩ => ⟨S32768x512, .i1⟩
  | .hbm, ⟨38, _⟩ => ⟨S32768x512, .f32⟩
  | .hbm, ⟨39, _⟩ => ⟨S32768x512, .f32⟩
  | .hbm, ⟨40, _⟩ => ⟨S32768x512, .f32⟩
  | .hbm, ⟨41, _⟩ => ⟨S32768x512, .f32⟩
  | .hbm, ⟨42, _⟩ => ⟨S32768x512, .f32⟩
  | .hbm, ⟨43, _⟩ => ⟨S32768x512, .f32⟩
  | .hbm, ⟨44, _⟩ => ⟨S32768x512, .f32⟩
  | .hbm, ⟨45, _⟩ => ⟨S32768x512, .f32⟩
  | .hbm, ⟨46, _⟩ => ⟨S32768x512, .f32⟩
  | .hbm, ⟨47, _⟩ => ⟨S_, .f32⟩
  | .hbm, ⟨48, _⟩ => ⟨S32768x512, .f32⟩
  | .hbm, ⟨49, _⟩ => ⟨S32768x512, .f32⟩
  | .hbm, ⟨50, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_v0 : Ref sig .tc := ⟨.hbm, 31, rfl⟩
abbrev main_call0_call0_cst : Ref sig .tc := ⟨.hbm, 32, rfl⟩
abbrev main_call0_call0_v0 : Ref sig .tc := ⟨.hbm, 33, rfl⟩
abbrev main_call0_call0_v1 : Ref sig .tc := ⟨.hbm, 34, rfl⟩
abbrev main_call0_call0_v2 : Ref sig .tc := ⟨.hbm, 35, rfl⟩
abbrev main_call0_call0_v3 : Ref sig .tc := ⟨.hbm, 36, rfl⟩
abbrev main_call0_call0_v4 : Ref sig .tc := ⟨.hbm, 37, rfl⟩
abbrev main_call0_call0_v5 : Ref sig .tc := ⟨.hbm, 38, rfl⟩
abbrev main_call0_call0_v6 : Ref sig .tc := ⟨.hbm, 39, rfl⟩
abbrev main_call0_call0_v7 : Ref sig .tc := ⟨.hbm, 40, rfl⟩
abbrev main_call0_call0_v8 : Ref sig .tc := ⟨.hbm, 41, rfl⟩
abbrev main_call0_call0_v9 : Ref sig .tc := ⟨.hbm, 42, rfl⟩
abbrev main_call0_call0_v10 : Ref sig .tc := ⟨.hbm, 43, rfl⟩
abbrev main_call0_call0_v11 : Ref sig .tc := ⟨.hbm, 44, rfl⟩
abbrev main_call0_v1 : Ref sig .tc := ⟨.hbm, 45, rfl⟩
abbrev main_v23 : Ref sig .tc := ⟨.hbm, 46, rfl⟩
abbrev main_cst_2 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩

abbrev nD : Nat := 1
abbrev τ : Topo := Topo.v7x

variable {F : FTy → Type} [FloatOps F]
-- ==== Kernel3.lean ====
abbrev S32768x1024 : Shape := ⟨2, ![32768, 1024]⟩
abbrev S1024x1024 : Shape := ⟨2, ![1024, 1024]⟩
abbrev S256x1024 : Shape := ⟨2, ![256, 1024]⟩

abbrev nBuf : Space → Nat
  | .hbm => 5
  | .vmem => 7
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .f32⟩
  | .hbm, ⟨2, _⟩ => ⟨S32768x1024, .f32⟩
  | .hbm, ⟨3, _⟩ => ⟨S1024x1024, .bf16⟩
  | .hbm, ⟨4, _⟩ => ⟨S32768x1024, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S32768x1024 : Shape := ⟨2, ![32768, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .f32⟩
  | .hbm, ⟨2, _⟩ => ⟨S32768x1024, .f32⟩
  | .hbm, ⟨3, _⟩ => ⟨S32768x1024, .f32⟩
  | .hbm, ⟨4, _⟩ => ⟨S32768x1024, .f32⟩
  | .hbm, ⟨5, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S32768x1024 : Shape := ⟨2, ![32768, 1024]⟩
abbrev S2x16384 : Shape := ⟨2, ![2, 16384]⟩
abbrev S1024 : Shape := ⟨1, ![1024]⟩
abbrev S1024x1280 : Shape := ⟨2, ![1024, 1280]⟩
abbrev S1280 : Shape := ⟨1, ![1280]⟩
abbrev S64 : Shape := ⟨1, ![64]⟩
abbrev S128 : Shape := ⟨1, ![128]⟩
abbrev S1024x1024 : Shape := ⟨2, ![1024, 1024]⟩
abbrev S1024x128 : Shape := ⟨2, ![1024, 128]⟩
abbrev S1024x64 : Shape := ⟨2, ![1024, 64]⟩
abbrev S1024x256 : Shape := ⟨2, ![1024, 256]⟩
abbrev S1024x1536 : Shape := ⟨2, ![1024, 1536]⟩
abbrev S256 : Shape := ⟨1, ![256]⟩
abbrev S1536 : Shape := ⟨1, ![1536]⟩
abbrev S1x1536 : Shape := ⟨2, ![1, 1536]⟩
abbrev S8 : Shape := ⟨1, ![8]⟩
abbrev S_ : Shape := ⟨0, ![]⟩
abbrev S128x1 : Shape := ⟨2, ![128, 1]⟩
abbrev S1x128 : Shape := ⟨2, ![1, 128]⟩
abbrev S32768x1 : Shape := ⟨2, ![32768, 1]⟩
abbrev S1x1024 : Shape := ⟨2, ![1, 1024]⟩
abbrev S16x16 : Shape := ⟨2, ![16, 16]⟩
abbrev S64x64 : Shape := ⟨2, ![64, 64]⟩
abbrev S16x1x16x1 : Shape := ⟨4, ![16, 1, 16, 1]⟩
abbrev S1x64x1x64 : Shape := ⟨4, ![1, 64, 1, 64]⟩
abbrev S16x64x16x64 : Shape := ⟨4, ![16, 64, 16, 64]⟩
abbrev S4x4 : Shape := ⟨2, ![4, 4]⟩
abbrev S4x1x4x1 : Shape := ⟨4, ![4, 1, 4, 1]⟩
abbrev S4x64x4x64 : Shape := ⟨4, ![4, 64, 4, 64]⟩
abbrev S256x256 : Shape := ⟨2, ![256, 256]⟩
abbrev S1x64 : Shape := ⟨2, ![1, 64]⟩
abbrev S16x64 : Shape := ⟨2, ![16, 64]⟩
abbrev S4x64 : Shape := ⟨2, ![4, 64]⟩
abbrev S1x256 : Shape := ⟨2, ![1, 256]⟩
abbrev S32768x256 : Shape := ⟨2, ![32768, 256]⟩
abbrev S256x1024 : Shape := ⟨2, ![256, 1024]⟩
abbrev S256x1 : Shape := ⟨2, ![256, 1]⟩
abbrev S256x1536 : Shape := ⟨2, ![256, 1536]⟩
abbrev S256x128 : Shape := ⟨2, ![256, 128]⟩

abbrev nBuf : Space → Nat
  | .hbm => 108
  | .vmem => 18
  | .smem => 0
  | _ => 0

abbrev bufTy : (tb : Table) → Fin (tcTables nBuf tb) → BufTy
  | .hbm, ⟨0, _⟩ => ⟨S32768x1024, .f32⟩
  | .hbm, ⟨1, _⟩ => ⟨S2x16384, .i32⟩
  | .hbm, ⟨2, _⟩ => ⟨S1024, .f32⟩
  | .hbm, ⟨3, _⟩ => ⟨S1024x1280, .f32⟩
  | .hbm, ⟨4, _⟩ => ⟨S1280, .f32⟩
  | .hbm, ⟨5, _⟩ => ⟨S64, .f32⟩
  | .hbm, ⟨6, _⟩ => ⟨S64, .f32⟩
  | .hbm, ⟨7, _⟩ => ⟨S128, .i32⟩
  | .hbm, ⟨8, _⟩ => ⟨S128, .i1⟩
  | .hbm, ⟨9, _⟩ => ⟨S128, .i1⟩
  | .hbm, ⟨10, _⟩ => ⟨S1024x1024, .f32⟩
  | .hbm, ⟨11, _⟩ => ⟨S1024x128, .f32⟩
  | .hbm, ⟨12, _⟩ => ⟨S1024x128, .f32⟩
  | .hbm, ⟨13, _⟩ => ⟨S1024, .f32⟩
  | .hbm, ⟨14, _⟩ => ⟨S128, .f32⟩
  | .hbm, ⟨15, _⟩ => ⟨S128, .f32⟩
  | .hbm, ⟨16, _⟩ => ⟨S1024x64, .f32⟩
  | .hbm, ⟨17, _⟩ => ⟨S1024x64, .f32⟩
  | .hbm, ⟨18, _⟩ => ⟨S1024x256, .f32⟩
  | .hbm, ⟨19, _⟩ => ⟨S1024x64, .f32⟩
  | .hbm, ⟨20, _⟩ => ⟨S1024x64, .f32⟩
  | .hbm, ⟨21, _⟩ => ⟨S1024x256, .f32⟩
  | .hbm, ⟨22, _⟩ => ⟨S1024x1536, .f32⟩
  | .hbm, ⟨23, _⟩ => ⟨S1024x1536, .bf16⟩
  | .hbm, ⟨24, _⟩ => ⟨S64, .f32⟩
  | .hbm, ⟨25, _⟩ => ⟨S64, .f32⟩
  | .hbm, ⟨26, _⟩ => ⟨S256, .f32⟩
  | .hbm, ⟨27, _⟩ => ⟨S64, .f32⟩
  | .hbm, ⟨28, _⟩ => ⟨S64, .f32⟩
  | .hbm, ⟨29, _⟩ => ⟨S256, .f32⟩
  | .hbm, ⟨30, _⟩ => ⟨S1536, .f32⟩
  | .hbm, ⟨31, _⟩ => ⟨S1x1536, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S8, .f32⟩
  | .hbm, ⟨40, _⟩ => ⟨S_, .f32⟩
  | .hbm, ⟨41, _⟩ => ⟨S8, .f32⟩
  | .hbm, ⟨42, _⟩ => ⟨S8, .f32⟩
  | .hbm, ⟨43, _⟩ => ⟨S_, .f32⟩
  | .hbm, ⟨44, _⟩ => ⟨S8, .f32⟩
  | .hbm, ⟨45, _⟩ => ⟨S8, .f32⟩
  | .hbm, ⟨46, _⟩ => ⟨S_, .i32⟩
  | .hbm, ⟨47, _⟩ => ⟨S128, .i32⟩
  | .hbm, ⟨48, _⟩ => ⟨S128, .i32⟩
  | .hbm, ⟨49, _⟩ => ⟨S128, .i32⟩
  | .hbm, ⟨50, _⟩ => ⟨S128x1, .i32⟩
  | .hbm, ⟨51, _⟩ => ⟨S128, .f32⟩
  | .hbm, ⟨52, _⟩ => ⟨S_, .f32⟩
  | .hbm, ⟨53, _⟩ => ⟨S_, .f32⟩
  | .hbm, ⟨54, _⟩ => ⟨S128, .f32⟩
  | .hbm, ⟨55, _⟩ => ⟨S128, .f32⟩
  | .hbm, ⟨56, _⟩ => ⟨S1x128, .f32⟩
  | .hbm, ⟨57, _⟩ => ⟨S32768x1, .i32⟩
  | .hbm, ⟨58, _⟩ => ⟨S1x1024, .f32⟩
  | .hbm, ⟨59, _⟩ => ⟨S16x16, .i32⟩
  | .hbm, ⟨60, _⟩ => ⟨S16x16, .i32⟩
  | .hbm, ⟨61, _⟩ => ⟨S_, .i32⟩
  | .hbm, ⟨62, _⟩ => ⟨S16x16, .i32⟩
  | .hbm, ⟨63, _⟩ => ⟨S16x16, .i32⟩
  | .hbm, ⟨64, _⟩ => ⟨S16x16, .i1⟩
  | .hbm, ⟨65, _⟩ => ⟨S16x16, .f32⟩
  | .hbm, ⟨66, _⟩ => ⟨S_, .f32⟩
  | .hbm, ⟨67, _⟩ => ⟨S64x64, .f32⟩
  | .hbm, ⟨68, _⟩ => ⟨S16x1x16x1, .f32⟩
  | .hbm, ⟨69, _⟩ => ⟨S1x64x1x64, .f32⟩
  | .hbm, ⟨70, _⟩ => ⟨S16x64x16x64, .f32⟩
  | .hbm, ⟨71, _⟩ => ⟨S16x64x16x64, .f32⟩
  | .hbm, ⟨72, _⟩ => ⟨S16x64x16x64, .f32⟩
  | .hbm, ⟨73, _⟩ => ⟨S1024x1024, .f32⟩
  | .hbm, ⟨74, _⟩ => ⟨S_, .f32⟩
  | .hbm, ⟨75, _⟩ => ⟨S1024x1024, .f32⟩
  | .hbm, ⟨76, _⟩ => ⟨S1024x1024, .f32⟩
  | .hbm, ⟨77, _⟩ => ⟨S1024x1024, .bf16⟩
  | .hbm, ⟨78, _⟩ => ⟨S4x4, .i32⟩
  | .hbm, ⟨79, _⟩ => ⟨S4x4, .i32⟩
  | .hbm, ⟨80, _⟩ => ⟨S_, .i32⟩
  | .hbm, ⟨81, _⟩ => ⟨S4x4, .i32⟩
  | .hbm, ⟨82, _⟩ => ⟨S4x4, .i32⟩
  | .hbm, ⟨83, _⟩ => ⟨S4x4, .i1⟩
  | .hbm, ⟨84, _⟩ => ⟨S4x4, .f32⟩
  | .hbm, ⟨85, _⟩ => ⟨S_, .f32⟩
  | .hbm, ⟨86, _⟩ => ⟨S64x64, .f32⟩
  | .hbm, ⟨87, _⟩ => ⟨S4x1x4x1, .f32⟩
  | .hbm, ⟨88, _⟩ => ⟨S1x64x1x64, .f32⟩
  | .hbm, ⟨89, _⟩ => ⟨S4x64x4x64, .f32⟩
  | .hbm, ⟨90, _⟩ => ⟨S4x64x4x64, .f32⟩
  | .hbm, ⟨91, _⟩ => ⟨S4x64x4x64, .f32⟩
  | .hbm, ⟨92, _⟩ => ⟨S256x256, .f32⟩
  | .hbm, ⟨93, _⟩ => ⟨S_, .f32⟩
  | .hbm, ⟨94, _⟩ => ⟨S256x256, .f32⟩
  | .hbm, ⟨95, _⟩ => ⟨S256x256, .f32⟩
  | .hbm, ⟨96, _⟩ => ⟨S256x256, .bf16⟩
  | .hbm, ⟨97, _⟩ => ⟨S1x64, .f32⟩
  | .hbm, ⟨98, _⟩ => ⟨S16x64, .f32⟩
  | .hbm, ⟨99, _⟩ => ⟨S1024, .f32⟩
  | .hbm, ⟨100, _⟩ => ⟨S1x1024, .f32⟩
  | .hbm, ⟨101, _⟩ => ⟨S1x64, .f32⟩
  | .hbm, ⟨102, _⟩ => ⟨S4x64, .f32⟩
  | .hbm, ⟨103, _⟩ => ⟨S256, .f32⟩
  | .hbm, ⟨104, _⟩ => ⟨S1x256, .f32⟩
  | .hbm, ⟨105, _⟩ => ⟨S32768x1024, .bf16⟩
  | .hbm, ⟨106, _⟩ => ⟨S32768x256, .bf16⟩
  | .hbm, ⟨107, _⟩ => ⟨S32768x256, .bf16⟩
  | .local _ .vmem, ⟨0, _⟩ => ⟨S256x1024, .f32⟩
  | .local _ .vmem, ⟨1, _⟩ => ⟨S256x1024, .f32⟩
  | .local _ .vmem, ⟨2, _⟩ => ⟨S256x1, .i32⟩
  | .local _ .vmem, ⟨3, _⟩ => ⟨S256x1, .i32⟩
  | .local _ .vmem, ⟨4, _⟩ => ⟨S1x1024, .f32⟩
  | .local _ .vmem, ⟨5, _⟩ => ⟨S1024x1536, .bf16⟩
  | .local _ .vmem, ⟨6, _⟩ => ⟨S1x1536, .f32⟩
  | .local _ .vmem, ⟨7, _⟩ => ⟨S1024x1024, .bf16⟩
  | .local _ .vmem, ⟨8, _⟩ => ⟨S256x256, .bf16⟩
  | .local _ .vmem, ⟨9, _⟩ => ⟨S1x1024, .f32⟩
  | .local _ .vmem, ⟨10, _⟩ => ⟨S1x256, .f32⟩
  | .local _ .vmem, ⟨11, _⟩ => ⟨S1x128, .f32⟩
  | .local _ .vmem, ⟨12, _⟩ => ⟨S256x1024, .bf16⟩
  | .local _ .vmem, ⟨13, _⟩ => ⟨S256x1024, .bf16⟩
  | .local _ .vmem, ⟨14, _⟩ => ⟨S256x256, .bf16⟩
  | .local _ .vmem, ⟨15, _⟩ => ⟨S256x256, .bf16⟩
  | .local _ .vmem, ⟨16, _⟩ => ⟨S256x256, .bf16⟩
  | .local _ .vmem, ⟨17, _⟩ => ⟨S256x256, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_call0_v0 : Ref sig .tc := ⟨.hbm, 53, rfl⟩
abbrev main_call0_v1 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_7 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_8 : Ref sig .tc := ⟨.hbm, 66, rfl⟩
abbrev main_v47 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_v48 : Ref sig .tc := ⟨.hbm, 73, rfl⟩
abbrev main_cst_9 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_10 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_11 : Ref sig .tc := ⟨.hbm, 85, rfl⟩
abbrev main_v58 : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_v59 : Ref sig .tc := ⟨.hbm, 92, rfl⟩
abbrev main_cst_12 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71_0 : Ref sig .tc := ⟨.hbm, 105, rfl⟩
abbrev main_v71_1 : Ref sig .tc := ⟨.hbm, 106, rfl⟩
abbrev main_v71_2 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S32768x1024 : Shape := ⟨2, ![32768, 1024]⟩
abbrev S2x16384 : Shape := ⟨2, ![2, 16384]⟩
abbrev S1024 : Shape := ⟨1, ![1024]⟩
abbrev S1024x1280 : Shape := ⟨2, ![1024, 1280]⟩
abbrev S1280 : Shape := ⟨1, ![1280]⟩
abbrev S64 : Shape := ⟨1, ![64]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S2x16384x1024 : Shape := ⟨3, ![2, 16384, 1024]⟩
abbrev S2x16384x1280 : Shape := ⟨3, ![2, 16384, 1280]⟩
abbrev S1x1x1280 : Shape := ⟨3, ![1, 1, 1280]⟩
abbrev S2x16384x128 : Shape := ⟨3, ![2, 16384, 128]⟩
abbrev S2x16384x16x64 : Shape := ⟨4, ![2, 16384, 16, 64]⟩
abbrev S2x16384x16 : Shape := ⟨3, ![2, 16384, 16]⟩
abbrev S2x16384x16x1 : Shape := ⟨4, ![2, 16384, 16, 1]⟩
abbrev S1x1x1x64 : Shape := ⟨4, ![1, 1, 1, 64]⟩
abbrev S2x16384x2x64 : Shape := ⟨4, ![2, 16384, 2, 64]⟩
abbrev S2x16384x2 : Shape := ⟨3, ![2, 16384, 2]⟩
abbrev S2x16384x2x1 : Shape := ⟨4, ![2, 16384, 2, 1]⟩
abbrev S8 : Shape := ⟨1, ![8]⟩
abbrev S2x16384x1 : Shape := ⟨3, ![2, 16384, 1]⟩
abbrev S1x1x8 : Shape := ⟨3, ![1, 1, 8]⟩
abbrev S2x16384x8 : Shape := ⟨3, ![2, 16384, 8]⟩
abbrev S2x16384x1x8 : Shape := ⟨4, ![2, 16384, 1, 8]⟩
abbrev S2x16384x16x8 : Shape := ⟨4, ![2, 16384, 16, 8]⟩
abbrev S2x16384x16x48 : Shape := ⟨4, ![2, 16384, 16, 48]⟩
abbrev S2x16384x2x8 : Shape := ⟨4, ![2, 16384, 2, 8]⟩
abbrev S2x16384x2x48 : Shape := ⟨4, ![2, 16384, 2, 48]⟩
abbrev S2x16384x2x1x64 : Shape := ⟨5, ![2, 16384, 2, 1, 64]⟩
abbrev S2x16384x2x2x64 : Shape := ⟨5, ![2, 16384, 2, 2, 64]⟩
abbrev S32768x256 : Shape := ⟨2, ![32768, 256]⟩

abbrev nBuf : Space → Nat
  | .hbm => 131
  | .vmem => 0
  | .smem => 0
  | _ => 0

abbrev hbmTy0_0 (i : Nat) : BufTy := match i % 128 with
  | 0 => ⟨S32768x1024, .f32⟩
  | 1 => ⟨S2x16384, .i32⟩
  | 2 => ⟨S1024, .f32⟩
  | 3 => ⟨S1024x1280, .f32⟩
  | 4 => ⟨S1280, .f32⟩
  | 5 => ⟨S64, .f32⟩
  | 6 => ⟨S64, .f32⟩
  | 7 => ⟨S32768x1024, .f32⟩
  | 8 => ⟨S_, .f32⟩
  | 9 => ⟨S32768, .f32⟩
  | 10 => ⟨S32768x1, .f32⟩
  | 11 => ⟨S_, .f32⟩
  | 12 => ⟨S32768x1, .f32⟩
  | 13 => ⟨S32768x1, .f32⟩
  | 14 => ⟨S_, .f32⟩
  | 15 => ⟨S32768x1, .f32⟩
  | 16 => ⟨S32768x1, .f32⟩
  | 17 => ⟨S32768x1, .f32⟩
  | 18 => ⟨S32768x1024, .f32⟩
  | 19 => ⟨S32768x1024, .f32⟩
  | 20 => ⟨S1x1024, .f32⟩
  | 21 => ⟨S32768x1024, .f32⟩
  | 22 => ⟨S32768x1024, .f32⟩
  | 23 => ⟨S2x16384x1024, .f32⟩
  | 24 => ⟨S2x16384x1280, .f32⟩
  | 25 => ⟨S1x1x1280, .f32⟩
  | 26 => ⟨S2x16384x1280, .f32⟩
  | 27 => ⟨S2x16384x1280, .f32⟩
  | 28 => ⟨S2x16384x1024, .f32⟩
  | 29 => ⟨S2x16384x128, .f32⟩
  | 30 => ⟨S2x16384x128, .f32⟩
  | 31 => ⟨S2x16384x16x64, .f32⟩
  | 32 => ⟨S2x16384x16x64, .f32⟩
  | 33 => ⟨S_, .f32⟩
  | 34 => ⟨S2x16384x16, .f32⟩
  | 35 => ⟨S2x16384x16x1, .f32⟩
  | 36 => ⟨S_, .f32⟩
  | 37 => ⟨S2x16384x16x1, .f32⟩
  | 38 => ⟨S2x16384x16x1, .f32⟩
  | 39 => ⟨S_, .f32⟩
  | 40 => ⟨S2x16384x16x1, .f32⟩
  | 41 => ⟨S2x16384x16x1, .f32⟩
  | 42 => ⟨S2x16384x16x1, .f32⟩
  | 43 => ⟨S2x16384x16x64, .f32⟩
  | 44 => ⟨S2x16384x16x64, .f32⟩
  | 45 => ⟨S1x1x1x64, .f32⟩
  | 46 => ⟨S2x16384x16x64, .f32⟩
  | 47 => ⟨S2x16384x16x64, .f32⟩
  | 48 => ⟨S2x16384x2x64, .f32⟩
  | 49 => ⟨S2x16384x2x64, .f32⟩
  | 50 => ⟨S_, .f32⟩
  | 51 => ⟨S2x16384x2, .f32⟩
  | 52 => ⟨S2x16384x2x1, .f32⟩
  | 53 => ⟨S_, .f32⟩
  | 54 => ⟨S2x16384x2x1, .f32⟩
  | 55 => ⟨S2x16384x2x1, .f32⟩
  | 56 => ⟨S_, .f32⟩
  | 57 => ⟨S2x16384x2x1, .f32⟩
  | 58 => ⟨S2x16384x2x1, .f32⟩
  | 59 => ⟨S2x16384x2x1, .f32⟩
  | 60 => ⟨S2x16384x2x64, .f32⟩
  | 61 => ⟨S2x16384x2x64, .f32⟩
  | 62 => ⟨S1x1x1x64, .f32⟩
  | 63 => ⟨S2x16384x2x64, .f32⟩
  | 64 => ⟨S2x16384x2x64, .f32⟩
  | 65 => ⟨S2x16384x2x64, .f32⟩
  | 66 => ⟨S8, .f32⟩
  | 67 => ⟨S_, .f32⟩
  | 68 => ⟨S8, .f32⟩
  | 69 => ⟨S8, .f32⟩
  | 70 => ⟨S_, .f32⟩
  | 71 => ⟨S8, .f32⟩
  | 72 => ⟨S8, .f32⟩
  | 73 => ⟨S8, .f32⟩
  | 74 => ⟨S_, .f32⟩
  | 75 => ⟨S8, .f32⟩
  | 76 => ⟨S8, .f32⟩
  | 77 => ⟨S_, .f32⟩
  | 78 => ⟨S8, .f32⟩
  | 79 => ⟨S8, .f32⟩
  | 80 => ⟨S2x16384, .f32⟩
  | 81 => ⟨S2x16384x1, .f32⟩
  | 82 => ⟨S1x1x8, .f32⟩
  | 83 => ⟨S2x16384x8, .f32⟩
  | 84 => ⟨S2x16384x8, .f32⟩
  | 85 => ⟨S2x16384x8, .f32⟩
  | 86 => ⟨S2x16384x8, .f32⟩
  | 87 => ⟨S2x16384x1x8, .f32⟩
  | 88 => ⟨S2x16384x8, .f32⟩
  | 89 => ⟨S2x16384x1x8, .f32⟩
  | 90 => ⟨S2x16384x16x8, .f32⟩
  | 91 => ⟨S2x16384x16x8, .f32⟩
  | 92 => ⟨S2x16384x16x48, .f32⟩
  | 93 => ⟨S2x16384x16x8, .f32⟩
  | 94 => ⟨S2x16384x16x8, .f32⟩
  | 95 => ⟨S2x16384x16x8, .f32⟩
  | 96 => ⟨S2x16384x16x8, .f32⟩
  | 97 => ⟨S2x16384x16x8, .f32⟩
  | 98 => ⟨S2x16384x16x8, .f32⟩
  | 99 => ⟨S2x16384x16x8, .f32⟩
  | 100 => ⟨S2x16384x16x8, .f32⟩
  | 101 => ⟨S2x16384x16x8, .f32⟩
  | 102 => ⟨S2x16384x16x8, .f32⟩
  | 103 => ⟨S2x16384x16x64, .f32⟩
  | 104 => ⟨S2x16384x2x8, .f32⟩
  | 105 => ⟨S2x16384x2x8, .f32⟩
  | 106 => ⟨S2x16384x2x48, .f32⟩
  | 107 => ⟨S2x16384x2x8, .f32⟩
  | 108 => ⟨S2x16384x2x8, .f32⟩
  | 109 => ⟨S2x16384x2x8, .f32⟩
  | 110 => ⟨S2x16384x2x8, .f32⟩
  | 111 => ⟨S2x16384x2x8, .f32⟩
  | 112 => ⟨S2x16384x2x8, .f32⟩
  | 113 => ⟨S2x16384x2x8, .f32⟩
  | 114 => ⟨S2x16384x2x8, .f32⟩
  | 115 => ⟨S2x16384x2x8, .f32⟩
  | 116 => ⟨S2x16384x2x8, .f32⟩
  | 117 => ⟨S2x16384x2x64, .f32⟩
  | 118 => ⟨S_, .f32⟩
  | 119 => ⟨S2x16384x16x64, .f32⟩
  | 120 => ⟨S2x16384x16x64, .f32⟩
  | 121 => ⟨S32768x1024, .f32⟩
  | 122 => ⟨S32768x1024, .bf16⟩
  | 123 => ⟨S2x16384x2x1x64, .f32⟩
  | 124 => ⟨S2x16384x2x2x64, .f32⟩
  | 125 => ⟨S32768x256, .f32⟩
  | 126 => ⟨S32768x256, .bf16⟩
  | 127 => ⟨S2x16384x2x1x64, .f32⟩
  | _ => ⟨S32768x1024, .f32⟩

abbrev hbmTy0_1 (i : Nat) : BufTy := match i % 128 with
  | 0 => ⟨S2x16384x2x2x64, .f32⟩
  | 1 => ⟨S32768x256, .f32⟩
  | 2 => ⟨S32768x256, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_8 : Ref sig .tc := ⟨.hbm, 67, rfl⟩
abbrev main_v51 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_10 : Ref sig .tc := ⟨.hbm, 74, rfl⟩
abbrev main_v56 : Ref sig .tc := ⟨.hbm, 75, rfl⟩
abbrev main_v57 : Ref sig .tc := ⟨.hbm, 76, rfl⟩
abbrev main_cst_11 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_cst_12 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩

abbrev nD : Nat := 1
abbrev τ : Topo := Topo.v7x

variable {F : FTy → Type} [FloatOps F]
-- ==== Kernel5.lean ====
abbrev S16 : Shape := ⟨1, ![16]⟩
abbrev S2x16384x1024 : Shape := ⟨3, ![2, 16384, 1024]⟩
abbrev S2x16384x256 : Shape := ⟨3, ![2, 16384, 256]⟩
abbrev S1x128x1024 : Shape := ⟨3, ![1, 128, 1024]⟩
abbrev S1x128x256 : Shape := ⟨3, ![1, 128, 256]⟩
abbrev S128x256 : Shape := ⟨2, ![128, 256]⟩
abbrev S256x256 : Shape := ⟨2, ![256, 256]⟩
abbrev S128x128 : Shape := ⟨2, ![128, 128]⟩
abbrev S256x128 : Shape := ⟨2, ![256, 128]⟩
abbrev S1x128x128 : Shape := ⟨3, ![1, 128, 128]⟩
abbrev S1 : Shape := ⟨1, ![1]⟩
abbrev S128 : Shape := ⟨1, ![128]⟩
abbrev S128x1 : Shape := ⟨2, ![128, 1]⟩

abbrev nBuf : Space → Nat
  | .hbm => 5
  | .vmem => 12
  | .smem => 1
  | _ => 0

abbrev bufTy : (tb : Table) → Fin (tcTables nBuf tb) → BufTy
  | .hbm, ⟨0, _⟩ => ⟨S16, .f32⟩
  | .hbm, ⟨1, _⟩ => ⟨S2x16384x1024, .bf16⟩
  | .hbm, ⟨2, _⟩ => ⟨S2x16384x256, .bf16⟩
  | .hbm, ⟨3, _⟩ => ⟨S2x16384x256, .bf16⟩
  | .hbm, ⟨4, _⟩ => ⟨S2x16384x1024, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x128x256, .bf16⟩
  | .local _ .vmem, ⟨3, _⟩ => ⟨S1x128x256, .bf16⟩
  | .local _ .vmem, ⟨4, _⟩ => ⟨S1x128x256, .bf16⟩
  | .local _ .vmem, ⟨5, _⟩ => ⟨S1x128x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x128x256, .bf16⟩
  | .local _ .vmem, ⟨9, _⟩ => ⟨S1x128x256, .bf16⟩
  | .local _ .vmem, ⟨10, _⟩ => ⟨S1x128x1024, .bf16⟩
  | .local _ .vmem, ⟨11, _⟩ => ⟨S1x128x1024, .bf16⟩
  | .local _ .smem, ⟨0, _⟩ => ⟨S16, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 128], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S16 : Shape := ⟨1, ![16]⟩
abbrev S2x16384x1024 : Shape := ⟨3, ![2, 16384, 1024]⟩
abbrev S2x16384x256 : Shape := ⟨3, ![2, 16384, 256]⟩
abbrev S2x128x128x2x8x64 : Shape := ⟨6, ![2, 128, 128, 2, 8, 64]⟩
abbrev S2x16384x2x2x64 : Shape := ⟨5, ![2, 16384, 2, 2, 64]⟩
abbrev S2x16384x2x1x64 : Shape := ⟨5, ![2, 16384, 2, 1, 64]⟩
abbrev S2x16384x2x64 : Shape := ⟨4, ![2, 16384, 2, 64]⟩
abbrev S2x128x128x2x64 : Shape := ⟨5, ![2, 128, 128, 2, 64]⟩
abbrev S2x127x128x2x64 : Shape := ⟨5, ![2, 127, 128, 2, 64]⟩
abbrev S_ : Shape := ⟨0, ![]⟩
abbrev S2x128x256x2x64 : Shape := ⟨5, ![2, 128, 256, 2, 64]⟩
abbrev S2x2x128x256x128x8 : Shape := ⟨6, ![2, 2, 128, 256, 128, 8]⟩
abbrev S2x2x8x128x128x256 : Shape := ⟨6, ![2, 2, 8, 128, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1x128x256 : Shape := ⟨3, ![1, 128, 256]⟩
abbrev S128x1x256 : Shape := ⟨3, ![128, 1, 256]⟩
abbrev S128x128x256 : Shape := ⟨3, ![128, 128, 256]⟩
abbrev S2x8 : Shape := ⟨2, ![2, 8]⟩
abbrev S1x2x8x1x1 : Shape := ⟨5, ![1, 2, 8, 1, 1]⟩
abbrev S2x2x8x128x128 : Shape := ⟨5, ![2, 2, 8, 128, 128]⟩
abbrev S2x2x8x128x128x1 : Shape := ⟨6, ![2, 2, 8, 128, 128, 1]⟩
abbrev S2x128x2x64x8x128 : Shape := ⟨6, ![2, 128, 2, 64, 8, 128]⟩

abbrev nBuf : Space → Nat
  | .hbm => 94
  | .vmem => 0
  | .smem => 0
  | _ => 0

abbrev bufTy : (tb : Table) → Fin (tcTables nBuf tb) → BufTy
  | .hbm, ⟨0, _⟩ => ⟨S16, .f32⟩
  | .hbm, ⟨1, _⟩ => ⟨S2x16384x1024, .bf16⟩
  | .hbm, ⟨2, _⟩ => ⟨S2x16384x256, .bf16⟩
  | .hbm, ⟨3, _⟩ => ⟨S2x16384x256, .bf16⟩
  | .hbm, ⟨4, _⟩ => ⟨S2x16384x1024, .f32⟩
  | .hbm, ⟨5, _⟩ => ⟨S2x128x128x2x8x64, .f32⟩
  | .hbm, ⟨6, _⟩ => ⟨S2x16384x256, .f32⟩
  | .hbm, ⟨7, _⟩ => ⟨S2x16384x2x2x64, .f32⟩
  | .hbm, ⟨8, _⟩ => ⟨S2x16384x2x1x64, .f32⟩
  | .hbm, ⟨9, _⟩ => ⟨S2x16384x2x64, .f32⟩
  | .hbm, ⟨10, _⟩ => ⟨S2x128x128x2x64, .f32⟩
  | .hbm, ⟨11, _⟩ => ⟨S2x127x128x2x64, .f32⟩
  | .hbm, ⟨12, _⟩ => ⟨S_, .i32⟩
  | .hbm, ⟨13, _⟩ => ⟨S_, .f32⟩
  | .hbm, ⟨14, _⟩ => ⟨S2x128x128x2x64, .f32⟩
  | .hbm, ⟨15, _⟩ => ⟨S2x128x256x2x64, .f32⟩
  | .hbm, ⟨16, _⟩ => ⟨S2x16384x256, .f32⟩
  | .hbm, ⟨17, _⟩ => ⟨S2x16384x2x2x64, .f32⟩
  | .hbm, ⟨18, _⟩ => ⟨S2x16384x2x1x64, .f32⟩
  | .hbm, ⟨19, _⟩ => ⟨S2x16384x2x64, .f32⟩
  | .hbm, ⟨20, _⟩ => ⟨S2x128x128x2x64, .f32⟩
  | .hbm, ⟨21, _⟩ => ⟨S2x127x128x2x64, .f32⟩
  | .hbm, ⟨22, _⟩ => ⟨S_, .i32⟩
  | .hbm, ⟨23, _⟩ => ⟨S_, .f32⟩
  | .hbm, ⟨24, _⟩ => ⟨S2x128x128x2x64, .f32⟩
  | .hbm, ⟨25, _⟩ => ⟨S2x128x256x2x64, .f32⟩
  | .hbm, ⟨26, _⟩ => ⟨S2x2x128x256x128x8, .f32⟩
  | .hbm, ⟨27, _⟩ => ⟨S2x2x8x128x128x256, .f32⟩
  | .hbm, ⟨28, _⟩ => ⟨S128, .i32⟩
  | .hbm, ⟨29, _⟩ => ⟨S128x1, .i32⟩
  | .hbm, ⟨30, _⟩ => ⟨S_, .i32⟩
  | .hbm, ⟨31, _⟩ => ⟨S128x1, .i32⟩
  | .hbm, ⟨32, _⟩ => ⟨S128x1, .i32⟩
  | .hbm, ⟨33, _⟩ => ⟨S256, .i32⟩
  | .hbm, ⟨34, _⟩ => ⟨S1x256, .i32⟩
  | .hbm, ⟨35, _⟩ => ⟨S128x256, .i32⟩
  | .hbm, ⟨36, _⟩ => ⟨S128x256, .i32⟩
  | .hbm, ⟨37, _⟩ => ⟨S128x256, .i32⟩
  | .hbm, ⟨38, _⟩ => ⟨S_, .i32⟩
  | .hbm, ⟨39, _⟩ => ⟨S128x256, .i32⟩
  | .hbm, ⟨40, _⟩ => ⟨S128x256, .i1⟩
  | .hbm, ⟨41, _⟩ => ⟨S_, .i32⟩
  | .hbm, ⟨42, _⟩ => ⟨S128x256, .i32⟩
  | .hbm, ⟨43, _⟩ => ⟨S128x256, .i1⟩
  | .hbm, ⟨44, _⟩ => ⟨S128x256, .i1⟩
  | .hbm, ⟨45, _⟩ => ⟨S128, .i32⟩
  | .hbm, ⟨46, _⟩ => ⟨S128x1, .i32⟩
  | .hbm, ⟨47, _⟩ => ⟨S_, .i32⟩
  | .hbm, ⟨48, _⟩ => ⟨S128x1, .i32⟩
  | .hbm, ⟨49, _⟩ => ⟨S128x1, .i32⟩
  | .hbm, ⟨50, _⟩ => ⟨S256, .i32⟩
  | .hbm, ⟨51, _⟩ => ⟨S1x256, .i32⟩
  | .hbm, ⟨52, _⟩ => ⟨S128x256, .i32⟩
  | .hbm, ⟨53, _⟩ => ⟨S128x256, .i32⟩
  | .hbm, ⟨54, _⟩ => ⟨S128x256, .i32⟩
  | .hbm, ⟨55, _⟩ => ⟨S_, .i32⟩
  | .hbm, ⟨56, _⟩ => ⟨S128x256, .i32⟩
  | .hbm, ⟨57, _⟩ => ⟨S128x256, .i32⟩
  | .hbm, ⟨58, _⟩ => ⟨S1x128x256, .i1⟩
  | .hbm, ⟨59, _⟩ => ⟨S_, .i32⟩
  | .hbm, ⟨60, _⟩ => ⟨S128x256, .i32⟩
  | .hbm, ⟨61, _⟩ => ⟨S128x256, .i1⟩
  | .hbm, ⟨62, _⟩ => ⟨S128x1x256, .i1⟩
  | .hbm, ⟨63, _⟩ => ⟨S128x128x256, .i1⟩
  | .hbm, ⟨64, _⟩ => ⟨S128x128x256, .i1⟩
  | .hbm, ⟨65, _⟩ => ⟨S128x128x256, .i1⟩
  | .hbm, ⟨66, _⟩ => ⟨S_, .f32⟩
  | .hbm, ⟨67, _⟩ => ⟨S_, .f32⟩
  | .hbm, ⟨68, _⟩ => ⟨S2x2x8x128x128x256, .i1⟩
  | .hbm, ⟨69, _⟩ => ⟨S2x2x8x128x128x256, .f32⟩
  | .hbm, ⟨70, _⟩ => ⟨S2x2x8x128x128x256, .f32⟩
  | .hbm, ⟨71, _⟩ => ⟨S2x8, .f32⟩
  | .hbm, ⟨72, _⟩ => ⟨S1x2x8x1x1, .f32⟩
  | .hbm, ⟨73, _⟩ => ⟨S_, .f32⟩
  | .hbm, ⟨74, _⟩ => ⟨S2x2x8x128x128, .f32⟩
  | .hbm, ⟨75, _⟩ => ⟨S2x2x8x128x128, .f32⟩
  | .hbm, ⟨76, _⟩ => ⟨S2x2x8x128x128, .f32⟩
  | .hbm, ⟨77, _⟩ => ⟨S2x2x8x128x128x1, .f32⟩
  | .hbm, ⟨78, _⟩ => ⟨S2x2x8x128x128x256, .f32⟩
  | .hbm, ⟨79, _⟩ => ⟨S2x2x8x128x128x256, .f32⟩
  | .hbm, ⟨80, _⟩ => ⟨S2x2x8x128x128x256, .f32⟩
  | .hbm, ⟨81, _⟩ => ⟨S_, .f32⟩
  | .hbm, ⟨82, _⟩ => ⟨S2x2x8x128x128, .f32⟩
  | .hbm, ⟨83, _⟩ => ⟨S2x2x8x128x128, .f32⟩
  | .hbm, ⟨84, _⟩ => ⟨S2x2x8x128x128, .f32⟩
  | .hbm, ⟨85, _⟩ => ⟨S2x2x8x128x128, .f32⟩
  | .hbm, ⟨86, _⟩ => ⟨S2x2x8x128x128, .f32⟩
  | .hbm, ⟨87, _⟩ => ⟨S2x2x8x128x128x1, .f32⟩
  | .hbm, ⟨88, _⟩ => ⟨S2x2x8x128x128x256, .f32⟩
  | .hbm, ⟨89, _⟩ => ⟨S2x2x8x128x128x256, .f32⟩
  | .hbm, ⟨90, _⟩ => ⟨S2x128x2x64x8x128, .f32⟩
  | .hbm, ⟨91, _⟩ => ⟨S2x128x128x2x8x64, .f32⟩
  | .hbm, ⟨92, _⟩ => ⟨S2x16384x1024, .f32⟩
  | .hbm, ⟨93, _⟩ => ⟨S2x16384x1024, .bf16⟩
  | _, _ => ⟨S16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_0 : Ref sig .tc := ⟨.hbm, 22, rfl⟩
abbrev main_call1_v0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_2 : Ref sig .tc := ⟨.hbm, 38, rfl⟩
abbrev main_v29 : Ref sig .tc := ⟨.hbm, 39, rfl⟩
abbrev main_v30 : Ref sig .tc := ⟨.hbm, 40, rfl⟩
abbrev main_c_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c_4 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_5 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_6 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_7 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_8 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩

abbrev nD : Nat := 1
abbrev τ : Topo := Topo.v7x

variable {F : FTy → Type} [FloatOps F]
-- ==== Kernel6.lean ====
abbrev S32768x1024 : Shape := ⟨2, ![32768, 1024]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩

abbrev nBuf : Space → Nat
  | .hbm => 7
  | .vmem => 8
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .f32⟩
  | .hbm, ⟨2, _⟩ => ⟨S1024, .f32⟩
  | .hbm, ⟨3, _⟩ => ⟨S32768x1024, .f32⟩
  | .hbm, ⟨4, _⟩ => ⟨S1024x1024, .bf16⟩
  | .hbm, ⟨5, _⟩ => ⟨S1x1024, .f32⟩
  | .hbm, ⟨6, _⟩ => ⟨S32768x1024, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S1x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S32768x1024 : Shape := ⟨2, ![32768, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 10
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .f32⟩
  | .hbm, ⟨2, _⟩ => ⟨S1024, .f32⟩
  | .hbm, ⟨3, _⟩ => ⟨S32768x1024, .f32⟩
  | .hbm, ⟨4, _⟩ => ⟨S32768x1024, .f32⟩
  | .hbm, ⟨5, _⟩ => ⟨S32768x1024, .f32⟩
  | .hbm, ⟨6, _⟩ => ⟨S1x1024, .f32⟩
  | .hbm, ⟨7, _⟩ => ⟨S32768x1024, .f32⟩
  | .hbm, ⟨8, _⟩ => ⟨S32768x1024, .f32⟩
  | .hbm, ⟨9, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Proof.Scan.Heads.lean ====
/-
  The body of the scan kernel, head by head. The printed body writes out its eight (sequence, head) pairs one after
  another, cut into payloads at different places; here each pair's output block and next state block is one function
  of the head number, and each printed payload is shown to be that function at its own head.
-/
module

public import proofs.«01_k».proof.Proof.Gen.KernelIdeal.Skeleton

@[expose] public section

noncomputable section

namespace Cert.KernelIdeal.Scan

open Idealize.ShloMosaic Idealize.ShloMosaic.TcCoe Idealize.SL.Sem Cert.KernelIdeal Cert.KernelIdeal.Gen

variable {F : FTy → Type} [FloatOps F]

theorem lanes (h : Fin 4) : S64x512.Slices ![0, 128 * h.val] S64x128 := by
  fin_cases h <;> decide

theorem lanesRow (h : Fin 4) : S1x512.Slices ![0, 128 * h.val] S1x128 := by
  fin_cases h <;> decide

/-- One head's chunk output before the norm: the masked scores on the values, plus the queries on the carried state. -/
def headO (h : Fin 4) (qd ki : FVec F S64x512 .f32) (v : Vec F S1x64x256 .bf16) (st : Vec F S1x256x128 .f32) : FVec F S64x256 .f32 :=
  let qh : FVec F S64x128 .bf16 := truncf .bf16 (extractStridedSlice S64x128 ![0, 128 * h.val] qd (lanes h)) bitsLt_bf16_f32
  let kh : FVec F S64x128 .bf16 := truncf .bf16 (extractStridedSlice S64x128 ![0, 128 * h.val] ki (lanes h)) bitsLt_bf16_f32
  let s : FVec F S64x64 .f32 := matmul dot_S64x128_S64x128_S64x64_1_1_0_0_n_n none qh kh (constant S64x64 .f32 0x00000000#32)
  let a : FVec F S64x64 .f32 := select k0_pay3 s (broadcast S64x64 (Scalar.ofBits .f32 0x00000000#32 : F .f32))
  let ab : FVec F S64x64 .bf16 := truncf .bf16 a bitsLt_bf16_f32
  let sb : FVec F S256x128 .bf16 := truncf .bf16 (shapeCast S256x128 st shapeCasts_S1x256x128_S256x128) bitsLt_bf16_f32
  addf (matmul dot_S64x64_S64x256_S64x256_1_0_0_1_n_n none ab (shapeCast S64x256 v shapeCasts_S1x64x256_S64x256) (constant S64x256 .f32 0x00000000#32))
    (matmul dot_S64x128_S256x128_S64x256_1_1_0_0_n_n none qh sb (constant S64x256 .f32 0x00000000#32))

/-- The head's normalised and gated output block, as stored. -/
def headOut (o : FVec F S64x256 .f32) (gain : Vec F S1x256 .f32) (r : Vec F S1x64x256 .f32) : FVec F S1x64x256 .bf16 :=
  let ms : FVec F S64x1 .f32 := divf (shapeCast S64x1 (multiReduction .add [1] S64 (mulf o o) 0x00000000#32 reduces_S64x256_S64 (.inl rfl) rfl) shapeCasts_S64_S64x1)
    (broadcast S64x1 (Scalar.ofBits .f32 0x43800000#32 : F .f32))
  let inv : FVec F S64x1 .f32 := rsqrt (addf ms (broadcast S64x1 (Scalar.ofBits .f32 0x358637BD#32 : F .f32)))
  let y : FVec F S64x256 .f32 := mulf (mulf o (broadcastTo S64x256 inv broadcasts_S64x1_S64x256))
    (broadcastTo S64x256 (shapeCast S1x256 gain shapeCasts_S1x256_S1x256) broadcasts_S1x256_S64x256)
  let rr : FVec F S64x256 .f32 := shapeCast S64x256 r shapeCasts_S1x64x256_S64x256
  let e : FVec F S64x256 .f32 := exp (subf (broadcast S64x256 (Scalar.ofBits .f32 0x00000000#32 : F .f32)) rr)
  let g : FVec F S64x256 .f32 := divf rr (addf (broadcast S64x256 (Scalar.ofBits .f32 0x3F800000#32 : F .f32)) e)
  shapeCast S1x64x256 (truncf .bf16 (mulf y g) bitsLt_bf16_f32) shapeCasts_S64x256_S1x64x256

/-- The head's state after the chunk. -/
def headSt (h : Fin 4) (ebl : FVec F S1x512 .f32) (kf : FVec F S64x512 .f32) (v : Vec F S1x64x256 .bf16) (st : Vec F S1x256x128 .f32) : FVec F S1x256x128 .f32 :=
  let kh : FVec F S64x128 .bf16 := truncf .bf16 (extractStridedSlice S64x128 ![0, 128 * h.val] kf (lanes h)) bitsLt_bf16_f32
  let eh : FVec F S256x128 .f32 := broadcastTo S256x128 (extractStridedSlice S1x128 ![0, 128 * h.val] ebl (lanesRow h)) broadcasts_S1x128_S256x128
  let kept : FVec F S256x128 .f32 := mulf (shapeCast S256x128 st shapeCasts_S1x256x128_S256x128) eh
  shapeCast S1x256x128 (addf kept (matmul dot_S64x256_S64x128_S256x128_0_0_1_1_n_n none (shapeCast S64x256 v shapeCasts_S1x64x256_S64x256) kh
    (constant S256x128 .f32 0x00000000#32))) shapeCasts_S256x128_S1x256x128

section Pieces

variable (g q k : Vec F S1x64x512 .f32) (v : Vec F S1x64x256 .bf16) (st : Vec F S1x256x128 .f32) (gain : Vec F S1x256 .f32) (r : Vec F S1x64x256 .f32)

/-- A pair's stored output as a function of the blocks it reads. -/
def pairOut (h : Fin 4) : FVec F S1x64x256 .bf16 := headOut (headO h (k0_pay7 g q) (k0_pay8 g k) v st) gain r

/-- A pair's next state as a function of the blocks it reads. -/
def pairSt (h : Fin 4) : FVec F S1x256x128 .f32 := headSt h (k0_pay6 g) (k0_pay9 g k) v st

theorem st00 : k0_pay12 (k0_pay6 g) (k0_pay9 g k) v st = pairSt g k v st 0 := rfl
theorem st01 : k0_pay19 (k0_pay18 (k0_pay6 g) (k0_pay9 g k) v st) = pairSt g k v st 1 := rfl
theorem st02 : k0_pay26 (k0_pay6 g) (k0_pay22 (k0_pay9 g k)) (k0_pay23 v) st = pairSt g k v st 2 := rfl
theorem st03 : k0_pay31 (k0_pay6 g) (k0_pay9 g k) v st = pairSt g k v st 3 := rfl
theorem st10 : k0_pay45 (k0_pay36 k0_pay4 g) (k0_pay37 k0_pay4 g) k v st = pairSt g k v st 0 := rfl
theorem st11 : k0_pay54 (k0_pay37 k0_pay4 g) (k0_pay49 (k0_pay41 (k0_pay36 k0_pay4 g) (k0_pay37 k0_pay4 g) k)) (k0_pay50 v) (k0_pay51 st) = pairSt g k v st 1 := rfl
theorem st12 : k0_pay60 (k0_pay37 k0_pay4 g) (k0_pay41 (k0_pay36 k0_pay4 g) (k0_pay37 k0_pay4 g) k) v st = pairSt g k v st 2 := rfl
theorem st13 : k0_pay66 (k0_pay37 k0_pay4 g) (k0_pay41 (k0_pay36 k0_pay4 g) (k0_pay37 k0_pay4 g) k) v st = pairSt g k v st 3 := rfl

end Pieces

end Cert.KernelIdeal.Scan

end
-- ==== Proof.Scan.Step.lean ====
/-
  One grid point of the scan kernel: what it leaves in the output block and in the carried state, each as one function
  of the blocks it reads and of the state it found, at the first point (which zeroes the state) and at the others.
-/
module

public import proofs.«01_k».proof.Proof.Scan.Heads
public import proofs.«01_k».proof.Proof.Gen.KernelIdeal.Value
public import Idealize.ShloMosaic.Lib.Pipeline.ReadBack
public import Idealize.ShloMosaic.Lib.Pointwise

@[expose] public section

set_option maxRecDepth 16384

noncomputable section

namespace Cert.KernelIdeal.Scan

open Idealize.ShloMosaic Idealize.ShloMosaic.TcCoe Idealize.SL.Sem Cert.KernelIdeal Cert.KernelIdeal.Gen

variable {F : FTy → Type} [FloatOps F]

/-- The rows of sequence `b` in a 512-lane block. -/
def rq (b : Fin 2) : Rect S2x64x512 := Rect.unit ![b.val, 0, 0] ![1, 64, 512] (by fin_cases b <;> decide)
/-- Pair (b, h)'s rows in a 1024-lane block. -/
def rv (b : Fin 2) (h : Fin 4) : Rect S2x64x1024 := Rect.unit ![b.val, 0, 256 * h.val] ![1, 64, 256] (by fin_cases b <;> fin_cases h <;> decide)
/-- Pair (b, h)'s slab of the carried state. -/
def rs (b : Fin 2) (h : Fin 4) : Rect S8x256x128 := Rect.unit ![4 * b.val + h.val, 0, 0] ![1, 256, 128] (by fin_cases b <;> fin_cases h <;> decide)
/-- Head `h`'s gains. -/
def rg (h : Fin 4) : Rect S1x1024 := Rect.unit ![0, 256 * h.val] ![1, 256] (by fin_cases h <;> decide)

section Point

variable (x0 x1 x2 : Vec F S2x64x512 .f32) (x3 : Vec F S2x64x1024 .bf16) (x4 : Vec F S2x64x1024 .f32) (x5 : Vec F S1x1024 .f32) (xs : Vec F S8x256x128 .f32)

/-- Pair (b, h)'s output block at this point. -/
def outBlock (b : Fin 2) (h : Fin 4) : Vec F S1x64x256 .bf16 :=
  pairOut (View.ld x2 (rq b)) (View.ld x0 (rq b)) (View.ld x1 (rq b)) (View.ld x3 (rv b h)) (View.ld xs (rs b h)) (View.ld x5 (rg h)) (View.ld x4 (rv b h)) h

/-- Pair (b, h)'s state after this point. -/
def stBlock (b : Fin 2) (h : Fin 4) : Vec F S1x256x128 .f32 :=
  pairSt (View.ld x2 (rq b)) (View.ld x1 (rq b)) (View.ld x3 (rv b h)) (View.ld xs (rs b h)) h

/-- The whole output block at this point. -/
def outPoint : Vec F S2x64x1024 .bf16 := fun y =>
  outBlock x0 x1 x2 x3 x4 x5 xs (y 0) ⟨(y 2).val / 256, by have := (y 2).isLt; change (y 2).val < 1024 at this; omega⟩ (ix3 0 (y 1) ⟨(y 2).val % 256, Nat.mod_lt _ (by norm_num)⟩)

/-- The whole state after this point. -/
def stPoint : Vec F S8x256x128 .f32 := fun y =>
  stBlock x1 x2 x3 xs ⟨(y 0).val / 4, by have := (y 0).isLt; change (y 0).val < 8 at this; omega⟩ ⟨(y 0).val % 4, Nat.mod_lt _ (by norm_num)⟩ (ix3 0 (y 1) (y 2))

theorem outBlock_eq (b : Fin 2) (h : Fin 4) (x : (rv b h).shape.Idx) :
    outBlock x0 x1 x2 x3 x4 x5 xs b h x = outPoint x0 x1 x2 x3 x4 x5 xs ((rv b h).emb x) := by
  have l0 : (x 0).val < 1 := (x 0).isLt
  have l2 : (x 2).val < 256 := (x 2).isLt
  have v0 : ((rv b h).emb x 0).val = b.val + 1 * (x 0).val := rfl
  have v1 : ((rv b h).emb x 1).val = 0 + 1 * (x 1).val := rfl
  have v2 : ((rv b h).emb x 2).val = 256 * h.val + 1 * (x 2).val := rfl
  unfold outPoint
  have e0 : (rv b h).emb x 0 = b := Fin.ext (by omega)
  have e1 : (⟨((rv b h).emb x 2).val / 256, by omega⟩ : Fin 4) = h := Fin.ext (by show ((rv b h).emb x 2).val / 256 = h.val; omega)
  have e2 : (ix3 0 ((rv b h).emb x 1) ⟨((rv b h).emb x 2).val % 256, Nat.mod_lt _ (by norm_num)⟩ : S1x64x256.Idx) = x := by
    funext a
    match a with
    | ⟨0, _⟩ => exact Fin.ext (by show 0 = (x 0).val; omega)
    | ⟨1, _⟩ => exact Fin.ext (by show ((rv b h).emb x 1).val = (x 1).val; omega)
    | ⟨2, _⟩ => exact Fin.ext (by show ((rv b h).emb x 2).val % 256 = (x 2).val; omega)
  rw [e0, e1, e2]

theorem stBlock_eq (b : Fin 2) (h : Fin 4) (x : (rs b h).shape.Idx) :
    stBlock x1 x2 x3 xs b h x = stPoint x1 x2 x3 xs ((rs b h).emb x) := by
  have l0 : (x 0).val < 1 := (x 0).isLt
  have v0 : ((rs b h).emb x 0).val = 4 * b.val + h.val + 1 * (x 0).val := rfl
  have v1 : ((rs b h).emb x 1).val = 0 + 1 * (x 1).val := rfl
  have v2 : ((rs b h).emb x 2).val = 0 + 1 * (x 2).val := rfl
  unfold stPoint
  have e0 : (⟨((rs b h).emb x 0).val / 4, by omega⟩ : Fin 2) = b := Fin.ext (by show ((rs b h).emb x 0).val / 4 = b.val; omega)
  have e1 : (⟨((rs b h).emb x 0).val % 4, by omega⟩ : Fin 4) = h := Fin.ext (by show ((rs b h).emb x 0).val % 4 = h.val; omega)
  have e2 : (ix3 0 ((rs b h).emb x 1) ((rs b h).emb x 2) : S1x256x128.Idx) = x := by
    funext a
    match a with
    | ⟨0, _⟩ => exact Fin.ext (by show 0 = (x 0).val; omega)
    | ⟨1, _⟩ => exact Fin.ext (by show ((rs b h).emb x 1).val = (x 1).val; omega)
    | ⟨2, _⟩ => exact Fin.ext (by show ((rs b h).emb x 2).val = (x 2).val; omega)
  rw [e0, e1, e2]

/-- Every element of the carried state lies in one pair's slab. -/
theorem rs_cover (y : S8x256x128.Idx) : ∃ b h, y ∈ (rs b h).set := by
  have l0 : (y 0).val < 8 := (y 0).isLt
  have l1 : (y 1).val < 256 := (y 1).isLt
  have l2 : (y 2).val < 128 := (y 2).isLt
  refine ⟨⟨(y 0).val / 4, by omega⟩, ⟨(y 0).val % 4, by omega⟩, ?_⟩
  rw [← Rect.map_emb_univ]
  refine Finset.mem_map.mpr ⟨ix3 0 (y 1) (y 2), Finset.mem_univ _, ?_⟩
  funext a
  match a with
  | ⟨0, _⟩ => exact Fin.ext (by show 4 * ((y 0).val / 4) + (y 0).val % 4 + 1 * 0 = (y 0).val; omega)
  | ⟨1, _⟩ => exact Fin.ext (by show 0 + 1 * (y 1).val = (y 1).val; omega)
  | ⟨2, _⟩ => exact Fin.ext (by show 0 + 1 * (y 2).val = (y 2).val; omega)

/-- The pairs, latest stored first. -/
def pairs : List (Fin 2 × Fin 4) := [(1, 3), (1, 2), (1, 1), (1, 0), (0, 3), (0, 2), (0, 1), (0, 0)]

theorem mem_pairs : ∀ (b : Fin 2) (h : Fin 4), (b, h) ∈ pairs := by decide

/-- The slab one pair stores. -/
def stPiece (p : Fin 2 × Fin 4) : View.Piece (Elt F) S8x256x128 .f32 := ⟨rs p.1 p.2, stBlock x1 x2 x3 xs p.1 p.2⟩

/-- The eight pairs' slabs, stored over anything, are the whole state. -/
theorem st_canon (L : List (View.Piece (Elt F) S8x256x128 .f32)) :
    View.canon (pairs.map (stPiece x1 x2 x3 xs) ++ L) = stPoint x1 x2 x3 xs := by
  funext y
  refine View.canon_append_of_pieces (stPoint x1 x2 x3 xs) L _ ?_ y ?_
  · intro p hp x
    obtain ⟨q, _, rfl⟩ := List.mem_map.mp hp
    exact stBlock_eq x1 x2 x3 xs q.1 q.2 x
  · obtain ⟨b, h, hy⟩ := rs_cover y
    exact ⟨_, List.mem_map.mpr ⟨(b, h), mem_pairs b h, rfl⟩, hy⟩

end Point

theorem outA_eq (c : Dev nD) (i : grid0.Coords) (arg1 : Memref sig .tc .vmem S2x64x512 .f32) (harg1 : arg1.IsWhole) (arg2 : Memref sig .tc .vmem S2x64x512 .f32) (harg2 : arg2.IsWhole) (arg3 : Memref sig .tc .vmem S2x64x512 .f32) (harg3 : arg3.IsWhole) (arg4 : Memref sig .tc .vmem S2x64x1024 .bf16) (harg4 : arg4.IsWhole) (arg5 : Memref sig .tc .vmem S2x64x1024 .f32) (harg5 : arg5.IsWhole) (arg6 : Memref sig .tc .vmem S1x1024 .f32) (harg6 : arg6.IsWhole) (arg7 : Memref sig .tc .vmem S2x64x1024 .bf16) (harg7 : arg7.IsWhole) (arg8 : Memref sig .tc .vmem S8x256x128 .f32) (harg8 : arg8.IsWhole) (hc0 : cond0_0 i)
    (x0 : Vec F S2x64x512 .f32) (x1 : Vec F S2x64x512 .f32) (x2 : Vec F S2x64x512 .f32) (x3 : Vec F S2x64x1024 .bf16) (x4 : Vec F S2x64x1024 .f32) (x5 : Vec F S1x1024 .f32) :
    out0_A_6 c i arg1 harg1 arg2 harg2 arg3 harg3 arg4 harg4 arg5 harg5 arg6 harg6 arg7 harg7 arg8 harg8 hc0 x0 x1 x2 x3 x4 x5 = outPoint x0 x1 x2 x3 x4 x5 k0_pay2 := by
  have hcov := cover0_A_6 c i arg1 harg1 arg2 harg2 arg3 harg3 arg4 harg4 arg5 harg5 arg6 harg6 arg7 harg7 arg8 harg8 hc0 x0 x1 x2 x3 x4 x5
  unfold out0_A_6
  rw [View.read_writes_eq_canon _ _ _ hcov]
  funext y
  refine View.canon_apply_of_pieces _ _ (View.PiecesOf.mem ?_) y (hcov y)
  clear hcov
  unfold kernelRun0_A
  dsimp only
  sl_unfold_words
  simp only [View.readAt_eq_ld, harg1.read_unread, harg2.read_unread, harg3.read_unread, harg4.read_unread, harg5.read_unread, harg6.read_unread, harg8.read_unread]
  simp (disch := decide) only [↓View.readCov_skip, View.readCov_fill]
  exact ⟨fun x => outBlock_eq x0 x1 x2 x3 x4 x5 k0_pay2 1 3 x, fun x => outBlock_eq x0 x1 x2 x3 x4 x5 k0_pay2 1 2 x, fun x => outBlock_eq x0 x1 x2 x3 x4 x5 k0_pay2 1 1 x, fun x => outBlock_eq x0 x1 x2 x3 x4 x5 k0_pay2 1 0 x, fun x => outBlock_eq x0 x1 x2 x3 x4 x5 k0_pay2 0 3 x, fun x => outBlock_eq x0 x1 x2 x3 x4 x5 k0_pay2 0 2 x, fun x => outBlock_eq x0 x1 x2 x3 x4 x5 k0_pay2 0 1 x, fun x => outBlock_eq x0 x1 x2 x3 x4 x5 k0_pay2 0 0 x, trivial⟩

theorem stA_eq (c : Dev nD) (i : grid0.Coords) (arg1 : Memref sig .tc .vmem S2x64x512 .f32) (harg1 : arg1.IsWhole) (arg2 : Memref sig .tc .vmem S2x64x512 .f32) (harg2 : arg2.IsWhole) (arg3 : Memref sig .tc .vmem S2x64x512 .f32) (harg3 : arg3.IsWhole) (arg4 : Memref sig .tc .vmem S2x64x1024 .bf16) (harg4 : arg4.IsWhole) (arg5 : Memref sig .tc .vmem S2x64x1024 .f32) (harg5 : arg5.IsWhole) (arg6 : Memref sig .tc .vmem S1x1024 .f32) (harg6 : arg6.IsWhole) (arg7 : Memref sig .tc .vmem S2x64x1024 .bf16) (harg7 : arg7.IsWhole) (arg8 : Memref sig .tc .vmem S8x256x128 .f32) (harg8 : arg8.IsWhole) (hc0 : cond0_0 i)
    (x0 : Vec F S2x64x512 .f32) (x1 : Vec F S2x64x512 .f32) (x2 : Vec F S2x64x512 .f32) (x3 : Vec F S2x64x1024 .bf16) (x4 : Vec F S2x64x1024 .f32) (x5 : Vec F S1x1024 .f32) :
    sout0_A_0 c i arg1 harg1 arg2 harg2 arg3 harg3 arg4 harg4 arg5 harg5 arg6 harg6 arg7 harg7 arg8 harg8 hc0 x0 x1 x2 x3 x4 x5 = stPoint x1 x2 x3 k0_pay2 := by
  have hcov := scover0_A_0 c i arg1 harg1 arg2 harg2 arg3 harg3 arg4 harg4 arg5 harg5 arg6 harg6 arg7 harg7 arg8 harg8 hc0 x0 x1 x2 x3 x4 x5
  unfold sout0_A_0
  rw [View.read_writes_eq_canon _ _ _ hcov]
  clear hcov
  unfold kernelRun0_A
  dsimp only
  sl_unfold_words
  simp only [View.readAt_eq_ld, harg1.read_unread, harg2.read_unread, harg3.read_unread, harg4.read_unread, harg5.read_unread, harg6.read_unread, harg8.read_unread]
  simp (disch := decide) only [↓View.readCov_skip, View.readCov_fill]
  exact st_canon x1 x2 x3 k0_pay2 [_]

theorem outB_eq (c : Dev nD) (i : grid0.Coords) (arg1 : Memref sig .tc .vmem S2x64x512 .f32) (harg1 : arg1.IsWhole) (arg2 : Memref sig .tc .vmem S2x64x512 .f32) (harg2 : arg2.IsWhole) (arg3 : Memref sig .tc .vmem S2x64x512 .f32) (harg3 : arg3.IsWhole) (arg4 : Memref sig .tc .vmem S2x64x1024 .bf16) (harg4 : arg4.IsWhole) (arg5 : Memref sig .tc .vmem S2x64x1024 .f32) (harg5 : arg5.IsWhole) (arg6 : Memref sig .tc .vmem S1x1024 .f32) (harg6 : arg6.IsWhole) (arg7 : Memref sig .tc .vmem S2x64x1024 .bf16) (harg7 : arg7.IsWhole) (arg8 : Memref sig .tc .vmem S8x256x128 .f32) (harg8 : arg8.IsWhole) (hc0 : ¬ cond0_0 i)
    (x0 : Vec F S2x64x512 .f32) (x1 : Vec F S2x64x512 .f32) (x2 : Vec F S2x64x512 .f32) (x3 : Vec F S2x64x1024 .bf16) (x4 : Vec F S2x64x1024 .f32) (x5 : Vec F S1x1024 .f32) (xs0 : Vec F S8x256x128 .f32) :
    out0_B_6 c i arg1 harg1 arg2 harg2 arg3 harg3 arg4 harg4 arg5 harg5 arg6 harg6 arg7 harg7 arg8 harg8 hc0 x0 x1 x2 x3 x4 x5 xs0 = outPoint x0 x1 x2 x3 x4 x5 xs0 := by
  have hcov := cover0_B_6 c i arg1 harg1 arg2 harg2 arg3 harg3 arg4 harg4 arg5 harg5 arg6 harg6 arg7 harg7 arg8 harg8 hc0 x0 x1 x2 x3 x4 x5 xs0
  unfold out0_B_6
  rw [View.read_writes_eq_canon _ _ _ hcov]
  funext y
  refine View.canon_apply_of_pieces _ _ (View.PiecesOf.mem ?_) y (hcov y)
  clear hcov
  unfold kernelRun0_B
  dsimp only
  sl_unfold_words
  simp only [View.readAt_eq_ld, harg1.read_unread, harg2.read_unread, harg3.read_unread, harg4.read_unread, harg5.read_unread, harg6.read_unread, harg8.read_unread]
  exact ⟨fun x => outBlock_eq x0 x1 x2 x3 x4 x5 xs0 1 3 x, fun x => outBlock_eq x0 x1 x2 x3 x4 x5 xs0 1 2 x, fun x => outBlock_eq x0 x1 x2 x3 x4 x5 xs0 1 1 x, fun x => outBlock_eq x0 x1 x2 x3 x4 x5 xs0 1 0 x, fun x => outBlock_eq x0 x1 x2 x3 x4 x5 xs0 0 3 x, fun x => outBlock_eq x0 x1 x2 x3 x4 x5 xs0 0 2 x, fun x => outBlock_eq x0 x1 x2 x3 x4 x5 xs0 0 1 x, fun x => outBlock_eq x0 x1 x2 x3 x4 x5 xs0 0 0 x, trivial⟩

theorem stB_eq (c : Dev nD) (i : grid0.Coords) (arg1 : Memref sig .tc .vmem S2x64x512 .f32) (harg1 : arg1.IsWhole) (arg2 : Memref sig .tc .vmem S2x64x512 .f32) (harg2 : arg2.IsWhole) (arg3 : Memref sig .tc .vmem S2x64x512 .f32) (harg3 : arg3.IsWhole) (arg4 : Memref sig .tc .vmem S2x64x1024 .bf16) (harg4 : arg4.IsWhole) (arg5 : Memref sig .tc .vmem S2x64x1024 .f32) (harg5 : arg5.IsWhole) (arg6 : Memref sig .tc .vmem S1x1024 .f32) (harg6 : arg6.IsWhole) (arg7 : Memref sig .tc .vmem S2x64x1024 .bf16) (harg7 : arg7.IsWhole) (arg8 : Memref sig .tc .vmem S8x256x128 .f32) (harg8 : arg8.IsWhole) (hc0 : ¬ cond0_0 i)
    (x0 : Vec F S2x64x512 .f32) (x1 : Vec F S2x64x512 .f32) (x2 : Vec F S2x64x512 .f32) (x3 : Vec F S2x64x1024 .bf16) (x4 : Vec F S2x64x1024 .f32) (x5 : Vec F S1x1024 .f32) (xs0 : Vec F S8x256x128 .f32) :
    sout0_B_0 c i arg1 harg1 arg2 harg2 arg3 harg3 arg4 harg4 arg5 harg5 arg6 harg6 arg7 harg7 arg8 harg8 hc0 x0 x1 x2 x3 x4 x5 xs0 = stPoint x1 x2 x3 xs0 := by
  have hcov := scover0_B_0 c i arg1 harg1 arg2 harg2 arg3 harg3 arg4 harg4 arg5 harg5 arg6 harg6 arg7 harg7 arg8 harg8 hc0 x0 x1 x2 x3 x4 x5 xs0
  unfold sout0_B_0
  rw [View.read_writes_eq_canon _ _ _ hcov]
  funext y
  refine View.canon_apply_of_pieces _ _ (View.PiecesOf.mem ?_) y (hcov y)
  clear hcov
  unfold kernelRun0_B
  dsimp only
  sl_unfold_words
  simp only [View.readAt_eq_ld, harg1.read_unread, harg2.read_unread, harg3.read_unread, harg4.read_unread, harg5.read_unread, harg6.read_unread, harg8.read_unread]
  exact ⟨fun x => stBlock_eq x1 x2 x3 xs0 1 3 x, fun x => stBlock_eq x1 x2 x3 xs0 1 2 x, fun x => stBlock_eq x1 x2 x3 xs0 1 1 x, fun x => stBlock_eq x1 x2 x3 xs0 1 0 x, fun x => stBlock_eq x1 x2 x3 xs0 0 3 x, fun x => stBlock_eq x1 x2 x3 xs0 0 2 x, fun x => stBlock_eq x1 x2 x3 xs0 0 1 x, fun x => stBlock_eq x1 x2 x3 xs0 0 0 x, trivial⟩

end Cert.KernelIdeal.Scan

end
-- ==== Proof.Scan.Spec.lean ====
/-
  The chunked gated linear attention scan on extended reals, one (sequence, head) pair at a time, by coordinates: what
  one chunk of 64 tokens adds to the outputs and to the carried 128 × 256 state.
-/
module

public import Idealize.ShloMosaic.PureOps.Ideal
public import Idealize.ShloMosaic.PureOps.Ideal.Laws
public import Idealize.ShloMosaic.Lib.Pointwise

@[expose] public section

noncomputable section

namespace Cert.Scan

open Idealize.ShloMosaic
open scoped BigOperators

/-- The factor on the queries, as printed. -/
def scale : EReal := Ideal.ofBits .f32 0x3DB504F3#32
/-- The head width the mean square divides by. -/
def width : EReal := Ideal.ofBits .f32 0x43800000#32
/-- The norm's epsilon. -/
def eps : EReal := Ideal.ofBits .f32 0x358637BD#32

section Chunk

variable (q k g : Fin 64 → Fin 128 → EReal) (v : Fin 64 → Fin 256 → EReal) (st : Fin 128 → Fin 256 → EReal)

/-- The decay accumulated inside the chunk up to and with token `i`. -/
def cum (i : Fin 64) (d : Fin 128) : EReal := ∑ j : Fin 64, if j ≤ i then g j d else 0

/-- The scaled and decayed query. -/
def qdec (i : Fin 64) (d : Fin 128) : EReal := q i d * scale * Ideal.exp (cum g i d)

/-- The key with the decay taken back. -/
def kinv (j : Fin 64) (d : Fin 128) : EReal := k j d * Ideal.exp (-(cum g j d))

/-- The masked score of token `i` on token `j`. -/
def score (i j : Fin 64) : EReal := if j ≤ i then ∑ d : Fin 128, qdec q g i d * kinv k g j d else 0

/-- The chunk's output: inside the chunk, plus what the carried state gives. -/
def outp (i : Fin 64) (w : Fin 256) : EReal :=
  (∑ j : Fin 64, score q k g i j * v j w) + ∑ d : Fin 128, qdec q g i d * st d w

/-- The state after the chunk. -/
def next (d : Fin 128) (w : Fin 256) : EReal :=
  Ideal.exp (cum g 63 d) * st d w + ∑ j : Fin 64, (k j d * Ideal.exp (cum g 63 d - cum g j d)) * v j w

end Chunk

/-- The head's output after its norm and its gate. -/
def gated (o : Fin 64 → Fin 256 → EReal) (gain : Fin 256 → EReal) (r : Fin 64 → Fin 256 → EReal) (i : Fin 64) (w : Fin 256) : EReal :=
  o i w * Ideal.rsqrt (Ideal.div (∑ u : Fin 256, o i u * o i u) width + eps) * gain w
    * Ideal.div (r i w) (1 + Ideal.exp (-(r i w)))

/-- The state before chunk `n`, the chunks given by number. -/
def state (k g : ℕ → Fin 64 → Fin 128 → EReal) (v : ℕ → Fin 64 → Fin 256 → EReal) : ℕ → Fin 128 → Fin 256 → EReal
  | 0 => fun _ _ => 0
  | n + 1 => next (k n) (g n) (v n) (state k g v n)

/-! ## The whole call -/

/-- Token `j` of chunk `n`. -/
def tok (n : ℕ) (j : Fin 64) : Fin 16384 := ⟨(64 * n + j.val) % 16384, Nat.mod_lt _ (by norm_num)⟩
/-- Head `h`'s lane `d` of the 512. -/
def lane (h : Fin 4) (d : Fin 128) : Fin 512 := ⟨128 * h.val + d.val, by omega⟩
/-- Head `h`'s lane `w` of the 1024. -/
def lane2 (h : Fin 4) (w : Fin 256) : Fin 1024 := ⟨256 * h.val + w.val, by omega⟩

/-- Chunk `n` of one pair's rows. -/
def rows (x : (⟨3, ![2, 16384, 512]⟩ : Shape).Idx → EReal) (b : Fin 2) (h : Fin 4) (n : ℕ) (j : Fin 64) (d : Fin 128) : EReal :=
  x (ix3 b (tok n j) (lane h d))
def rows2 (x : (⟨3, ![2, 16384, 1024]⟩ : Shape).Idx → EReal) (b : Fin 2) (h : Fin 4) (n : ℕ) (j : Fin 64) (w : Fin 256) : EReal :=
  x (ix3 b (tok n j) (lane2 h w))

/-- The call's result at token `i` of chunk `n`, pair (b, h), lane `w`. -/
def result (q k g : (⟨3, ![2, 16384, 512]⟩ : Shape).Idx → EReal) (v r : (⟨3, ![2, 16384, 1024]⟩ : Shape).Idx → EReal)
    (gain : (⟨2, ![4, 256]⟩ : Shape).Idx → EReal) (b : Fin 2) (h : Fin 4) (n : ℕ) (i : Fin 64) (w : Fin 256) : EReal :=
  gated (outp (rows q b h n) (rows k b h n) (rows g b h n) (rows2 v b h n) (state (rows k b h) (rows g b h) (rows2 v b h) n))
    (fun w => gain (ix2 h w)) (rows2 r b h n) i w

end Cert.Scan

end
-- ==== Proof.Scan.Scalars.lean ====
/-
  Extended-real facts of the scan: the exact three-way split of a number below +inf, the decay factors, and the causal
  mask's word comparison.
-/
module

public import Idealize.ShloMosaic.PureOps.Ideal
public import Idealize.ShloMosaic.PureOps.Ideal.Laws
public import Idealize.ShloMosaic.Lib.DynamicIndex
public import Idealize.ShloMosaic.Lib.ValueIdxCore

@[expose] public section

noncomputable section

namespace Cert.Scan

open Idealize.ShloMosaic
open scoped BigOperators

/-- A number below +inf is the sum of its leading part and the two remainders. -/
theorem split_three (x : EReal) (hx : x ≠ ⊤) : x + (x - x) + ((x - x) - (x - x)) = x := by
  induction x with
  | bot => rfl
  | coe a => norm_cast; simp
  | top => exact absurd rfl hx

/-- A sum of numbers below +inf is below +inf. -/
theorem sum_ne_top {ι : Type} (s : Finset ι) (f : ι → EReal) (h : ∀ i ∈ s, f i ≠ ⊤) : ∑ i ∈ s, f i ≠ ⊤ := by
  classical
  induction s using Finset.induction_on with
  | empty => simp
  | insert a s ha ih =>
    rw [Finset.sum_insert ha]
    exact EReal.add_ne_top (h a (Finset.mem_insert_self a s)) (ih fun i hi => h i (Finset.mem_insert_of_mem hi))

/-- Decaying to a token and on from it to the chunk's end: the two factors multiply to one. -/
theorem exp_split (b l : EReal) (hb : b ≠ ⊤) (hl : l ≠ ⊤) : Ideal.exp (-b) * Ideal.exp l = Ideal.exp (l - b) := by
  induction l with
  | top => exact absurd rfl hl
  | bot =>
    have e : (⊥ : EReal) - b = ⊥ := by rw [sub_eq_add_neg]; exact EReal.bot_add _
    rw [e]
    show Ideal.exp (-b) * (0 : EReal) = 0
    exact mul_zero _
  | coe l =>
    induction b with
    | top => exact absurd rfl hb
    | bot =>
      have e : (l : EReal) - ⊥ = ⊤ := by rw [sub_eq_add_neg, EReal.neg_bot]; exact EReal.coe_add_top l
      rw [e, EReal.neg_bot]
      show (⊤ : EReal) * ((Real.exp l : ℝ) : EReal) = ⊤
      exact EReal.top_mul_coe_of_pos (Real.exp_pos l)
    | coe b =>
      rw [← EReal.coe_neg, ← EReal.coe_sub]
      show ((Real.exp (-b) : ℝ) : EReal) * ((Real.exp l : ℝ) : EReal) = ((Real.exp (l - b) : ℝ) : EReal)
      rw [← EReal.coe_mul, ← Real.exp_add]
      congr 2; ring

/-- The causal mask at two positions of a chunk. -/
theorem causal_select {α : Type} (i j : Fin 64) (a b : α) :
    Scalar.select (IntOp.cmpi .sge (BitVec.ofNat 32 i.val) (BitVec.ofNat 32 j.val)) a b = if j ≤ i then a else b := by
  have hi := toInt_ofNat_of_lt (show i.val < 2 ^ 31 by omega)
  have hj := toInt_ofNat_of_lt (show j.val < 2 ^ 31 by omega)
  by_cases h : j ≤ i
  · have e : IntOp.cmpi .sge (BitVec.ofNat 32 i.val) (BitVec.ofNat 32 j.val) = 1#1 := by
      show BitVec.ofBool ((BitVec.ofNat 32 j.val).sle (BitVec.ofNat 32 i.val)) = 1#1
      rw [show (BitVec.ofNat 32 j.val).sle (BitVec.ofNat 32 i.val) = true from by
        rw [BitVec.sle_eq_decide, hi, hj]; simpa using h]
      rfl
    rw [e, ValueIdx.select_one, if_pos h]
  · have e : IntOp.cmpi .sge (BitVec.ofNat 32 i.val) (BitVec.ofNat 32 j.val) = 0#1 := by
      show BitVec.ofBool ((BitVec.ofNat 32 j.val).sle (BitVec.ofNat 32 i.val)) = 0#1
      rw [show (BitVec.ofNat 32 j.val).sle (BitVec.ofNat 32 i.val) = false from by
        rw [BitVec.sle_eq_decide, hi, hj]; simpa using h]
      rfl
    rw [e, ValueIdx.select_zero, if_neg h]

end Cert.Scan

end
-- ==== Proof.Scan.Pair.lean ====
/-
  One (sequence, head) pair of the scan kernel read at an index: its stored output and its next state are the chunk's
  of `Spec.lean`, where no log decay of the chunk is +inf.
-/
module

public import proofs.«01_k».proof.Proof.Scan.Heads
public import proofs.«01_k».proof.Proof.Scan.Spec
public import proofs.«01_k».proof.Proof.Scan.Scalars
public import Idealize.ShloMosaic.Lib.Pointwise

@[expose] public section

set_option maxRecDepth 16384

noncomputable section

namespace Cert.KernelIdeal.Scan

open Idealize.ShloMosaic Idealize.ShloMosaic.TcCoe Idealize.SL.Sem Cert.KernelIdeal Cert.KernelIdeal.Gen
open Cert.Scan

theorem headO_apply (h : Fin 4) (qd ki : FVec Ideal S64x512 .f32) (v : Vec Ideal S1x64x256 .bf16) (st : Vec Ideal S1x256x128 .f32)
    (i : Fin 64) (w : Fin 256) : headO h qd ki v st (ix2 i w)
      = (∑ j : Fin 64, (if j ≤ i then ∑ d : Fin 128, qd (ix2 i (lane h d)) * ki (ix2 j (lane h d)) else 0) * v (ix3 0 j w))
        + ∑ d : Fin 128, qd (ix2 i (lane h d)) * st (ix3 0 w d) := by
  pointwise [headO, k0_pay3]
  congr 1
  refine Finset.sum_congr rfl fun j _ => ?_
  rw [causal_select]
  split
  · rfl
  · exact (zero_mul _).symm

theorem headOut_apply (o : FVec Ideal S64x256 .f32) (gain : Vec Ideal S1x256 .f32) (r : Vec Ideal S1x64x256 .f32)
    (i : Fin 64) (w : Fin 256) : headOut o gain r (ix3 0 i w)
      = gated (fun i w => o (ix2 i w)) (fun w => gain (ix2 0 w)) (fun i w => r (ix3 0 i w)) i w := by
  pointwise [headOut]
  rw [zero_sub]
  rfl

theorem headSt_apply (h : Fin 4) (ebl : FVec Ideal S1x512 .f32) (kf : FVec Ideal S64x512 .f32) (v : Vec Ideal S1x64x256 .bf16) (st : Vec Ideal S1x256x128 .f32)
    (d : Fin 128) (w : Fin 256) : headSt h ebl kf v st (ix3 0 w d)
      = ebl (ix2 0 (lane h d)) * st (ix3 0 w d) + ∑ j : Fin 64, kf (ix2 j (lane h d)) * v (ix3 0 j w) := by
  pointwise [headSt]
  rw [mul_comm]
  congr 1
  exact Finset.sum_congr rfl fun j _ => mul_comm _ _

/-- The block's log decays of head `h`. -/
def rowsOf (x : Vec Ideal S1x64x512 .f32) (h : Fin 4) (j : Fin 64) (d : Fin 128) : EReal := x (ix3 0 j (lane h d))

theorem cum_apply (g : Vec Ideal S1x64x512 .f32) (hg : ∀ j l, g (ix3 0 j l) ≠ ⊤) (h : Fin 4) (i : Fin 64) (d : Fin 128) :
    k0_pay5 g (ix2 i (lane h d)) = cum (rowsOf g h) i d := by
  pointwise [k0_pay5, k0_pay4, k0_pay3]
  rw [← Finset.sum_add_distrib, ← Finset.sum_add_distrib]
  refine Finset.sum_congr rfl fun j _ => ?_
  rw [causal_select, causal_select, causal_select]
  split
  · exact split_three _ (hg j _)
  · simp

theorem cum_ne_top (g : Fin 64 → Fin 128 → EReal) (hg : ∀ j d, g j d ≠ ⊤) (i : Fin 64) (d : Fin 128) : cum g i d ≠ ⊤ := by
  refine sum_ne_top _ _ fun j _ => ?_
  split
  · exact hg j d
  · exact EReal.zero_ne_top

section Pair

variable (g q k : Vec Ideal S1x64x512 .f32) (hg : ∀ j l, g (ix3 0 j l) ≠ ⊤)
variable (v : Vec Ideal S1x64x256 .bf16) (st : Vec Ideal S1x256x128 .f32) (gain : Vec Ideal S1x256 .f32) (r : Vec Ideal S1x64x256 .f32)
include hg

theorem qdec_apply (h : Fin 4) (i : Fin 64) (d : Fin 128) :
    k0_pay7 g q (ix2 i (lane h d)) = qdec (rowsOf q h) (rowsOf g h) i d := by
  pointwise [k0_pay7]
  rw [cum_apply g hg]
  rfl

theorem kinv_apply (h : Fin 4) (i : Fin 64) (d : Fin 128) :
    k0_pay8 g k (ix2 i (lane h d)) = kinv (rowsOf k h) (rowsOf g h) i d := by
  pointwise [k0_pay8]
  rw [cum_apply g hg, zero_sub]
  rfl

theorem ebl_apply (h : Fin 4) (d : Fin 128) :
    k0_pay6 g (ix2 0 (lane h d)) = Ideal.exp (cum (rowsOf g h) 63 d) := by
  pointwise [k0_pay6]
  rw [cum_apply g hg]

theorem kfwd_apply (h : Fin 4) (i : Fin 64) (d : Fin 128) :
    k0_pay9 g k (ix2 i (lane h d)) = rowsOf k h i d * Ideal.exp (cum (rowsOf g h) 63 d - cum (rowsOf g h) i d) := by
  have e : k0_pay9 g k (ix2 i (lane h d)) = k0_pay8 g k (ix2 i (lane h d)) * k0_pay6 g (ix2 0 (lane h d)) := by
    pointwise [k0_pay9]
  rw [e, kinv_apply g k hg, ebl_apply g hg, kinv, mul_assoc, exp_split]
  · exact cum_ne_top _ (fun _ _ => hg _ _) _ _
  · exact cum_ne_top _ (fun _ _ => hg _ _) _ _

/-- The pair's stored output. -/
theorem pairOut_apply (h : Fin 4) (i : Fin 64) (w : Fin 256) :
    pairOut g q k v st gain r h (ix3 0 i w)
      = gated (outp (rowsOf q h) (rowsOf k h) (rowsOf g h) (fun j w => v (ix3 0 j w)) (fun d w => st (ix3 0 w d)))
          (fun w => gain (ix2 0 w)) (fun i w => r (ix3 0 i w)) i w := by
  rw [pairOut, headOut_apply]
  congr 1
  funext i w
  rw [headO_apply]
  simp only [qdec_apply g q hg, kinv_apply g k hg]
  rfl

/-- The pair's next state. -/
theorem pairSt_apply (h : Fin 4) (d : Fin 128) (w : Fin 256) :
    pairSt g k v st h (ix3 0 w d)
      = next (rowsOf k h) (rowsOf g h) (fun j w => v (ix3 0 j w)) (fun d w => st (ix3 0 w d)) d w := by
  rw [pairSt, headSt_apply]
  simp only [ebl_apply g hg, kfwd_apply g k hg]
  rfl

end Pair

end Cert.KernelIdeal.Scan

end
-- ==== Proof.Scan.Fold.lean ====
/-
  The scan kernel's grid, point after point: the carried state is `Spec.lean`'s after every chunk, and the result array
  holds the call's result at every index, where no log decay is +inf.
-/
module

public import proofs.«01_k».proof.Proof.Scan.Step
public import proofs.«01_k».proof.Proof.Scan.Pair

@[expose] public section

set_option maxRecDepth 16384

noncomputable section

namespace Cert.KernelIdeal.Scan

open Idealize.ShloMosaic Idealize.ShloMosaic.TcCoe Idealize.SL.Sem Cert.KernelIdeal Cert.KernelIdeal.Gen Cert.KernelIdeal.Value
open Cert.Scan

section Point

variable (x0 x1 x2 : Vec Ideal S2x64x512 .f32) (x3 : Vec Ideal S2x64x1024 .bf16) (x4 : Vec Ideal S2x64x1024 .f32) (x5 : Vec Ideal S1x1024 .f32) (xs : Vec Ideal S8x256x128 .f32)

/-- The slab number of a pair. -/
def slab (b : Fin 2) (h : Fin 4) : Fin 8 := ⟨4 * b.val + h.val, by omega⟩

theorem ld_rq (x : Vec Ideal S2x64x512 .f32) (b : Fin 2) (j : Fin 64) (l : Fin 512) : View.ld x (rq b) (ix3 0 j l) = x (ix3 b j l) := by
  refine congrArg x (funext fun a => ?_)
  match a with
  | ⟨0, _⟩ => exact Fin.ext (by show b.val + 1 * 0 = b.val; omega)
  | ⟨1, _⟩ => exact Fin.ext (by show 0 + 1 * j.val = j.val; omega)
  | ⟨2, _⟩ => exact Fin.ext (by show 0 + 1 * l.val = l.val; omega)

theorem ld_rv {e : EltTy} (x : S2x64x1024.Idx → Elt Ideal e) (b : Fin 2) (h : Fin 4) (j : Fin 64) (w : Fin 256) :
    View.ld x (rv b h) (ix3 0 j w) = x (ix3 b j (lane2 h w)) := by
  refine congrArg x (funext fun a => ?_)
  match a with
  | ⟨0, _⟩ => exact Fin.ext (by show b.val + 1 * 0 = b.val; omega)
  | ⟨1, _⟩ => exact Fin.ext (by show 0 + 1 * j.val = j.val; omega)
  | ⟨2, _⟩ => exact Fin.ext (by show 256 * h.val + 1 * w.val = 256 * h.val + w.val; omega)

theorem ld_rs (x : Vec Ideal S8x256x128 .f32) (b : Fin 2) (h : Fin 4) (w : Fin 256) (d : Fin 128) :
    View.ld x (rs b h) (ix3 0 w d) = x (ix3 (slab b h) w d) := by
  refine congrArg x (funext fun a => ?_)
  match a with
  | ⟨0, _⟩ => exact Fin.ext (by show 4 * b.val + h.val + 1 * 0 = 4 * b.val + h.val; omega)
  | ⟨1, _⟩ => exact Fin.ext (by show 0 + 1 * w.val = w.val; omega)
  | ⟨2, _⟩ => exact Fin.ext (by show 0 + 1 * d.val = d.val; omega)

theorem ld_rg (x : Vec Ideal S1x1024 .f32) (h : Fin 4) (w : Fin 256) : View.ld x (rg h) (ix2 0 w) = x (ix2 0 (lane2 h w)) := by
  refine congrArg x (funext fun a => ?_)
  match a with
  | ⟨0, _⟩ => exact Fin.ext (by show 0 + 1 * 0 = 0; omega)
  | ⟨1, _⟩ => exact Fin.ext (by show 256 * h.val + 1 * w.val = 256 * h.val + w.val; omega)

theorem rowsOf_ld (x : Vec Ideal S2x64x512 .f32) (b : Fin 2) (h : Fin 4) :
    rowsOf (View.ld x (rq b)) h = fun j d => x (ix3 b j (lane h d)) :=
  funext fun j => funext fun d => ld_rq x b j (lane h d)

variable (hg : ∀ b j l, x2 (ix3 b j l) ≠ ⊤)
include hg

/-- The output block at a point, by pairs. -/
theorem outPoint_apply (b : Fin 2) (h : Fin 4) (i : Fin 64) (w : Fin 256) :
    outPoint x0 x1 x2 x3 x4 x5 xs (ix3 b i (lane2 h w))
      = gated (outp (fun j d => x0 (ix3 b j (lane h d))) (fun j d => x1 (ix3 b j (lane h d))) (fun j d => x2 (ix3 b j (lane h d)))
          (fun j w => x3 (ix3 b j (lane2 h w))) (fun d w => xs (ix3 (slab b h) w d)))
          (fun w => x5 (ix2 0 (lane2 h w))) (fun i w => x4 (ix3 b i (lane2 h w))) i w := by
  have e : outPoint x0 x1 x2 x3 x4 x5 xs (ix3 b i (lane2 h w)) = outBlock x0 x1 x2 x3 x4 x5 xs b h (ix3 0 i w) := by
    refine Eq.trans ?_ (outBlock_eq x0 x1 x2 x3 x4 x5 xs b h (ix3 0 i w)).symm
    refine congrArg (outPoint x0 x1 x2 x3 x4 x5 xs) (funext fun a => ?_)
    match a with
    | ⟨0, _⟩ => exact Fin.ext (by show b.val = b.val + 1 * 0; omega)
    | ⟨1, _⟩ => exact Fin.ext (by show i.val = 0 + 1 * i.val; omega)
    | ⟨2, _⟩ => exact Fin.ext (by show 256 * h.val + w.val = 256 * h.val + 1 * w.val; omega)
  refine (e.trans (pairOut_apply (View.ld x2 (rq b)) (View.ld x0 (rq b)) (View.ld x1 (rq b)) (fun j l => (ld_rq x2 b j l).symm ▸ hg b j l)
    (View.ld x3 (rv b h)) (View.ld xs (rs b h)) (View.ld x5 (rg h)) (View.ld x4 (rv b h)) h i w)).trans ?_
  congr 1
  · congr 1
    · exact rowsOf_ld x0 b h
    · exact rowsOf_ld x1 b h
    · exact rowsOf_ld x2 b h
    · exact funext fun j => funext fun w => ld_rv (e := .bf16) x3 b h j w
    · exact funext fun d => funext fun w => ld_rs xs b h w d
  · exact funext fun w => ld_rg x5 h w
  · exact funext fun j => funext fun w => ld_rv (e := .f32) x4 b h j w

/-- The state after a point, by pairs. -/
theorem stPoint_apply (b : Fin 2) (h : Fin 4) (d : Fin 128) (w : Fin 256) :
    stPoint x1 x2 x3 xs (ix3 (slab b h) w d)
      = next (fun j d => x1 (ix3 b j (lane h d))) (fun j d => x2 (ix3 b j (lane h d)))
          (fun j w => x3 (ix3 b j (lane2 h w))) (fun d w => xs (ix3 (slab b h) w d)) d w := by
  have e : stPoint x1 x2 x3 xs (ix3 (slab b h) w d) = stBlock x1 x2 x3 xs b h (ix3 0 w d) := by
    refine Eq.trans ?_ (stBlock_eq x1 x2 x3 xs b h (ix3 0 w d)).symm
    refine congrArg (stPoint x1 x2 x3 xs) (funext fun a => ?_)
    match a with
    | ⟨0, _⟩ => exact Fin.ext (by show 4 * b.val + h.val = 4 * b.val + h.val + 1 * 0; omega)
    | ⟨1, _⟩ => exact Fin.ext (by show w.val = 0 + 1 * w.val; omega)
    | ⟨2, _⟩ => exact Fin.ext (by show d.val = 0 + 1 * d.val; omega)
  refine (e.trans (pairSt_apply (View.ld x2 (rq b)) (View.ld x1 (rq b)) (fun j l => (ld_rq x2 b j l).symm ▸ hg b j l)
    (View.ld x3 (rv b h)) (View.ld xs (rs b h)) h d w)).trans ?_
  congr 1
  · exact rowsOf_ld x1 b h
  · exact rowsOf_ld x2 b h
  · exact funext fun j => funext fun w => ld_rv (e := .bf16) x3 b h j w
  · exact funext fun d => funext fun w => ld_rs xs b h w d

end Point

section Grid

variable (m : (ℓ : Loc nD τ sig) → Buf (Elt Ideal) ℓ) (c : Dev nD)

/-- The arguments as the region finds them. -/
abbrev Q : S2x16384x512.Idx → EReal := m ((c : Thread nD τ).loc main_arg0)
abbrev K : S2x16384x512.Idx → EReal := m ((c : Thread nD τ).loc main_arg1)
abbrev LA : S2x16384x512.Idx → EReal := m ((c : Thread nD τ).loc main_arg2)
abbrev VV : S2x16384x1024.Idx → EReal := m ((c : Thread nD τ).loc main_arg3)
abbrev RR : S2x16384x1024.Idx → EReal := m ((c : Thread nD τ).loc main_arg4)
abbrev GN : S4x256.Idx → EReal := m ((c : Thread nD τ).loc main_arg5)

/-- The blocks' places, decided over the grid. -/
theorem places : ∀ t : Fin cfg0.N, (win0_0.index t (0 : Fin 3) = 0 ∧ win0_0.index t (1 : Fin 3) = t.val ∧ win0_0.index t (2 : Fin 3) = 0)
    ∧ (win0_1.index t (0 : Fin 3) = 0 ∧ win0_1.index t (1 : Fin 3) = t.val ∧ win0_1.index t (2 : Fin 3) = 0)
    ∧ (win0_2.index t (0 : Fin 3) = 0 ∧ win0_2.index t (1 : Fin 3) = t.val ∧ win0_2.index t (2 : Fin 3) = 0)
    ∧ (win0_3.index t (0 : Fin 3) = 0 ∧ win0_3.index t (1 : Fin 3) = t.val ∧ win0_3.index t (2 : Fin 3) = 0)
    ∧ (win0_4.index t (0 : Fin 3) = 0 ∧ win0_4.index t (1 : Fin 3) = t.val ∧ win0_4.index t (2 : Fin 3) = 0)
    ∧ (win0_5.index t (0 : Fin 2) = 0 ∧ win0_5.index t (1 : Fin 2) = 0) :=
  (by decide +kernel : ∀ t : Fin grid0.N, _)

theorem tok_val (t : Fin cfg0.N) (j : Fin 64) : (tok t.val j).val = 64 * t.val + j.val := by
  have h := lt_of_lt_of_eq t.isLt (show cfg0.N = 256 from N_0)
  show (64 * t.val + j.val) % 16384 = _
  omega

theorem blk0 (t : Fin cfg0.N) (b : Fin 2) (j : Fin 64) (l : Fin 512) :
    (iblk m c 0 t : Vec Ideal S2x64x512 .f32) (ix3 b j l) = Q m c (ix3 b (tok t.val j) l) := by
  obtain ⟨⟨h0, h1, h2⟩, _⟩ := places t
  unfold iblk
  rw [View.read_apply]
  show V m c main_arg0 _ = _
  rw [V_main_arg0]
  refine congrArg (Q m c) (funext fun a => Fin.ext ?_)
  match a with
  | ⟨0, _⟩ => show win0_0.index t (0 : Fin 3) * 2 + 1 * b.val = b.val; omega
  | ⟨1, _⟩ => show win0_0.index t (1 : Fin 3) * 64 + 1 * j.val = (tok t.val j).val; rw [tok_val]; omega
  | ⟨2, _⟩ => show win0_0.index t (2 : Fin 3) * 512 + 1 * l.val = l.val; omega

theorem blk1 (t : Fin cfg0.N) (b : Fin 2) (j : Fin 64) (l : Fin 512) :
    (iblk m c 1 t : Vec Ideal S2x64x512 .f32) (ix3 b j l) = K m c (ix3 b (tok t.val j) l) := by
  obtain ⟨_, ⟨h0, h1, h2⟩, _⟩ := places t
  unfold iblk
  rw [View.read_apply]
  show V m c main_arg1 _ = _
  rw [V_main_arg1]
  refine congrArg (K m c) (funext fun a => Fin.ext ?_)
  match a with
  | ⟨0, _⟩ => show win0_1.index t (0 : Fin 3) * 2 + 1 * b.val = b.val; omega
  | ⟨1, _⟩ => show win0_1.index t (1 : Fin 3) * 64 + 1 * j.val = (tok t.val j).val; rw [tok_val]; omega
  | ⟨2, _⟩ => show win0_1.index t (2 : Fin 3) * 512 + 1 * l.val = l.val; omega

theorem blk2 (t : Fin cfg0.N) (b : Fin 2) (j : Fin 64) (l : Fin 512) :
    (iblk m c 2 t : Vec Ideal S2x64x512 .f32) (ix3 b j l) = LA m c (ix3 b (tok t.val j) l) := by
  obtain ⟨_, _, ⟨h0, h1, h2⟩, _⟩ := places t
  unfold iblk
  rw [View.read_apply]
  show V m c main_arg2 _ = _
  rw [V_main_arg2]
  refine congrArg (LA m c) (funext fun a => Fin.ext ?_)
  match a with
  | ⟨0, _⟩ => show win0_2.index t (0 : Fin 3) * 2 + 1 * b.val = b.val; omega
  | ⟨1, _⟩ => show win0_2.index t (1 : Fin 3) * 64 + 1 * j.val = (tok t.val j).val; rw [tok_val]; omega
  | ⟨2, _⟩ => show win0_2.index t (2 : Fin 3) * 512 + 1 * l.val = l.val; omega

theorem blk3 (t : Fin cfg0.N) (b : Fin 2) (j : Fin 64) (l : Fin 1024) :
    (iblk m c 3 t : Vec Ideal S2x64x1024 .bf16) (ix3 b j l) = VV m c (ix3 b (tok t.val j) l) := by
  obtain ⟨_, _, _, ⟨h0, h1, h2⟩, _⟩ := places t
  unfold iblk
  rw [View.read_apply]
  show V m c main_arg3 _ = _
  rw [V_main_arg3]
  refine congrArg (VV m c) (funext fun a => Fin.ext ?_)
  match a with
  | ⟨0, _⟩ => show win0_3.index t (0 : Fin 3) * 2 + 1 * b.val = b.val; omega
  | ⟨1, _⟩ => show win0_3.index t (1 : Fin 3) * 64 + 1 * j.val = (tok t.val j).val; rw [tok_val]; omega
  | ⟨2, _⟩ => show win0_3.index t (2 : Fin 3) * 1024 + 1 * l.val = l.val; omega

theorem blk4 (t : Fin cfg0.N) (b : Fin 2) (j : Fin 64) (l : Fin 1024) :
    (iblk m c 4 t : Vec Ideal S2x64x1024 .f32) (ix3 b j l) = RR m c (ix3 b (tok t.val j) l) := by
  obtain ⟨_, _, _, _, ⟨h0, h1, h2⟩, _⟩ := places t
  unfold iblk
  rw [View.read_apply]
  show V m c main_arg4 _ = _
  rw [V_main_arg4]
  refine congrArg (RR m c) (funext fun a => Fin.ext ?_)
  match a with
  | ⟨0, _⟩ => show win0_4.index t (0 : Fin 3) * 2 + 1 * b.val = b.val; omega
  | ⟨1, _⟩ => show win0_4.index t (1 : Fin 3) * 64 + 1 * j.val = (tok t.val j).val; rw [tok_val]; omega
  | ⟨2, _⟩ => show win0_4.index t (2 : Fin 3) * 1024 + 1 * l.val = l.val; omega

/-- The gains laid in one row. -/
theorem V_main_v0 : (V m c main_v0 : S1x1024.Idx → EReal) = shapeCast S1x1024 (GN m c) shapeCasts_S4x256_S1x1024 := rfl

theorem gain_row (h : Fin 4) (w : Fin 256) :
    shapeCast S1x1024 (GN m c : Vec Ideal S4x256 .f32) shapeCasts_S4x256_S1x1024 (ix2 0 (lane2 h w)) = GN m c (ix2 h w) := by
  pointwise
  refine congrArg (GN m c) (funext fun a => Fin.ext ?_)
  match a with
  | ⟨0, _⟩ => show (256 * h.val + w.val) / 256 = h.val; omega
  | ⟨1, _⟩ => show (256 * h.val + w.val) % 256 = w.val; omega

theorem blk5 (t : Fin cfg0.N) (h : Fin 4) (w : Fin 256) :
    (iblk m c 5 t : Vec Ideal S1x1024 .f32) (ix2 0 (lane2 h w)) = GN m c (ix2 h w) := by
  obtain ⟨_, _, _, _, _, h0, h1⟩ := places t
  rw [← gain_row, ← V_main_v0]
  unfold iblk
  rw [View.read_apply]
  show V m c main_v0 _ = _
  refine congrArg (V m c main_v0) (funext fun a => Fin.ext ?_)
  match a with
  | ⟨0, _⟩ => show win0_5.index t (0 : Fin 2) * 1 + 1 * 0 = 0; omega
  | ⟨1, _⟩ => show win0_5.index t (1 : Fin 2) * 1024 + 1 * (lane2 h w).val = (lane2 h w).val; omega

/-- The blocks' rows are the arrays'. -/
theorem rows0 (t : Fin cfg0.N) (b : Fin 2) (h : Fin 4) : (fun j d => (iblk m c 0 t : Vec Ideal S2x64x512 .f32) (ix3 b j (lane h d))) = rows (Q m c) b h t.val :=
  funext fun j => funext fun d => blk0 m c t b j (lane h d)
theorem rows1 (t : Fin cfg0.N) (b : Fin 2) (h : Fin 4) : (fun j d => (iblk m c 1 t : Vec Ideal S2x64x512 .f32) (ix3 b j (lane h d))) = rows (K m c) b h t.val :=
  funext fun j => funext fun d => blk1 m c t b j (lane h d)
theorem rows2' (t : Fin cfg0.N) (b : Fin 2) (h : Fin 4) : (fun j d => (iblk m c 2 t : Vec Ideal S2x64x512 .f32) (ix3 b j (lane h d))) = rows (LA m c) b h t.val :=
  funext fun j => funext fun d => blk2 m c t b j (lane h d)
theorem rows3 (t : Fin cfg0.N) (b : Fin 2) (h : Fin 4) : (fun j w => (iblk m c 3 t : Vec Ideal S2x64x1024 .bf16) (ix3 b j (lane2 h w))) = rows2 (VV m c) b h t.val :=
  funext fun j => funext fun w => blk3 m c t b j (lane2 h w)
theorem rows4 (t : Fin cfg0.N) (b : Fin 2) (h : Fin 4) : (fun j w => (iblk m c 4 t : Vec Ideal S2x64x1024 .f32) (ix3 b j (lane2 h w))) = rows2 (RR m c) b h t.val :=
  funext fun j => funext fun w => blk4 m c t b j (lane2 h w)

/-- The state before chunk `n`. -/
def stateAt (b : Fin 2) (h : Fin 4) (n : ℕ) : Fin 128 → Fin 256 → EReal := state (rows (K m c) b h) (rows (LA m c) b h) (rows2 (VV m c) b h) n

variable (hg : ∀ b s l, LA m c (ix3 b s l) ≠ ⊤)
include hg

/-- A point over a state that is chunk `t`'s leaves the result's block. -/
theorem point_out (t : Fin cfg0.N) (xs : Vec Ideal S8x256x128 .f32) (hx : ∀ b h d w, xs (ix3 (slab b h) w d) = stateAt m c b h t.val d w)
    (b : Fin 2) (h : Fin 4) (i : Fin 64) (w : Fin 256) :
    outPoint (iblk m c 0 t) (iblk m c 1 t) (iblk m c 2 t) (iblk m c 3 t) (iblk m c 4 t) (iblk m c 5 t) xs (ix3 b i (lane2 h w))
      = result (Q m c) (K m c) (LA m c) (VV m c) (RR m c) (GN m c) b h t.val i w := by
  refine (outPoint_apply (iblk m c 0 t) (iblk m c 1 t) (iblk m c 2 t) (iblk m c 3 t) (iblk m c 4 t) (iblk m c 5 t) xs
    (fun b j l => (blk2 m c t b j l).symm ▸ hg b _ l) b h i w).trans ?_
  rw [rows0, rows1, rows2', rows3, rows4, show (fun d w => xs (ix3 (slab b h) w d)) = stateAt m c b h t.val from funext fun d => funext fun w => hx b h d w,
    show (fun w => (iblk m c 5 t : Vec Ideal S1x1024 .f32) (ix2 0 (lane2 h w))) = fun w => GN m c (ix2 h w) from funext fun w => blk5 m c t h w]
  rfl

/-- And the next chunk's state. -/
theorem point_state (t : Fin cfg0.N) (xs : Vec Ideal S8x256x128 .f32) (hx : ∀ b h d w, xs (ix3 (slab b h) w d) = stateAt m c b h t.val d w)
    (b : Fin 2) (h : Fin 4) (d : Fin 128) (w : Fin 256) :
    stPoint (iblk m c 1 t) (iblk m c 2 t) (iblk m c 3 t) xs (ix3 (slab b h) w d) = stateAt m c b h (t.val + 1) d w := by
  refine (stPoint_apply (iblk m c 1 t) (iblk m c 2 t) (iblk m c 3 t) xs
    (fun b j l => (blk2 m c t b j l).symm ▸ hg b _ l) b h d w).trans ?_
  rw [rows1, rows2', rows3, show (fun d w => xs (ix3 (slab b h) w d)) = stateAt m c b h t.val from funext fun d => funext fun w => hx b h d w]
  rfl

/-- One step of the fold over a state that is chunk `t`'s. -/
theorem step_eq (t : Fin cfg0.N) (acc : Vec Ideal S2x64x1024 .bf16 × Vec Ideal S8x256x128 .f32)
    (hx : t.val ≠ 0 → ∀ b h d w, acc.2 (ix3 (slab b h) w d) = stateAt m c b h t.val d w) :
    (∀ b h i w, (stAt0 m c t.val t.isLt acc).1 (ix3 b i (lane2 h w)) = result (Q m c) (K m c) (LA m c) (VV m c) (RR m c) (GN m c) b h t.val i w)
    ∧ (∀ b h d w, (stAt0 m c t.val t.isLt acc).2 (ix3 (slab b h) w d) = stateAt m c b h (t.val + 1) d w) := by
  have hN := lt_of_lt_of_eq t.isLt (show cfg0.N = 256 from N_0)
  by_cases h0 : t.val % 256 = 0
  · have hz : ∀ b h d w, (k0_pay2 (F := Ideal)) (ix3 (slab b h) w d) = stateAt m c b h t.val d w := by
      intro b h d w
      have ht : t.val = 0 := by omega
      rw [ht]
      pointwise [k0_pay2]
      rfl
    rw [stAt0_A m c t acc h0]
    dsimp only
    rw [outA_eq, stA_eq]
    exact ⟨point_out m c hg t _ hz, point_state m c hg t _ hz⟩
  · have hs := hx (by omega)
    rw [stAt0_B m c t acc h0]
    dsimp only
    rw [outB_eq, stB_eq]
    exact ⟨point_out m c hg t _ hs, point_state m c hg t _ hs⟩

/-- The fold after point `n`. -/
theorem fold_eq : ∀ (n : ℕ) (hn : 0 + n < cfg0.N),
    (∀ b h i w, (Pipeline.accAt (fun n h => stAt0 m c n h junk0) (stAt0 m c) 0 n hn).1 (ix3 b i (lane2 h w)) = result (Q m c) (K m c) (LA m c) (VV m c) (RR m c) (GN m c) b h n i w)
    ∧ (∀ b h d w, (Pipeline.accAt (fun n h => stAt0 m c n h junk0) (stAt0 m c) 0 n hn).2 (ix3 (slab b h) w d) = stateAt m c b h (n + 1) d w)
  | 0, hn => step_eq m c hg ⟨0, hn⟩ junk0 (fun h => absurd rfl h)
  | n + 1, hn => by
    have e : 0 + (n + 1) = n + 1 := Nat.zero_add _
    have ih := fold_eq n (Nat.lt_of_succ_lt hn)
    have hs := step_eq m c hg ⟨n + 1, e ▸ hn⟩ (Pipeline.accAt (fun n h => stAt0 m c n h junk0) (stAt0 m c) 0 n (Nat.lt_of_succ_lt hn)) (fun _ => ih.2)
    rw [Pipeline.accAt_succ]
    have e2 : ∀ a (h1 : 0 + (n + 1) < cfg0.N) (h2 : n + 1 < cfg0.N), stAt0 m c (0 + (n + 1)) h1 a = stAt0 m c (n + 1) h2 a := by
      rw [e]; intros; rfl
    rw [e2 _ hn (e ▸ hn)]
    exact hs

/-- THE RESULT ARRAY, at every index. -/
theorem G6_apply (b : Fin 2) (s : Fin 16384) (l : Fin 1024) :
    G6 m c (ix3 b s l) = result (Q m c) (K m c) (LA m c) (VV m c) (RR m c) (GN m c) b ⟨l.val / 256, by omega⟩ (s.val / 64)
      ⟨s.val % 64, Nat.mod_lt _ (by norm_num)⟩ ⟨l.val % 256, Nat.mod_lt _ (by norm_num)⟩ := by
  have hp : pt6Of (ix3 b s l) = s.val / 64 := by
    show 256 * (b.val / 2 - 0) + 1 * (s.val / 64 - 0) + 1 * (l.val / 1024 - 0) = _
    omega
  have hN : cfg0.N = 256 := N_0
  unfold G6
  rw [dif_pos (by rw [hp, hN]; omega), fold0_congr m c _ _ (s.val / 64) (by rw [hN]; omega) hp]
  rw [← (fold_eq m c hg (s.val / 64) (by rw [hN]; omega)).1]
  refine congrArg _ (funext fun a => Fin.ext ?_)
  match a with
  | ⟨0, _⟩ => show b.val % 2 = b.val; omega
  | ⟨1, _⟩ => rfl
  | ⟨2, _⟩ => show l.val % 1024 = 256 * (l.val / 256) + l.val % 256; omega

end Grid

end Cert.KernelIdeal.Scan

end
-- ==== Proof.Scan.Entry.lean ====
/-
  What the reference's loop finds: the chunks of queries, keys, values and log decays, the causal mask, a zero state and
  a zero output, each read at an index.
-/
module

public import proofs.«01_k».proof.Proof.Gen.ReferenceIdeal.Run
public import proofs.«01_k».proof.Proof.Scan.Spec
public import Idealize.ShloMosaic.Lib.Pointwise

@[expose] public section

set_option maxRecDepth 16384

noncomputable section

namespace Cert.ReferenceIdeal.Scan

open Idealize.ShloMosaic Idealize.ShloMosaic.TcCoe Idealize.SL.Sem Cert.ReferenceIdeal Cert.ReferenceIdeal.Value Cert.ReferenceIdeal.Gen Idealize.ShloMosaic.StableHlo
open Cert.Scan

/-- The chunks of an array of 512 lanes. -/
def chunks (x : FVec Ideal S2x16384x512 .f32) : FVec Ideal S256x2x4x64x128 .f32 :=
  transpose S256x2x4x64x128 [1, 0, 3, 2, 4] (shapeCast S2x256x64x4x128 x shapeCasts_S2x16384x512_S2x256x64x4x128) transposes_S2x256x64x4x128_S256x2x4x64x128_1_0_3_2_4

/-- The chunks of an array of 1024 lanes. -/
def chunks2 (x : FVec Ideal S2x16384x1024 .f32) : FVec Ideal S256x2x4x64x256 .f32 :=
  transpose S256x2x4x64x256 [1, 0, 3, 2, 4] (shapeCast S2x256x64x4x256 x shapeCasts_S2x16384x1024_S2x256x64x4x256) transposes_S2x256x64x4x256_S256x2x4x64x256_1_0_3_2_4

theorem chunks_apply (x : FVec Ideal S2x16384x512 .f32) (n : Fin 256) (b : Fin 2) (h : Fin 4) (j : Fin 64) (d : Fin 128) :
    chunks x (ix5 n b h j d) = rows x b h n.val j d := by
  pointwise [chunks]
  refine congrArg x (funext fun a => Fin.ext ?_)
  match a with
  | ⟨0, _⟩ => rfl
  | ⟨1, _⟩ => show n.val * 64 + j.val = (64 * n.val + j.val) % 16384; omega
  | ⟨2, _⟩ => show h.val * 128 + d.val = 128 * h.val + d.val; omega

theorem chunks2_apply (x : FVec Ideal S2x16384x1024 .f32) (n : Fin 256) (b : Fin 2) (h : Fin 4) (j : Fin 64) (w : Fin 256) :
    chunks2 x (ix5 n b h j w) = rows2 x b h n.val j w := by
  pointwise [chunks2]
  refine congrArg x (funext fun a => Fin.ext ?_)
  match a with
  | ⟨0, _⟩ => rfl
  | ⟨1, _⟩ => show n.val * 64 + j.val = (64 * n.val + j.val) % 16384; omega
  | ⟨2, _⟩ => show h.val * 256 + w.val = 256 * h.val + w.val; omega

variable (m : (ℓ : Loc nD τ sig) → Buf (Elt Ideal) ℓ) (c : Dev nD)

/-- The arguments as launched. -/
abbrev Q : FVec Ideal S2x16384x512 .f32 := m ((c.tc : Thread nD τ).loc main_arg0)
abbrev K : FVec Ideal S2x16384x512 .f32 := m ((c.tc : Thread nD τ).loc main_arg1)
abbrev LA : FVec Ideal S2x16384x512 .f32 := m ((c.tc : Thread nD τ).loc main_arg2)
abbrev VV : FVec Ideal S2x16384x1024 .bf16 := m ((c.tc : Thread nD τ).loc main_arg3)
abbrev RR : FVec Ideal S2x16384x1024 .f32 := m ((c.tc : Thread nD τ).loc main_arg4)
abbrev GN : FVec Ideal S4x256 .f32 := m ((c.tc : Thread nD τ).loc main_arg5)

theorem entry0 : entryContents preI m c (Proc.devRef .tc main_v15_0) = mulf (chunks (Q m c)) (broadcastInDim S256x2x4x64x128 ![] bcast_S_S256x2x4x64x128 (constant S_ .f32 0x3DB504F3#32)) := by
  simp only [entryContents, afterL_cons, afterL_nil]
  after_reads_simp
  rfl

theorem entry1 : entryContents preI m c (Proc.devRef .tc main_v15_1) = chunks (K m c) := by
  simp only [entryContents, afterL_cons, afterL_nil]
  after_reads_simp
  rfl

theorem entry2 : entryContents preI m c (Proc.devRef .tc main_v15_2) = chunks2 (VV m c) := by
  simp only [entryContents, afterL_cons, afterL_nil]
  after_reads_simp
  rfl

theorem entry3 : entryContents preI m c (Proc.devRef .tc main_v15_3) = chunks (LA m c) := by
  simp only [entryContents, afterL_cons, afterL_nil]
  after_reads_simp
  rfl

/-- The causal mask: the row's iota against the column's, true or false. -/
def mask : IVec S64x64 1 :=
  select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))

theorem entry4 : entryContents preI m c (Proc.devRef .tc main_v15_4) = mask := by
  simp only [entryContents, afterL_cons, afterL_nil]
  after_reads_simp
  rfl

theorem mask_apply (i j : Fin 64) : mask (ix2 i j) = if j ≤ i then 1#1 else 0#1 := by
  revert i j
  decide +kernel

theorem entry6 : entryContents preI m c (Proc.devRef .tc main_v15_6) = fun _ => (0 : EReal) := by
  simp only [entryContents, afterL_cons, afterL_nil]
  after_reads_simp
  funext i
  show Ideal.ofBits .f32 0#32 = 0
  exact Ideal.ofBits_zero .f32

end Cert.ReferenceIdeal.Scan

end
-- ==== Proof.Scan.Trip.lean ====
/-
  One trip of the reference's loop read at an index: the chunk's slices, the accumulated decay, the next state and the
  chunk's output written into its slab.
-/
module

public import proofs.«01_k».proof.Proof.Scan.Entry
public import proofs.«01_k».proof.Proof.Scan.Scalars
public import Idealize.ShloMosaic.Lib.DynamicIndex
public import Idealize.ShloMosaic.Lib.WordCmp
public import Idealize.ShloMosaic.Lib.IdealHost

@[expose] public section

set_option maxRecDepth 16384

noncomputable section

namespace Cert.ReferenceIdeal.Scan

open Idealize.ShloMosaic Idealize.ShloMosaic.TcCoe Idealize.SL.Sem Cert.ReferenceIdeal Cert.ReferenceIdeal.Value Cert.ReferenceIdeal.Gen Idealize.ShloMosaic.StableHlo
open Cert.Scan
open scoped BigOperators

/-! ## A window sum that accumulates one axis -/

theorem foldl_sum (N : ℕ) (v : EReal) (f : Fin N → EReal) : (List.finRange N).foldl (fun r n => r + f n) v = v + ∑ n : Fin N, f n := by
  rw [Fin.sum_univ_def]
  induction List.finRange N generalizing v with
  | nil => simp
  | cons a l ih => rw [List.foldl_cons, ih, List.map_cons, List.sum_cons, add_assoc]

theorem sum_shift (i : Fin 64) (f : Fin 64 → EReal) :
    (∑ n : Fin 64, if h : 63 ≤ i.val + n.val ∧ i.val + n.val - 63 < 64 then f ⟨i.val + n.val - 63, h.2⟩ else 0) = ∑ j : Fin 64, if j ≤ i then f j else 0 := by
  have hL : ∀ n : Fin 64, (if h : 63 ≤ i.val + n.val ∧ i.val + n.val - 63 < 64 then f ⟨i.val + n.val - 63, h.2⟩ else 0)
      = if 63 ≤ i.val + n.val then f ⟨i.val + n.val - 63, by omega⟩ else 0 := by
    intro n
    by_cases h : 63 ≤ i.val + n.val
    · rw [dif_pos ⟨h, by omega⟩, if_pos h]
    · rw [dif_neg (fun hh => h hh.1), if_neg h]
  simp only [hL]
  rw [← Finset.sum_filter, ← Finset.sum_filter]
  refine Finset.sum_bij' (fun n _ => ⟨i.val + n.val - 63, by omega⟩) (fun j _ => ⟨(j.val + 63 - i.val) % 64, Nat.mod_lt _ (by norm_num)⟩) ?_ ?_ ?_ ?_ ?_
  · intro n hn
    simp only [Finset.mem_filter, Finset.mem_univ, true_and] at hn ⊢
    exact Fin.mk_le_of_le_val (by omega)
  · intro j hj
    simp only [Finset.mem_filter, Finset.mem_univ, true_and] at hj ⊢
    have : j.val ≤ i.val := hj
    omega
  · intro n hn
    simp only [Finset.mem_filter, Finset.mem_univ, true_and] at hn
    exact Fin.ext (by show (i.val + n.val - 63 + 63 - i.val) % 64 = n.val; omega)
  · intro j hj
    simp only [Finset.mem_filter, Finset.mem_univ, true_and] at hj
    have : j.val ≤ i.val := hj
    exact Fin.ext (by show i.val + (j.val + 63 - i.val) % 64 - 63 = j.val; omega)
  · intro n hn
    rfl

/-- A host window sum at an index: the initial value, and the operand at every window position inside it. -/
theorem windowAdd_apply {s t u : Shape} (window strides lo hi : Fin s.rank → Nat) (x : FVec Ideal s .f32) (init : u.Idx → EReal)
    (h : s.ReduceWindows window strides lo hi t) (hu : 0 < u.numel) (j : t.Idx) :
    (Host.reduceWindowAdd (F := Ideal) (φ := .f32) window strides lo hi x init h hu : FVec Ideal t .f32) j
      = init (Shape.Idx.first hu) + ∑ k : (⟨s.rank, window⟩ : Shape).Idx,
          if hin : ∀ a, lo a ≤ (j (a.cast h.1.symm)).val * strides a + (k a).val ∧ (j (a.cast h.1.symm)).val * strides a + (k a).val - lo a < s.size a then
            x (fun a => ⟨(j (a.cast h.1.symm)).val * strides a + (k a).val - lo a, (hin a).2⟩) else init (Shape.Idx.first hu) := by
  refine (foldl_sum _ _ _).trans ?_
  refine congrArg (init (Shape.Idx.first hu) + ·) (Eq.trans (Finset.sum_congr rfl fun k _ => ?_) (Equiv.sum_comp (⟨s.rank, window⟩ : Shape).rowMajor.symm _))
  by_cases hin : ∀ a, lo a ≤ (j (a.cast h.1.symm)).val * strides a + ((⟨s.rank, window⟩ : Shape).rowMajor.symm k a).val
      ∧ (j (a.cast h.1.symm)).val * strides a + ((⟨s.rank, window⟩ : Shape).rowMajor.symm k a).val - lo a < s.size a
  · refine (dif_pos hin).trans ?_
    rw [dif_pos hin]
  · refine (dif_neg hin).trans ?_
    rw [dif_neg hin]

/-- The window's positions are the tokens of the chunk. -/
def windowEquiv : (⟨4, ![1, 1, 64, 1]⟩ : Shape).Idx ≃ Fin 64 where
  toFun k := k 2
  invFun n := ix4 0 0 n 0
  left_inv k := by
    funext a
    match a with
    | ⟨0, _⟩ => exact Subsingleton.elim (α := Fin 1) _ _
    | ⟨1, _⟩ => exact Subsingleton.elim (α := Fin 1) _ _
    | ⟨2, _⟩ => rfl
    | ⟨3, _⟩ => exact Subsingleton.elim (α := Fin 1) _ _
  right_inv n := rfl

theorem cumsum_apply (x : FVec Ideal S2x4x64x128 .f32) (hr) (hu) (b : Fin 2) (h : Fin 4) (i : Fin 64) (d : Fin 128) :
    (Host.reduceWindowAdd (t := S2x4x64x128) ![1, 1, 64, 1] ![1, 1, 1, 1] ![0, 0, 63, 0] ![0, 0, 0, 0] x (broadcastInDim S_ ![] bcast_S_S_ (constant S_ .f32 0x00000000#32)) hr hu : FVec Ideal S2x4x64x128 .f32) (ix4 b h i d)
      = cum (fun j d => x (ix4 b h j d)) i d := by
  rw [windowAdd_apply]
  have hv : (broadcastInDim S_ ![] bcast_S_S_ (constant (F := Ideal) S_ .f32 0x00000000#32) : FVec Ideal S_ .f32) (Shape.Idx.first hu) = 0 := Ideal.ofBits_zero_f32
  rw [hv, zero_add, cum, ← sum_shift i (fun j => x (ix4 b h j d))]
  refine Fintype.sum_equiv windowEquiv _ _ fun k => ?_
  have k0 : (k 0).val < 1 := (k 0).isLt
  have k1 : (k 1).val < 1 := (k 1).isLt
  have k2 : (k 2).val < 64 := (k 2).isLt
  have k3 : (k 3).val < 1 := (k 3).isLt
  by_cases hn : 63 ≤ i.val + (k 2).val ∧ i.val + (k 2).val - 63 < 64
  · refine (dif_pos ?_).trans (Eq.trans ?_ (dif_pos hn).symm)
    rotate_left
    · refine congrArg x (funext fun a => Fin.ext ?_)
      match a with
      | ⟨0, _⟩ => show b.val * 1 + (k 0).val - 0 = b.val; omega
      | ⟨1, _⟩ => show h.val * 1 + (k 1).val - 0 = h.val; omega
      | ⟨2, _⟩ => show i.val * 1 + (k 2).val - 63 = i.val + (k 2).val - 63; omega
      | ⟨3, _⟩ => show d.val * 1 + (k 3).val - 0 = d.val; omega
    · intro a
      match a with
      | ⟨0, _⟩ => show 0 ≤ b.val * 1 + (k 0).val ∧ b.val * 1 + (k 0).val - 0 < 2; omega
      | ⟨1, _⟩ => show 0 ≤ h.val * 1 + (k 1).val ∧ h.val * 1 + (k 1).val - 0 < 4; omega
      | ⟨2, _⟩ => show 63 ≤ i.val * 1 + (k 2).val ∧ i.val * 1 + (k 2).val - 63 < 64; omega
      | ⟨3, _⟩ => show 0 ≤ d.val * 1 + (k 3).val ∧ d.val * 1 + (k 3).val - 0 < 128; omega
  · refine (dif_neg fun hh => hn ?_).trans ?_
    rotate_left
    · rw [dif_neg]
      exact hn
    have h2 : 63 ≤ i.val * 1 + (k 2).val ∧ i.val * 1 + (k 2).val - 63 < 64 := hh 2
    omega

/-! ## The slices at trip `n` -/

section Trip

variable (V0 : Valuation τ sig (Elt Ideal)) (n : Fin 256) (hc : V0 (Proc.devRef .tc main_v15_5) = fun _ => Scf.iv 0#32 1#32 n.val)
include hc

theorem ctr_toInt : BitVec.toInt (Scf.iv 0#32 1#32 n.val : BitVec 32) = (n.val : Int) := by
  rw [show (Scf.iv 0#32 1#32 n.val : BitVec 32) = BitVec.ofNat 32 n.val from by rw [Scf.iv, BitVec.mul_one, BitVec.zero_add]]
  exact toInt_ofNat_of_lt (by omega)

theorem starts (k : Fin 5) : (((![V0 (Proc.devRef .tc main_v15_5), constantI S_ 32 0#32, constantI S_ 32 0#32, constantI S_ 32 0#32, constantI S_ 32 0#32] : Fin 5 → (⟨S_, .i32⟩ : BufTy).Contents (Elt Ideal))) k (Shape.Idx.first h_S_)).toInt = ((![n.val, 0, 0, 0, 0] : Fin 5 → ℕ) k : Int) := by
  rw [hc]
  match k with
  | ⟨0, _⟩ => exact ctr_toInt V0 n hc
  | ⟨1, _⟩ => rfl
  | ⟨2, _⟩ => rfl
  | ⟨3, _⟩ => rfl
  | ⟨4, _⟩ => rfl

/-- Trip `n`'s slices. -/
theorem slice (x : FVec Ideal S256x2x4x64x128 .f32) (hs) (hf) (b : Fin 2) (h : Fin 4) (j : Fin 64) (d : Fin 128) :
    shapeCast S2x4x64x128 (Host.dynamicSlice S1x2x4x64x128 x (fun k => (((![V0 (Proc.devRef .tc main_v15_5), constantI S_ 32 0#32, constantI S_ 32 0#32, constantI S_ 32 0#32, constantI S_ 32 0#32] : Fin 5 → (⟨S_, .i32⟩ : BufTy).Contents (Elt Ideal))) k (Shape.Idx.first h_S_)).toInt) hf) hs (ix4 b h j d)
      = x (ix5 n b h j d) := by
  rw [Host.dynamicSlice_eq_extractStridedSlice S1x2x4x64x128 x _ ![n.val, 0, 0, 0, 0] hf ⟨rfl, fun a => by
    match a with
    | ⟨0, _⟩ => show n.val + 1 ≤ 256; omega
    | ⟨1, _⟩ => show 0 + 2 ≤ 2; omega
    | ⟨2, _⟩ => show 0 + 4 ≤ 4; omega
    | ⟨3, _⟩ => show 0 + 64 ≤ 64; omega
    | ⟨4, _⟩ => show 0 + 128 ≤ 128; omega⟩ (starts V0 n hc)]
  pointwise

theorem slice2 (x : FVec Ideal S256x2x4x64x256 .f32) (hs) (hf) (b : Fin 2) (h : Fin 4) (j : Fin 64) (w : Fin 256) :
    shapeCast S2x4x64x256 (Host.dynamicSlice S1x2x4x64x256 x (fun k => (((![V0 (Proc.devRef .tc main_v15_5), constantI S_ 32 0#32, constantI S_ 32 0#32, constantI S_ 32 0#32, constantI S_ 32 0#32] : Fin 5 → (⟨S_, .i32⟩ : BufTy).Contents (Elt Ideal))) k (Shape.Idx.first h_S_)).toInt) hf) hs (ix4 b h j w)
      = x (ix5 n b h j w) := by
  rw [Host.dynamicSlice_eq_extractStridedSlice S1x2x4x64x256 x _ ![n.val, 0, 0, 0, 0] hf ⟨rfl, fun a => by
    match a with
    | ⟨0, _⟩ => show n.val + 1 ≤ 256; omega
    | ⟨1, _⟩ => show 0 + 2 ≤ 2; omega
    | ⟨2, _⟩ => show 0 + 4 ≤ 4; omega
    | ⟨3, _⟩ => show 0 + 64 ≤ 64; omega
    | ⟨4, _⟩ => show 0 + 256 ≤ 256; omega⟩ (starts V0 n hc)]
  pointwise

variable (q k g : ℕ → Fin 64 → Fin 128 → EReal)

theorem v36_apply (b : Fin 2) (h : Fin 4) (j : Fin 64) (d : Fin 128) :
    (res_main_while0b_v36 V0 : FVec Ideal S2x4x64x128 .f32) (ix4 b h j d) = (V0 (Proc.devRef .tc main_v15_1) : FVec Ideal S256x2x4x64x128 .f32) (ix5 n b h j d) :=
  slice V0 n hc (V0 (Proc.devRef .tc main_v15_1)) _ _ b h j d

theorem v37_apply (b : Fin 2) (h : Fin 4) (j : Fin 64) (w : Fin 256) :
    (res_main_while0b_v37 V0 : FVec Ideal S2x4x64x256 .f32) (ix4 b h j w) = (V0 (Proc.devRef .tc main_v15_2) : FVec Ideal S256x2x4x64x256 .f32) (ix5 n b h j w) :=
  slice2 V0 n hc (V0 (Proc.devRef .tc main_v15_2)) _ _ b h j w

theorem v39_apply (b : Fin 2) (h : Fin 4) (i : Fin 64) (d : Fin 128) :
    (res_main_while0b_v39 V0 : FVec Ideal S2x4x64x128 .f32) (ix4 b h i d) = cum (fun j d => (V0 (Proc.devRef .tc main_v15_3) : FVec Ideal S256x2x4x64x128 .f32) (ix5 n b h j d)) i d := by
  refine (cumsum_apply _ _ _ b h i d).trans ?_
  congr 1
  exact funext fun j => funext fun d => slice V0 n hc (V0 (Proc.devRef .tc main_v15_3)) _ _ b h j d

theorem v40_apply (b : Fin 2) (h : Fin 4) (d : Fin 128) :
    (res_main_while0b_v40 V0 : FVec Ideal S2x4x1x128 .f32) (ix4 b h 0 d) = cum (fun j d => (V0 (Proc.devRef .tc main_v15_3) : FVec Ideal S256x2x4x64x128 .f32) (ix5 n b h j d)) 63 d := by
  rw [← v39_apply V0 n hc]
  unfold res_main_while0b_v40
  generalize (res_main_while0b_v39 V0 : FVec Ideal S2x4x64x128 .f32) = y
  pointwise

theorem v42_apply (b : Fin 2) (h : Fin 4) (i : Fin 64) (d : Fin 128) (x : EReal)
    (hx : (V0 (Proc.devRef .tc main_v15_0) : FVec Ideal S256x2x4x64x128 .f32) (ix5 n b h i d) = x) :
    @Eq EReal ((res_main_while0b_v42 V0 : FVec Ideal S2x4x64x128 .f32) (ix4 b h i d))
      (x * Ideal.exp (cum (fun j d => (V0 (Proc.devRef .tc main_v15_3) : FVec Ideal S256x2x4x64x128 .f32) (ix5 n b h j d)) i d)) := by
  rw [← hx, ← v39_apply V0 n hc, ← slice V0 n hc (V0 (Proc.devRef .tc main_v15_0)) shapeCasts_S1x2x4x64x128_S2x4x64x128 sliceFits_S256x2x4x64x128_S1x2x4x64x128]
  rfl

end Trip

/-- The next state's operations, at an index. -/
theorem nextState_apply (bl : FVec Ideal S2x4x1x128 .f32) (k b : FVec Ideal S2x4x64x128 .f32) (v : FVec Ideal S2x4x64x256 .f32) (st : FVec Ideal S2x4x128x256 .f32)
    (i : Fin 2) (h : Fin 4) (d : Fin 128) (w : Fin 256) :
    (addf (mulf (broadcastInDim S2x4x128x256 ![0, 1, 2, 3] bcast_S2x4x128x1_S2x4x128x256_0_1_2_3 (broadcastInDim S2x4x128x1 ![0, 1, 2] bcast_S2x4x128_S2x4x128x1_0_1_2 (Host.exp (shapeCast S2x4x128 bl shapeCasts_S2x4x1x128_S2x4x128)))) st) (Host.dotGeneral dot_S2x4x64x128_S2x4x64x256_S2x4x128x256_2_2_3_3_01_01 none (mulf k (Host.exp (subf (broadcastInDim S2x4x64x128 ![0, 1, 2, 3] bcast_S2x4x1x128_S2x4x64x128_0_1_2_3 bl) b))) v) : FVec Ideal S2x4x128x256 .f32) (ix4 i h d w)
      = Ideal.exp (bl (ix4 i h 0 d)) * st (ix4 i h d w) + ∑ j : Fin 64, (k (ix4 i h j d) * Ideal.exp (bl (ix4 i h 0 d) - b (ix4 i h j d))) * v (ix4 i h j w) := by
  pointwise

/-- The chunk's output's operations, at an index. -/
theorem chunkOut_apply (qd ki : FVec Ideal S2x4x64x128 .f32) (v : FVec Ideal S2x4x64x256 .f32) (st : FVec Ideal S2x4x128x256 .f32)
    (b : Fin 2) (h : Fin 4) (i : Fin 64) (w : Fin 256) :
    (broadcastInDim S1x2x4x64x256 ![1, 2, 3, 4] bcast_S2x4x64x256_S1x2x4x64x256_1_2_3_4 (addf (Host.dotGeneral dot_S2x4x64x64_S2x4x64x256_S2x4x64x256_3_2_2_3_01_01 none (select (broadcastInDim S2x4x64x64 ![2, 3] bcast_S64x64_S2x4x64x64_2_3 mask) (Host.dotGeneral dot_S2x4x64x128_S2x4x64x128_S2x4x64x64_3_3_2_2_01_01 none qd ki) (broadcastInDim S2x4x64x64 ![] bcast_S_S2x4x64x64 (id (constant S_ .f32 0x00000000#32)))) v) (Host.dotGeneral dot_S2x4x64x128_S2x4x128x256_S2x4x64x256_3_2_2_3_01_01 none qd st)) : FVec Ideal S1x2x4x64x256 .f32) (ix5 0 b h i w)
      = (∑ j : Fin 64, (if j ≤ i then ∑ d : Fin 128, qd (ix4 b h i d) * ki (ix4 b h j d) else 0) * v (ix4 b h j w))
        + ∑ d : Fin 128, qd (ix4 b h i d) * st (ix4 b h d w) := by
  pointwise
  refine congrArg (· + _) (Finset.sum_congr rfl fun j _ => congrArg (· * _) ?_)
  show (if (mask (ix2 i j)) = 1#1 then (∑ d : Fin 128, qd (ix4 b h i d) * ki (ix4 b h j d)) else Ideal.ofBits .f32 0x00000000#32) = _
  rw [mask_apply, Ideal.ofBits_zero_f32]
  by_cases hij : j ≤ i
  · rw [if_pos hij, if_pos hij, if_pos rfl]
  · rw [if_neg hij, if_neg hij, if_neg (by decide)]

/-! ## Writing one slab -/

theorem fitsAt (n : Fin 256) : S256x2x4x64x256.Slices ![n.val, 0, 0, 0, 0] S1x2x4x64x256 :=
  ⟨rfl, fun a => by
    match a with
    | ⟨0, _⟩ => show n.val + 1 ≤ 256; omega
    | ⟨1, _⟩ => show 0 + 2 ≤ 2; omega
    | ⟨2, _⟩ => show 0 + 4 ≤ 4; omega
    | ⟨3, _⟩ => show 0 + 64 ≤ 64; omega
    | ⟨4, _⟩ => show 0 + 256 ≤ 256; omega⟩

theorem updateSlice_here (n : Fin 256) (x : FVec Ideal S256x2x4x64x256 .f32) (u : FVec Ideal S1x2x4x64x256 .f32) (b : Fin 2) (h : Fin 4) (i : Fin 64) (w : Fin 256) :
    updateSlice x u ![n.val, 0, 0, 0, 0] (fitsAt n) (ix5 n b h i w) = u (ix5 0 b h i w) := by
  unfold updateSlice
  rw [dif_pos]
  · refine congrArg u (funext fun a => Fin.ext ?_)
    match a with
    | ⟨0, _⟩ => show n.val - n.val = 0; omega
    | ⟨1, _⟩ => rfl
    | ⟨2, _⟩ => rfl
    | ⟨3, _⟩ => rfl
    | ⟨4, _⟩ => rfl
  · intro a
    match a with
    | ⟨0, _⟩ => show n.val ≤ n.val ∧ n.val < n.val + 1; omega
    | ⟨1, _⟩ => show 0 ≤ b.val ∧ b.val < 0 + 2; omega
    | ⟨2, _⟩ => show 0 ≤ h.val ∧ h.val < 0 + 4; omega
    | ⟨3, _⟩ => show 0 ≤ i.val ∧ i.val < 0 + 64; omega
    | ⟨4, _⟩ => show 0 ≤ w.val ∧ w.val < 0 + 256; omega

theorem updateSlice_away (n : Fin 256) (x : FVec Ideal S256x2x4x64x256 .f32) (u : FVec Ideal S1x2x4x64x256 .f32) (t : Fin 256) (ht : t ≠ n) (b : Fin 2) (h : Fin 4) (i : Fin 64) (w : Fin 256) :
    updateSlice x u ![n.val, 0, 0, 0, 0] (fitsAt n) (ix5 t b h i w) = x (ix5 t b h i w) := by
  unfold updateSlice
  rw [dif_neg]
  intro hh
  have h0 : n.val ≤ t.val ∧ t.val < n.val + 1 := hh 0
  exact ht (Fin.ext (by omega))

/-! ## One trip's state and outputs -/

section Step

variable (V0 : Valuation τ sig (Elt Ideal)) (n : Fin 256) (hc : V0 (Proc.devRef .tc main_v15_5) = fun _ => Scf.iv 0#32 1#32 n.val)
  (q k g : Fin 2 → Fin 4 → Fin 64 → Fin 128 → EReal) (v : Fin 2 → Fin 4 → Fin 64 → Fin 256 → EReal) (st : Fin 2 → Fin 4 → Fin 128 → Fin 256 → EReal)
  (hq : ∀ b h j d, (V0 (Proc.devRef .tc main_v15_0) : FVec Ideal S256x2x4x64x128 .f32) (ix5 n b h j d) = (q b h j d * scale : EReal))
  (hk : ∀ b h j d, (V0 (Proc.devRef .tc main_v15_1) : FVec Ideal S256x2x4x64x128 .f32) (ix5 n b h j d) = k b h j d)
  (hv : ∀ b h j w, (V0 (Proc.devRef .tc main_v15_2) : FVec Ideal S256x2x4x64x256 .f32) (ix5 n b h j w) = v b h j w)
  (hg : ∀ b h j d, (V0 (Proc.devRef .tc main_v15_3) : FVec Ideal S256x2x4x64x128 .f32) (ix5 n b h j d) = g b h j d)
  (hm : V0 (Proc.devRef .tc main_v15_4) = mask)
  (hst : ∀ b h d w, (V0 (Proc.devRef .tc main_v15_6) : FVec Ideal S2x4x128x256 .f32) (ix4 b h d w) = st b h d w)

include hc

include hg in
theorem gs (b : Fin 2) (h : Fin 4) : (fun j d => (V0 (Proc.devRef .tc main_v15_3) : FVec Ideal S256x2x4x64x128 .f32) (ix5 n b h j d)) = g b h :=
  funext fun j => funext fun d => hg b h j d

include hk hv hg hst in
theorem step6 (b : Fin 2) (h : Fin 4) (d : Fin 128) (w : Fin 256) :
    @Eq EReal ((step_main_v15_6 V0 : FVec Ideal S2x4x128x256 .f32) (ix4 b h d w)) (next (k b h) (g b h) (v b h) (st b h) d w) := by
  unfold step_main_v15_6
  rw [id]
  refine (nextState_apply _ _ _ _ _ b h d w).trans ?_
  rw [v40_apply V0 n hc, gs V0 n hc g hg, hst]
  refine congrArg (_ + ·) (Finset.sum_congr rfl fun j _ => ?_)
  rw [v36_apply V0 n hc, v37_apply V0 n hc, v39_apply V0 n hc, gs V0 n hc g hg, hk, hv]

include hq hk hv hg hm hst in
theorem step7_here (b : Fin 2) (h : Fin 4) (i : Fin 64) (w : Fin 256) :
    @Eq EReal ((step_main_v15_7 V0 : FVec Ideal S256x2x4x64x256 .f32) (ix5 n b h i w)) (outp (q b h) (k b h) (g b h) (v b h) (st b h) i w) := by
  unfold step_main_v15_7
  rw [id]
  rw [WordCmp.dynamicUpdateSlice_eq_update _ _ _ _ ![n.val, 0, 0, 0, 0] (fitsAt n) (starts V0 n hc), hm]
  refine (updateSlice_here n _ _ b h i w).trans ?_
  refine (chunkOut_apply _ _ _ _ b h i w).trans ?_
  have e : ∀ d, @Eq EReal ((res_main_while0b_v42 V0 : FVec Ideal S2x4x64x128 .f32) (ix4 b h i d)) (qdec (q b h) (g b h) i d) := fun d => by
    refine (v42_apply V0 n hc b h i d _ (hq b h i d)).trans ?_
    rw [gs V0 n hc g hg]
    rfl
  have e2 : ∀ j d, @Eq EReal ((mulf (res_main_while0b_v36 V0) (Host.exp (Host.negf (res_main_while0b_v39 V0))) : FVec Ideal S2x4x64x128 .f32) (ix4 b h j d)) (kinv (k b h) (g b h) j d) := fun j d => by
    have key : ∀ x y : FVec Ideal S2x4x64x128 .f32, mulf x (Host.exp (Host.negf y)) (ix4 b h j d) = x (ix4 b h j d) * Ideal.exp (-(y (ix4 b h j d))) := fun _ _ => rfl
    refine (key _ _).trans ?_
    rw [v36_apply V0 n hc, v39_apply V0 n hc, gs V0 n hc g hg, hk]
    rfl
  refine congr (congrArg _ (Finset.sum_congr rfl fun j _ => ?_)) (Finset.sum_congr rfl fun d _ => ?_)
  · rw [v37_apply V0 n hc, hv]
    refine congrArg (· * _) ?_
    unfold score
    by_cases hij : j ≤ i
    · rw [if_pos hij, if_pos hij]
      exact Finset.sum_congr rfl fun d _ => congr (congrArg _ (e d)) (e2 j d)
    · rw [if_neg hij, if_neg hij]
  · rw [hst]
    exact congrArg (· * _) (e d)

theorem step7_away (t : Fin 256) (ht : t ≠ n) (b : Fin 2) (h : Fin 4) (i : Fin 64) (w : Fin 256) :
    @Eq EReal ((step_main_v15_7 V0 : FVec Ideal S256x2x4x64x256 .f32) (ix5 t b h i w)) ((V0 (Proc.devRef .tc main_v15_7) : FVec Ideal S256x2x4x64x256 .f32) (ix5 t b h i w)) := by
  unfold step_main_v15_7
  rw [id]
  rw [WordCmp.dynamicUpdateSlice_eq_update _ _ _ _ ![n.val, 0, 0, 0, 0] (fitsAt n) (starts V0 n hc)]
  exact updateSlice_away n _ _ t ht b h i w

theorem step5 : step_main_v15_5 V0 = fun _ => Scf.iv 0#32 1#32 (n.val + 1) := by
  unfold step_main_v15_5
  rw [hc]
  funext _
  show (0#32 + BitVec.ofNat 32 n.val * 1#32) + 1#32 = 0#32 + BitVec.ofNat 32 (n.val + 1) * 1#32
  rw [BitVec.mul_one, BitVec.zero_add, BitVec.mul_one, BitVec.zero_add, BitVec.ofNat_add]

end Step

end Cert.ReferenceIdeal.Scan

end
-- ==== Proof.Scan.Loop.lean ====
/-
  The reference's loop over the chunks, read as the recurrence: after `k` trips the carried state is the state before
  chunk `k` and the first `k` slabs of the output hold their chunks' outputs.
-/
module

public import proofs.«01_k».proof.Proof.Scan.Trip

@[expose] public section

set_option maxRecDepth 16384

noncomputable section

namespace Cert.ReferenceIdeal.Scan

open Idealize.ShloMosaic Idealize.ShloMosaic.TcCoe Idealize.SL.Sem Cert.ReferenceIdeal Cert.ReferenceIdeal.Value Cert.ReferenceIdeal.Gen Idealize.ShloMosaic.StableHlo
open Cert.Scan

variable (m : (ℓ : Loc nD τ sig) → Buf (Elt Ideal) ℓ) (c : Dev nD)

/-- One pair's chunks and its carried state. -/
abbrev stateOf (b : Fin 2) (h : Fin 4) (n : ℕ) : Fin 128 → Fin 256 → EReal := state (rows (K m c) b h) (rows (LA m c) b h) (rows2 (VV m c) b h) n
abbrev outOf (b : Fin 2) (h : Fin 4) (n : ℕ) : Fin 64 → Fin 256 → EReal :=
  outp (rows (Q m c) b h n) (rows (K m c) b h n) (rows (LA m c) b h n) (rows2 (VV m c) b h n) (stateOf m c b h n)

/-- What holds before trip `k`. -/
structure Inv (k : ℕ) (V : Valuation τ sig (Elt Ideal)) : Prop where
  h_q : ∀ (n : Fin 256) b h j d, (V (Proc.devRef .tc main_v15_0) : FVec Ideal S256x2x4x64x128 .f32) (ix5 n b h j d) = (rows (Q m c) b h n.val j d * scale : EReal)
  h_k : ∀ (n : Fin 256) b h j d, (V (Proc.devRef .tc main_v15_1) : FVec Ideal S256x2x4x64x128 .f32) (ix5 n b h j d) = rows (K m c) b h n.val j d
  h_v : ∀ (n : Fin 256) b h j w, (V (Proc.devRef .tc main_v15_2) : FVec Ideal S256x2x4x64x256 .f32) (ix5 n b h j w) = rows2 (VV m c) b h n.val j w
  h_g : ∀ (n : Fin 256) b h j d, (V (Proc.devRef .tc main_v15_3) : FVec Ideal S256x2x4x64x128 .f32) (ix5 n b h j d) = rows (LA m c) b h n.val j d
  h_m : V (Proc.devRef .tc main_v15_4) = mask
  h_ctr : V (Proc.devRef .tc main_v15_5) = fun _ => Scf.iv 0#32 1#32 k
  h_st : ∀ b h d w, (V (Proc.devRef .tc main_v15_6) : FVec Ideal S2x4x128x256 .f32) (ix4 b h d w) = stateOf m c b h k d w
  h_out : ∀ (t : Fin 256), t.val < k → ∀ b h i w, (V (Proc.devRef .tc main_v15_7) : FVec Ideal S256x2x4x64x256 .f32) (ix5 t b h i w) = outOf m c b h t.val i w

theorem inv_zero : Inv m c 0 (entryContents preI m c) where
  h_q n b h j d := by rw [entry0, ← chunks_apply]; rfl
  h_k n b h j d := by rw [entry1, chunks_apply]
  h_v n b h j w := by rw [entry2]; exact chunks2_apply (VV m c) n b h j w
  h_g n b h j d := by rw [entry3, chunks_apply]
  h_m := entry4 m c
  h_ctr := ctr_entry m c
  h_st b h d w := by rw [entry6]; rfl
  h_out t ht := absurd ht (Nat.not_lt_zero _)

theorem inv_succ (k : ℕ) (hk : k < 256) (V : Valuation τ sig (Elt Ideal)) (I : Inv m c k V) : Inv m c (k + 1) (STEP V) where
  h_q := by rw [STEP_main_v15_0]; exact I.h_q
  h_k := by rw [STEP_main_v15_1]; exact I.h_k
  h_v := by rw [STEP_main_v15_2]; exact I.h_v
  h_g := by rw [STEP_main_v15_3]; exact I.h_g
  h_m := by rw [STEP_main_v15_4]; exact I.h_m
  h_ctr := by rw [STEP_main_v15_5]; exact step5 V ⟨k, hk⟩ I.h_ctr
  h_st b h d w := by
    rw [STEP_main_v15_6]
    exact step6 V ⟨k, hk⟩ I.h_ctr (fun b h => rows (K m c) b h k) (fun b h => rows (LA m c) b h k) (fun b h => rows2 (VV m c) b h k) (fun b h => stateOf m c b h k)
      (I.h_k ⟨k, hk⟩) (I.h_v ⟨k, hk⟩) (I.h_g ⟨k, hk⟩) I.h_st b h d w
  h_out t ht b h i w := by
    rw [STEP_main_v15_7]
    by_cases e : t.val = k
    · have e' : t = ⟨k, hk⟩ := Fin.ext e
      subst e'
      exact step7_here V ⟨k, hk⟩ I.h_ctr (fun b h => rows (Q m c) b h k) (fun b h => rows (K m c) b h k) (fun b h => rows (LA m c) b h k) (fun b h => rows2 (VV m c) b h k) (fun b h => stateOf m c b h k)
        (I.h_q ⟨k, hk⟩) (I.h_k ⟨k, hk⟩) (I.h_v ⟨k, hk⟩) (I.h_g ⟨k, hk⟩) I.h_m I.h_st b h i w
    · exact (step7_away V ⟨k, hk⟩ I.h_ctr t (fun h => e (congrArg Fin.val h)) b h i w).trans (I.h_out t (by omega) b h i w)

theorem inv_all : ∀ k, k ≤ 256 → Inv m c k (STEP^[k] (entryContents preI m c))
  | 0, _ => inv_zero m c
  | k + 1, hk => by
    rw [Function.iterate_succ_apply']
    exact inv_succ m c k (by omega) _ (inv_all k (by omega))

/-! ## The norm and the gate -/

theorem exp_nonneg (x : EReal) : 0 ≤ Ideal.exp x := by
  induction x with
  | bot => exact le_refl _
  | top => exact le_top
  | coe r => exact EReal.coe_nonneg.mpr (Real.exp_pos r).le

/-- The host's quotient form of the gate is the plain quotient. -/
theorem gate_eq (r : EReal) : r * Ideal.div 1 (1 + Ideal.exp (-r)) = Ideal.div r (1 + Ideal.exp (-r)) := by
  refine Ideal.mul_one_div fun e => ?_
  have h := Ideal.one_add_sum_ne_zero (Finset.univ : Finset (Fin 1)) (fun _ => Ideal.exp (-r)) fun _ _ => exp_nonneg _
  rw [Fin.sum_univ_one] at h
  exact h e

theorem out_apply (V : Valuation τ sig (Elt Ideal)) (b : Fin 2) (s : Fin 16384) (l : Fin 1024) (o : Fin 64 → Fin 256 → EReal)
    (ho : ∀ i w, (V (Proc.devRef .tc main_v15_7) : FVec Ideal S256x2x4x64x256 .f32) (ix5 ⟨s.val / 64, by omega⟩ b ⟨l.val / 256, by omega⟩ i w) = o i w) :
    @Eq EReal ((out_main_v34 V : FVec Ideal S2x16384x1024 .bf16) (ix3 b s l))
      (gated o (fun w => (V (Proc.devRef .tc main_arg5) : FVec Ideal S4x256 .f32) (ix2 ⟨l.val / 256, by omega⟩ w))
        (rows2 (V (Proc.devRef .tc main_arg4) : FVec Ideal S2x16384x1024 .f32) b ⟨l.val / 256, by omega⟩ (s.val / 64)) ⟨s.val % 64, by omega⟩ ⟨l.val % 256, by omega⟩) := by
  unfold out_main_v34
  generalize (V (Proc.devRef .tc main_v15_7) : FVec Ideal S256x2x4x64x256 .f32) = y at ho
  generalize (V (Proc.devRef .tc main_arg5) : FVec Ideal S4x256 .f32) = gn
  generalize (V (Proc.devRef .tc main_arg4) : FVec Ideal S2x16384x1024 .f32) = r
  pointwise
  simp only [ho]
  rw [gate_eq]
  have e : rows2 r b ⟨l.val / 256, by omega⟩ (s.val / 64) ⟨s.val % 64, by omega⟩ ⟨l.val % 256, by omega⟩ = r (ix3 b s l) := by
    refine congrArg r (funext fun a => Fin.ext ?_)
    match a with
    | ⟨0, _⟩ => rfl
    | ⟨1, _⟩ => show (64 * (s.val / 64) + s.val % 64) % 16384 = s.val; omega
    | ⟨2, _⟩ => show 256 * (l.val / 256) + l.val % 256 = l.val; omega
  rw [← e]
  rfl

/-- The reference's result at an index. -/
theorem result_apply (b : Fin 2) (s : Fin 16384) (l : Fin 1024) :
    @Eq EReal ((out_main_v34 (STEP^[256] (entryContents preI m c)) : FVec Ideal S2x16384x1024 .bf16) (ix3 b s l))
      (result (Q m c) (K m c) (LA m c) (VV m c) (RR m c) (GN m c) b ⟨l.val / 256, by omega⟩ (s.val / 64) ⟨s.val % 64, by omega⟩ ⟨l.val % 256, by omega⟩) := by
  refine (out_apply _ b s l (outOf m c b ⟨l.val / 256, by omega⟩ (s.val / 64)) fun i w => (inv_all m c 256 le_rfl).h_out ⟨s.val / 64, by omega⟩ (by show s.val / 64 < 256; omega) b _ i w).trans ?_
  rw [iter_main_arg4, iter_main_arg5]
  rfl

end Cert.ReferenceIdeal.Scan

end
-- ==== Proof.Scan.Tie.lean ====
/-
  The scan kernel's result is the reference's, on launch memories that hold the same arguments, where no log decay is
  plus infinity.
-/
module

public import proofs.«01_k».proof.Defs
public import proofs.«01_k».proof.Proof.Scan.Fold
public import proofs.«01_k».proof.Proof.Scan.Loop
public import Idealize.ShloMosaic.Lib.Affine

@[expose] public section

set_option maxRecDepth 16384

noncomputable section

namespace Cert.Scan

open Idealize.ShloMosaic Idealize.ShloMosaic.TcCoe Idealize.SL.Sem

/-- The precondition, read at one log decay. -/
theorem below [Cert.Pre_decays_below_infinity.Facts] (q k g : FVec Ideal Cert.Pre_decays_below_infinity.S2x16384x512 .f32)
    (v : FVec Ideal Cert.Pre_decays_below_infinity.S2x16384x1024 .bf16) (r : FVec Ideal Cert.Pre_decays_below_infinity.S2x16384x1024 .f32) (gn : FVec Ideal Cert.Pre_decays_below_infinity.S4x256 .f32)
    (h : Cert.Pre_decays_below_infinity.fn (F := Ideal) q k g v r gn = fun _ => 1#1) (b : Fin 2) (s : Fin 16384) (l : Fin 512) : g (ix3 b s l) ≠ (⊤ : EReal) := by
  have e := congrFun h (ix3 b s l)
  intro ht
  have e' : BitVec.ofBool (decide ((g (ix3 b s l) : EReal) < Ideal.ofBits .f32 0x7F800000#32)) = 1#1 := e
  rw [ht, decide_eq_false not_top_lt] at e'
  exact absurd e' (by decide)

theorem tie (m : (ℓ : Loc Cert.KernelIdeal.nD Cert.KernelIdeal.τ Cert.KernelIdeal.sig) → Buf (Elt Ideal) ℓ) (c : Dev Cert.KernelIdeal.nD)
    (m' : (ℓ : Loc Cert.ReferenceIdeal.nD Cert.ReferenceIdeal.τ Cert.ReferenceIdeal.sig) → Buf (Elt Ideal) ℓ)
    (hg : ∀ b s l, KernelIdeal.Scan.LA m c (ix3 b s l) ≠ (⊤ : EReal))
    (h0 : ReferenceIdeal.Scan.Q m' c = KernelIdeal.Scan.Q m c) (h1 : ReferenceIdeal.Scan.K m' c = KernelIdeal.Scan.K m c)
    (h2 : ReferenceIdeal.Scan.LA m' c = KernelIdeal.Scan.LA m c) (h3 : ReferenceIdeal.Scan.VV m' c = KernelIdeal.Scan.VV m c)
    (h4 : ReferenceIdeal.Scan.RR m' c = KernelIdeal.Scan.RR m c) (h5 : ReferenceIdeal.Scan.GN m' c = KernelIdeal.Scan.GN m c) :
    (Cert.ReferenceIdeal.Value.out_main_v34 (Cert.ReferenceIdeal.Value.STEP^[256] (StableHlo.entryContents Cert.ReferenceIdeal.Value.preI m' c)) : FVec Ideal Cert.ReferenceIdeal.S2x16384x1024 .bf16) = Cert.KernelIdeal.Value.G6 m c := by
  refine funext fun i => ?_
  have hi : i = ix3 (i 0) (i 1) (i 2) := by
    funext a
    match a with
    | ⟨0, _⟩ => rfl
    | ⟨1, _⟩ => rfl
    | ⟨2, _⟩ => rfl
  rw [hi]
  refine (ReferenceIdeal.Scan.result_apply m' c (i 0) (i 1) (i 2)).trans ?_
  rw [h0, h1, h2, h3, h4, h5]
  exact (KernelIdeal.Scan.G6_apply m c hg (i 0) (i 1) (i 2)).symm

end Cert.Scan

end
-- ==== Proof.GlaIn.Spec.lean ====
/-
  The gated-linear-attention input projection in the reference's own terms: the rows after the RMS norm, their products
  with the wide weight, and the log decays.
-/
module

public import Idealize.ShloMosaic.Lib.Pointwise
public import Idealize.ShloMosaic.Lib.ValueIdxCore

@[expose] public section

noncomputable section

namespace Cert.GlaIn

open Idealize.ShloMosaic

/-- The RMS norm of one row with its gain. -/
def normed (x g : Fin 1024 → EReal) (k : Fin 1024) : EReal :=
  x k * Ideal.rsqrt (Ideal.div (∑ j, x j * x j) (Ideal.ofBits .f32 0x44800000#32) + Ideal.ofBits .f32 0x358637BD#32) * g k

/-- The log of the sigmoid of `z`, divided by the decays' normalizer. -/
def decay (z : EReal) : EReal :=
  Ideal.div (-(max (-z) 0 + Ideal.log1p (Ideal.exp (-(max (-z) (-(-z))))))) (Ideal.ofBits .f32 0x41800000#32)

theorem one_le_add_exp (x : EReal) : 1 ≤ 1 + Ideal.exp x := by
  have h : (0 : EReal) ≤ Ideal.exp x := by
    induction x using EReal.rec with
    | bot => exact le_refl _
    | coe a => exact EReal.coe_nonneg.mpr (Real.exp_pos a).le
    | top => exact le_top
  exact (add_zero (1 : EReal)).symm.le.trans (add_le_add (le_refl _) h)

theorem log_ne_bot {x : EReal} (h : 1 ≤ x) : Ideal.log x ≠ ⊥ := by
  induction x using EReal.rec with
  | bot => exact absurd h (by decide)
  | coe a =>
    have ha : (1 : ℝ) ≤ a := EReal.coe_le_coe_iff.mp h
    show (if a ≤ 0 then (⊥ : EReal) else ((Real.log a : ℝ) : EReal)) ≠ ⊥
    rw [if_neg (by linarith)]
    exact EReal.coe_ne_bot _
  | top => exact top_ne_bot

/-- The kernel's own form of it. -/
theorem decay_eq (z : EReal) :
    Ideal.div (min z 0 - Ideal.log (1 + Ideal.exp (0 - max z (-z)))) (Ideal.ofBits .f32 0x41800000#32) = decay z := by
  unfold decay Ideal.log1p
  have ha : max (-z) 0 ≠ ⊥ := fun h => absurd (h ▸ le_max_right (-z) 0 : (0 : EReal) ≤ ⊥) (by decide)
  rw [neg_neg, max_comm (-z) z, zero_sub, EReal.neg_add (Or.inl ha) (Or.inr (log_ne_bot (one_le_add_exp _)))]
  congr 2
  rcases le_total z 0 with h | h
  · rw [min_eq_left h, max_eq_left (EReal.neg_le_neg_iff.mp (by simpa using h)), neg_neg]
  · rw [min_eq_right h, max_eq_right (EReal.neg_le_neg_iff.mp (by simpa using h)), neg_zero]

variable (x : FVec Ideal ⟨2, ![32768, 1024]⟩ .f32) (g : FVec Ideal ⟨1, ![1024]⟩ .f32) (w : FVec Ideal ⟨2, ![1024, 3088]⟩ .f32)
  (wa : FVec Ideal ⟨2, ![16, 512]⟩ .f32) (ba : FVec Ideal ⟨1, ![512]⟩ .f32)

/-- One row of the wide product, at a column. -/
def wide (i : Fin 32768) (l : Fin 3088) : EReal :=
  ∑ k : Fin 1024, normed (fun j => x (ix2 i j)) (fun j => g (ix1 j)) k * w (ix2 k l)

/-- The five results. -/
def queries : FVec Ideal ⟨2, ![32768, 512]⟩ .f32 := fun i => wide x g w (i 0) ⟨(i 1).val, lt_trans (i 1).isLt (by decide)⟩
def keys : FVec Ideal ⟨2, ![32768, 512]⟩ .f32 := fun i => wide x g w (i 0) ⟨512 + (i 1).val, lt_of_lt_of_le (Nat.add_lt_add_left (i 1).isLt 512) (by decide)⟩
def values : FVec Ideal ⟨2, ![32768, 1024]⟩ .bf16 := fun i => wide x g w (i 0) ⟨1024 + (i 1).val, lt_of_lt_of_le (Nat.add_lt_add_left (i 1).isLt 1024) (by decide)⟩
def gates : FVec Ideal ⟨2, ![32768, 1024]⟩ .f32 := fun i => wide x g w (i 0) ⟨2048 + (i 1).val, lt_of_lt_of_le (Nat.add_lt_add_left (i 1).isLt 2048) (by decide)⟩
def decays : FVec Ideal ⟨2, ![32768, 512]⟩ .f32 := fun i =>
  decay ((∑ e : Fin 16, wide x g w (i 0) ⟨3072 + e.val, lt_of_lt_of_le (Nat.add_lt_add_left e.isLt 3072) (by decide)⟩ * wa (ix2 e (i 1))) + ba (ix1 (i 1)))

end Cert.GlaIn

end
-- ==== Proof.GlaIn.Read.lean ====
/-
  The reference's five results, read at an index.
-/
module

public import proofs.«01_k».proof.Proof.Gen.Reference2Ideal.Run
public import proofs.«01_k».proof.Proof.GlaIn.Spec

@[expose] public section

set_option maxRecDepth 16384

noncomputable section

namespace Cert.GlaIn

open Idealize.ShloMosaic Idealize.ShloMosaic.TcCoe Idealize.SL.Sem Cert.Reference2Ideal Cert.Reference2Ideal.Gen Cert.Reference2Ideal.Value

variable (m : (ℓ : Loc nD τ sig) → Buf (Elt Ideal) ℓ) (c : Dev nD)

/-- The arguments as launched. -/
abbrev RX : FVec Ideal S32768x1024 .f32 := m ((c.tc : Thread nD τ).loc main_arg0)
abbrev RG : FVec Ideal S1024 .f32 := m ((c.tc : Thread nD τ).loc main_arg1)
abbrev RW : FVec Ideal S1024x3088 .f32 := m ((c.tc : Thread nD τ).loc main_arg2)
abbrev RWA : FVec Ideal S16x512 .f32 := m ((c.tc : Thread nD τ).loc main_arg3)
abbrev RBA : FVec Ideal S512 .f32 := m ((c.tc : Thread nD τ).loc main_arg4)

/-- The wide product as the reference computes it. -/
def product : FVec Ideal S32768x3088 .f32 :=
  Host.dotGeneral dot_S32768x1024_S1024x3088_S32768x3088_1_0_0_1_n_n none (mulf (mulf (RX m c) (broadcastInDim S32768x1024 ![0, 1] bcast_S32768x1_S32768x1024_0_1 (Host.rsqrt (addf (Host.divf (broadcastInDim S32768x1 ![0] bcast_S32768_S32768x1_0 (Host.reduceAdd (mulf (RX m c) (RX m c)) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 (RG m c)))) (RW m c)

theorem product_apply (i : Fin 32768) (l : Fin 3088) :
    @Eq EReal (product m c (ix2 i l)) (wide (RX m c) (RG m c) (RW m c) i l) := by
  unfold product
  pointwise [wide, normed]

theorem queries_ref : extractStridedSlice S32768x512 ![0, 0] (product m c) slices_S32768x3088_S32768x512_0_0
    = queries (RX m c) (RG m c) (RW m c) := by
  refine funext fun i => ?_
  rw [ValueIdx.eq_ix2 i]
  pointwise [queries]
  exact product_apply m c _ _

theorem keys_ref : extractStridedSlice S32768x512 ![0, 512] (product m c) slices_S32768x3088_S32768x512_0_512
    = keys (RX m c) (RG m c) (RW m c) := by
  refine funext fun i => ?_
  rw [ValueIdx.eq_ix2 i]
  pointwise [keys]
  exact product_apply m c _ _

theorem values_ref : truncf .bf16 (extractStridedSlice S32768x1024 ![0, 1024] (product m c) slices_S32768x3088_S32768x1024_0_1024) bitsLt_bf16_f32
    = values (RX m c) (RG m c) (RW m c) := by
  refine funext fun i => ?_
  rw [ValueIdx.eq_ix2 i]
  pointwise [values]
  exact product_apply m c _ _

theorem gates_ref : extractStridedSlice S32768x1024 ![0, 2048] (product m c) slices_S32768x3088_S32768x1024_0_2048
    = gates (RX m c) (RG m c) (RW m c) := by
  refine funext fun i => ?_
  rw [ValueIdx.eq_ix2 i]
  pointwise [gates]
  exact product_apply m c _ _

/-- The low-rank product with its bias, as the reference computes it. -/
def logits : FVec Ideal S32768x512 .f32 :=
  addf (Host.dotGeneral dot_S32768x16_S16x512_S32768x512_1_0_0_1_n_n none (extractStridedSlice S32768x16 ![0, 3072] (product m c) slices_S32768x3088_S32768x16_0_3072) (RWA m c)) (broadcastInDim S32768x512 ![0, 1] bcast_S1x512_S32768x512_0_1 (broadcastInDim S1x512 ![1] bcast_S512_S1x512_1 (RBA m c)))

theorem logits_apply (i : Fin 32768) (l : Fin 512) :
    @Eq EReal (logits m c (ix2 i l)) ((∑ e : Fin 16, product m c (ix2 i (⟨3072 + e.val, by omega⟩ : Fin 3088)) * RWA m c (ix2 e l)) + RBA m c (ix1 l)) := by
  unfold logits
  pointwise

/-- The log decays in terms of the logits. -/
theorem decays_of (z : FVec Ideal S32768x512 .f32) (i : Fin 32768) (l : Fin 512) :
    @Eq EReal (Host.divf (Host.negf (select (cmpf .une (subf (Host.negf z) (broadcastInDim S32768x512 ![] bcast_S_S32768x512 (constant S_ .f32 0x00000000#32))) (subf (Host.negf z) (broadcastInDim S32768x512 ![] bcast_S_S32768x512 (constant S_ .f32 0x00000000#32))))
      (addf (Host.negf z) (broadcastInDim S32768x512 ![] bcast_S_S32768x512 (constant S_ .f32 0x00000000#32)))
      (addf (maximumf (Host.negf z) (broadcastInDim S32768x512 ![] bcast_S_S32768x512 (constant S_ .f32 0x00000000#32))) (Host.log1p (Host.exp (Host.negf (Host.absf (subf (Host.negf z) (broadcastInDim S32768x512 ![] bcast_S_S32768x512 (constant S_ .f32 0x00000000#32)))))))))) (broadcastInDim S32768x512 ![] bcast_S_S32768x512 (constant S_ .f32 0x41800000#32)) (ix2 i l))
      (decay (z (ix2 i l))) := by
  pointwise [decay]
  rw [if_neg (fun h => h rfl)]
  rfl

theorem logits_wide (i : Fin 32768) (l : Fin 512) :
    @Eq EReal (logits m c (ix2 i l)) ((∑ e : Fin 16, wide (RX m c) (RG m c) (RW m c) i ⟨3072 + e.val, lt_of_lt_of_le (Nat.add_lt_add_left e.isLt 3072) (by decide)⟩ * RWA m c (ix2 e l)) + RBA m c (ix1 l)) := by
  rw [logits_apply]
  simp only [product_apply]

theorem decays_ref : (res_main_v25 m c : FVec Ideal S32768x512 .f32)
    = decays (RX m c) (RG m c) (RW m c) (RWA m c) (RBA m c) := by
  refine funext fun i => ?_
  rw [ValueIdx.eq_ix2 i]
  refine (decays_of (logits m c) _ _).trans ?_
  exact congrArg decay (logits_wide m c _ _)

end Cert.GlaIn

end
-- ==== Proof.GlaIn.Body.lean ====
/-
  What one grid point of the input projection computes.
-/
module

public import proofs.«01_k».proof.Proof.Gen.Kernel2Ideal.Value
public import proofs.«01_k».proof.Proof.GlaIn.Spec

@[expose] public section

set_option maxRecDepth 16384

noncomputable section

namespace Cert.GlaIn

open Idealize.ShloMosaic Idealize.ShloMosaic.TcCoe Idealize.SL.Sem Cert.Kernel2Ideal Cert.Kernel2Ideal.Gen

variable (x0 : Vec Ideal S256x1024 .f32) (x1 : Vec Ideal S1x1024 .f32) (x2 : Vec Ideal S1024x3072 .bf16) (x3 : Vec Ideal S1024x128 .bf16) (x4 : Vec Ideal S128x512 .bf16) (x5 : Vec Ideal S1x512 .f32)

theorem zeros : (![0, 0] : Fin 2 → Nat) = fun _ => 0 := by funext a; match a with | ⟨0, _⟩ => rfl | ⟨1, _⟩ => rfl

theorem norm_apply (r : Fin 256) (k : Fin 1024) :
    @Eq EReal (k0_pay3 x0 x1 (ix2 r k)) (normed (fun j => x0 (ix2 r j)) (fun j => x1 (ix2 0 j)) k) := by
  pointwise [k0_pay3, normed]

theorem queries_apply (r : Fin 256) (l : Fin 512) :
    @Eq EReal (out0_6 x0 x1 x2 x3 x4 x5 (ix2 r l)) (∑ k : Fin 1024, k0_pay3 x0 x1 (ix2 r k) * x2 (ix2 k (⟨l.val, by omega⟩ : Fin 3072))) := by
  unfold out0_6
  rw [View.canon_unit_zero zeros, View.ld_unit_zero zeros, View.ld_unit_zero zeros, View.ld_unit]
  pointwise [k0_pay4]

theorem keys_apply (r : Fin 256) (l : Fin 512) :
    @Eq EReal (out0_7 x0 x1 x2 x3 x4 x5 (ix2 r l)) (∑ k : Fin 1024, k0_pay3 x0 x1 (ix2 r k) * x2 (ix2 k (⟨512 + l.val, by omega⟩ : Fin 3072))) := by
  unfold out0_7
  rw [View.canon_unit_zero zeros, View.ld_unit_zero zeros, View.ld_unit_zero zeros, View.ld_unit]
  pointwise [k0_pay5]

theorem values_apply (r : Fin 256) (l : Fin 1024) :
    @Eq EReal (out0_8 x0 x1 x2 x3 x4 x5 (ix2 r l)) (∑ k : Fin 1024, k0_pay3 x0 x1 (ix2 r k) * x2 (ix2 k (⟨1024 + l.val, by omega⟩ : Fin 3072))) := by
  unfold out0_8
  rw [View.canon_unit_zero zeros, View.ld_unit_zero zeros, View.ld_unit_zero zeros, View.ld_unit]
  pointwise [k0_pay6]

theorem gates_apply (r : Fin 256) (l : Fin 1024) :
    @Eq EReal (out0_9 x0 x1 x2 x3 x4 x5 (ix2 r l)) (∑ k : Fin 1024, k0_pay3 x0 x1 (ix2 r k) * x2 (ix2 k (⟨2048 + l.val, by omega⟩ : Fin 3072))) := by
  unfold out0_9 k0_pay8
  rw [View.canon_unit_zero zeros, View.ld_unit_zero zeros, View.ld_unit_zero zeros, View.ld_unit]
  pointwise [k0_pay1, k0_pay7]

theorem decays_apply (r : Fin 256) (l : Fin 512) :
    @Eq EReal (out0_10 x0 x1 x2 x3 x4 x5 (ix2 r l))
      (decay ((∑ e : Fin 128, (∑ k : Fin 1024, k0_pay3 x0 x1 (ix2 r k) * x3 (ix2 k e)) * x4 (ix2 e l)) + x5 (ix2 0 l))) := by
  unfold out0_10 k0_pay8
  rw [View.canon_unit_zero zeros, View.ld_unit_zero zeros, View.ld_unit_zero zeros, View.ld_unit_zero zeros, View.ld_unit_zero zeros, View.ld_unit_zero zeros]
  pointwise [k0_pay2]
  exact decay_eq _

end Cert.GlaIn

end
-- ==== Proof.GlaIn.Blocks.lean ====
/-
  The input projection's grid: each window's block at a point, and the five result arrays after the run.
-/
module

public import proofs.«01_k».proof.Proof.GlaIn.Body
public import Idealize.ShloMosaic.Lib.WordCmp

@[expose] public section

set_option maxRecDepth 16384

noncomputable section

namespace Cert.GlaIn

open Idealize.ShloMosaic Idealize.ShloMosaic.TcCoe Idealize.SL.Sem Cert.Kernel2Ideal Cert.Kernel2Ideal.Gen Cert.Kernel2Ideal.Value

variable (m : (ℓ : Loc nD τ sig) → Buf (Elt Ideal) ℓ) (c : Dev nD)

/-- The arguments as launched. -/
abbrev X : FVec Ideal S32768x1024 .f32 := m ((c.tc : Thread nD τ).loc main_arg0)
abbrev G : FVec Ideal S1024 .f32 := m ((c.tc : Thread nD τ).loc main_arg1)
abbrev W : FVec Ideal S1024x3088 .f32 := m ((c.tc : Thread nD τ).loc main_arg2)
abbrev WA : FVec Ideal S16x512 .f32 := m ((c.tc : Thread nD τ).loc main_arg3)
abbrev BA : FVec Ideal S512 .f32 := m ((c.tc : Thread nD τ).loc main_arg4)

/-- Where each window's block lies at a point. -/
theorem places : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

/-- Every point writes its blocks back. -/
theorem writes6 : ∀ q : Fin 128, win0_6.flush (⟨q.val, lt_of_lt_of_eq q.isLt N_0.symm⟩ : Fin grid0.N) = true := by decide +kernel
theorem writes7 : ∀ q : Fin 128, win0_7.flush (⟨q.val, lt_of_lt_of_eq q.isLt N_0.symm⟩ : Fin grid0.N) = true := by decide +kernel
theorem writes8 : ∀ q : Fin 128, win0_8.flush (⟨q.val, lt_of_lt_of_eq q.isLt N_0.symm⟩ : Fin grid0.N) = true := by decide +kernel
theorem writes9 : ∀ q : Fin 128, win0_9.flush (⟨q.val, lt_of_lt_of_eq q.isLt N_0.symm⟩ : Fin grid0.N) = true := by decide +kernel
theorem writes10 : ∀ q : Fin 128, win0_10.flush (⟨q.val, lt_of_lt_of_eq q.isLt N_0.symm⟩ : Fin grid0.N) = true := by decide +kernel

theorem block0 (t : Fin cfg0.N) (r : Fin 256) (l : Fin 1024) (i : Fin 32768) (hi : i.val = t.val * 256 + r.val) :
    (iblk m c 0 t : Vec Ideal S256x1024 .f32) (ix2 r l) = X m c (ix2 i l) := by
  obtain ⟨⟨h0, h1⟩, _⟩ := places t
  unfold iblk
  rw [View.read_apply]
  show V m c main_arg0 _ = _
  rw [V_main_arg0]
  refine congrArg (X m c) (funext fun a => Fin.ext ?_)
  match a with
  | ⟨0, _⟩ => show win0_0.index t (0 : Fin 2) * 256 + 1 * r.val = i.val; omega
  | ⟨1, _⟩ => show win0_0.index t (1 : Fin 2) * 1024 + 1 * l.val = l.val; omega

/-- A scalar zero from the host's integer zero. -/
def zeroPad : FVec Ideal S_ .f32 := sitofp .f32 (constantI S_ 32 0#32)

theorem zeroPad_apply (i : S_.Idx) : @Eq EReal (zeroPad i) 0 := by
  show ((((0#32 : BitVec 32).toInt : ℝ)) : EReal) = 0
  simp

theorem V_gain : (V m c main_v7 : S1x1024.Idx → EReal) = shapeCast S1x1024 (G m c) shapeCasts_S1024_S1x1024 := rfl
theorem V_wide : (V m c main_v1 : S1024x3072.Idx → EReal) = extractStridedSlice S1024x3072 ![0, 0] (W m c) slices_S1024x3088_S1024x3072_0_0 := rfl
theorem V_low : (V m c main_v4 : S1024x128.Idx → EReal) = pad S1024x128 ![0, 0] ![0, 112] ![0, 0] (extractStridedSlice S1024x16 ![0, 3072] (W m c) slices_S1024x3088_S1024x16_0_3072) zeroPad pads_S1024x16_S1024x128_000_01120 h_S_ := rfl
theorem V_up : (V m c main_v6 : S128x512.Idx → EReal) = pad S128x512 ![0, 0] ![112, 0] ![0, 0] (WA m c) zeroPad pads_S16x512_S128x512_01120_000 h_S_ := rfl
theorem V_bias : (V m c main_v8 : S1x512.Idx → EReal) = shapeCast S1x512 (BA m c) shapeCasts_S512_S1x512 := rfl

theorem gain_apply (l : Fin 1024) : shapeCast S1x1024 (G m c) shapeCasts_S1024_S1x1024 (ix2 0 l) = G m c (ix1 l) := by
  pointwise

theorem bias_apply (l : Fin 512) : shapeCast S1x512 (BA m c) shapeCasts_S512_S1x512 (ix2 0 l) = BA m c (ix1 l) := by
  pointwise

theorem wide_apply (k : Fin 1024) (l : Fin 3072) :
    extractStridedSlice S1024x3072 ![0, 0] (W m c) slices_S1024x3088_S1024x3072_0_0 (ix2 k l) = W m c (ix2 k ⟨l.val, by omega⟩) := by
  pointwise

theorem low_apply (k : Fin 1024) (e : Fin 128) :
    @Eq EReal (pad S1024x128 ![0, 0] ![0, 112] ![0, 0] (extractStridedSlice S1024x16 ![0, 3072] (W m c) slices_S1024x3088_S1024x16_0_3072) zeroPad pads_S1024x16_S1024x128_000_01120 h_S_ (ix2 k e))
      (if h : e.val < 16 then W m c (ix2 k ⟨3072 + e.val, by omega⟩) else 0) := by
  pointwise
  rw [zeroPad_apply]

theorem up_apply (e : Fin 128) (l : Fin 512) :
    @Eq EReal (pad S128x512 ![0, 0] ![112, 0] ![0, 0] (WA m c) zeroPad pads_S16x512_S128x512_01120_000 h_S_ (ix2 e l))
      (if h : e.val < 16 then WA m c (ix2 ⟨e.val, h⟩ l) else 0) := by
  pointwise
  rw [zeroPad_apply]

theorem block1 (t : Fin cfg0.N) (l : Fin 1024) :
    @Eq EReal ((iblk m c 1 t : Vec Ideal S1x1024 .f32) (ix2 0 l)) (G m c (ix1 l)) := by
  obtain ⟨_, ⟨h0, h1⟩, _⟩ := places t
  refine Eq.trans ?_ (gain_apply m c l)
  rw [← V_gain]
  unfold iblk
  rw [View.read_apply]
  show V m c main_v7 _ = _
  refine congrArg (V m c main_v7) (funext fun a => Fin.ext ?_)
  match a with
  | ⟨0, _⟩ => show win0_1.index t (0 : Fin 2) * 1 + 1 * 0 = 0; omega
  | ⟨1, _⟩ => show win0_1.index t (1 : Fin 2) * 1024 + 1 * l.val = l.val; omega

theorem block2 (t : Fin cfg0.N) (k : Fin 1024) (l : Fin 3072) :
    @Eq EReal ((iblk m c 2 t : Vec Ideal S1024x3072 .bf16) (ix2 k l)) (W m c (ix2 k ⟨l.val, by omega⟩)) := by
  obtain ⟨_, _, ⟨h0, h1⟩, _⟩ := places t
  refine Eq.trans ?_ (wide_apply m c k l)
  rw [← V_wide]
  unfold iblk
  rw [View.read_apply]
  show V m c main_v1 _ = _
  refine congrArg (V m c main_v1) (funext fun a => Fin.ext ?_)
  match a with
  | ⟨0, _⟩ => show win0_2.index t (0 : Fin 2) * 1024 + 1 * k.val = k.val; omega
  | ⟨1, _⟩ => show win0_2.index t (1 : Fin 2) * 3072 + 1 * l.val = l.val; omega

theorem block3 (t : Fin cfg0.N) (k : Fin 1024) (l : Fin 128) :
    @Eq EReal ((iblk m c 3 t : Vec Ideal S1024x128 .bf16) (ix2 k l)) (if h : l.val < 16 then W m c (ix2 k ⟨3072 + l.val, by omega⟩) else 0) := by
  obtain ⟨_, _, _, ⟨h0, h1⟩, _⟩ := places t
  refine Eq.trans ?_ (low_apply m c k l)
  rw [← V_low]
  unfold iblk
  rw [View.read_apply]
  show V m c main_v4 _ = _
  refine congrArg (V m c main_v4) (funext fun a => Fin.ext ?_)
  match a with
  | ⟨0, _⟩ => show win0_3.index t (0 : Fin 2) * 1024 + 1 * k.val = k.val; omega
  | ⟨1, _⟩ => show win0_3.index t (1 : Fin 2) * 128 + 1 * l.val = l.val; omega

theorem block4 (t : Fin cfg0.N) (k : Fin 128) (l : Fin 512) :
    @Eq EReal ((iblk m c 4 t : Vec Ideal S128x512 .bf16) (ix2 k l)) (if h : k.val < 16 then WA m c (ix2 ⟨k.val, h⟩ l) else 0) := by
  obtain ⟨_, _, _, _, ⟨h0, h1⟩, _⟩ := places t
  refine Eq.trans ?_ (up_apply m c k l)
  rw [← V_up]
  unfold iblk
  rw [View.read_apply]
  show V m c main_v6 _ = _
  refine congrArg (V m c main_v6) (funext fun a => Fin.ext ?_)
  match a with
  | ⟨0, _⟩ => show win0_4.index t (0 : Fin 2) * 128 + 1 * k.val = k.val; omega
  | ⟨1, _⟩ => show win0_4.index t (1 : Fin 2) * 512 + 1 * l.val = l.val; omega

theorem block5 (t : Fin cfg0.N) (l : Fin 512) :
    @Eq EReal ((iblk m c 5 t : Vec Ideal S1x512 .f32) (ix2 0 l)) (BA m c (ix1 l)) := by
  obtain ⟨_, _, _, _, _, ⟨h0, h1⟩, _⟩ := places t
  refine Eq.trans ?_ (bias_apply m c l)
  rw [← V_bias]
  unfold iblk
  rw [View.read_apply]
  show V m c main_v8 _ = _
  refine congrArg (V m c main_v8) (funext fun a => Fin.ext ?_)
  match a with
  | ⟨0, _⟩ => show win0_5.index t (0 : Fin 2) * 1 + 1 * 0 = 0; omega
  | ⟨1, _⟩ => show win0_5.index t (1 : Fin 2) * 512 + 1 * l.val = l.val; omega

end Cert.GlaIn

end
-- ==== Proof.GlaIn.Grid.lean ====
/-
  The input projection's five result arrays after the run are the reference's.
-/
module

public import proofs.«01_k».proof.Proof.GlaIn.Blocks

@[expose] public section

set_option maxRecDepth 16384

noncomputable section

namespace Cert.GlaIn

open Idealize.ShloMosaic Idealize.ShloMosaic.TcCoe Idealize.SL.Sem Cert.Kernel2Ideal Cert.Kernel2Ideal.Gen Cert.Kernel2Ideal.Value

variable (m : (ℓ : Loc nD τ sig) → Buf (Elt Ideal) ℓ) (c : Dev nD)

/-- The lanes that pad a sum of sixteen add nothing. -/
theorem sum_padded (a : Fin 128 → EReal) (f : Fin 16 → EReal) :
    ∑ e : Fin 128, a e * (if h : e.val < 16 then f ⟨e.val, h⟩ else 0) = ∑ e : Fin 16, a ⟨e.val, by omega⟩ * f e := by
  refine (Fin.sum_univ_add (a := 16) (b := 112) (fun e : Fin 128 => a e * (if h : e.val < 16 then f ⟨e.val, h⟩ else 0))).trans ?_
  have z : ∀ e : Fin 112, a (Fin.natAdd 16 e) * (if h : (Fin.natAdd 16 e : Fin 128).val < 16 then f ⟨(Fin.natAdd 16 e : Fin 128).val, h⟩ else 0) = 0 := fun e => by
    rw [dif_neg (by show ¬ 16 + e.val < 16; omega), mul_zero]
  rw [Finset.sum_eq_zero (s := Finset.univ (α := Fin 112)) fun e _ => z e, add_zero]
  refine Finset.sum_congr rfl fun e _ => ?_
  rw [dif_pos (show (Fin.castAdd 112 e).val < 16 from e.isLt)]
  rfl

/-- A row of a point's block after the norm. -/
theorem norm_block (t : Fin cfg0.N) (r : Fin 256) (k : Fin 1024) (i : Fin 32768) (hi : i.val = t.val * 256 + r.val) :
    @Eq EReal (k0_pay3 (iblk m c 0 t : Vec Ideal S256x1024 .f32) (iblk m c 1 t : Vec Ideal S1x1024 .f32) (ix2 r k)) (normed (fun j => X m c (ix2 i j)) (fun j => G m c (ix1 j)) k) := by
  refine (norm_apply _ _ r k).trans ?_
  exact congrArg₂ (fun a b => normed a b k) (funext fun j => block0 m c t r j i hi) (funext fun j => block1 m c t j)

/-- A row of a point's block times the wide weight. -/
theorem wide_block (t : Fin cfg0.N) (r : Fin 256) (l : Fin 3072) (i : Fin 32768) (hi : i.val = t.val * 256 + r.val) :
    @Eq EReal (∑ k : Fin 1024, k0_pay3 (iblk m c 0 t : Vec Ideal S256x1024 .f32) (iblk m c 1 t : Vec Ideal S1x1024 .f32) (ix2 r k) * (iblk m c 2 t : Vec Ideal S1024x3072 .bf16) (ix2 k l))
      (wide (X m c) (G m c) (W m c) i ⟨l.val, by omega⟩) :=
  Finset.sum_congr rfl fun k _ => congrArg₂ (fun a b : EReal => a * b) (norm_block m c t r k i hi) (block2 m c t k l)

/-- A row of a point's block times the padded low-rank weight. -/
theorem low_block (t : Fin cfg0.N) (r : Fin 256) (e : Fin 16) (i : Fin 32768) (hi : i.val = t.val * 256 + r.val) :
    @Eq EReal (∑ k : Fin 1024, k0_pay3 (iblk m c 0 t : Vec Ideal S256x1024 .f32) (iblk m c 1 t : Vec Ideal S1x1024 .f32) (ix2 r k) * (iblk m c 3 t : Vec Ideal S1024x128 .bf16) (ix2 k ⟨e.val, by omega⟩))
      (wide (X m c) (G m c) (W m c) i ⟨3072 + e.val, by omega⟩) :=
  Finset.sum_congr rfl fun k _ => congrArg₂ (fun a b : EReal => a * b) (norm_block m c t r k i hi)
    ((block3 m c t k ⟨e.val, by omega⟩).trans (dif_pos e.isLt))

/-- The logits of a point's block. -/
theorem logits_block (t : Fin cfg0.N) (r : Fin 256) (l : Fin 512) (i : Fin 32768) (hi : i.val = t.val * 256 + r.val) :
    @Eq EReal ((∑ e : Fin 128, (∑ k : Fin 1024, k0_pay3 (iblk m c 0 t : Vec Ideal S256x1024 .f32) (iblk m c 1 t : Vec Ideal S1x1024 .f32) (ix2 r k) * (iblk m c 3 t : Vec Ideal S1024x128 .bf16) (ix2 k e)) * (iblk m c 4 t : Vec Ideal S128x512 .bf16) (ix2 e l)) + (iblk m c 5 t : Vec Ideal S1x512 .f32) (ix2 0 l))
      ((∑ e : Fin 16, wide (X m c) (G m c) (W m c) i ⟨3072 + e.val, by omega⟩ * WA m c (ix2 e l)) + BA m c (ix1 l)) := by
  refine congrArg₂ (fun a b : EReal => a + b) ?_ (block5 m c t l)
  refine (Finset.sum_congr rfl fun e _ => congrArg (fun b : EReal => _ * b) (block4 m c t e l)).trans ?_
  refine (sum_padded _ fun e => WA m c (ix2 e l)).trans ?_
  exact Finset.sum_congr rfl fun e _ => congrArg (fun a : EReal => a * _) (low_block m c t r e i hi)

theorem queries_flushed (t : Fin cfg0.N) :
    (dats m 0 c).flushed 6 t = ((cfg0.win 6).blk t).view.read (Elt Ideal) (queries (X m c) (G m c) (W m c)) := by
  obtain ⟨_, _, _, _, _, _, ⟨h0, h1⟩, _⟩ := places t
  have ht := lt_of_lt_of_eq t.isLt (show cfg0.N = 128 from N_0)
  rw [flushed6]
  funext y
  have hy0 : (y 0).val < 256 := (y 0).isLt
  have hy1 : (y 1).val < 512 := (y 1).isLt
  have hx : (cfg0.win 6).xinj (grid0.coords t) y = ix2 (⟨(y 0).val, hy0⟩ : Fin 256) (⟨(y 1).val, hy1⟩ : Fin 512) := by
    funext a
    match a with
    | ⟨0, _⟩ => rfl
    | ⟨1, _⟩ => rfl
  have he : ((cfg0.win 6).blk t).view.emb y = ix2 (⟨t.val * 256 + (y 0).val, by omega⟩ : Fin 32768) (⟨(y 1).val, hy1⟩ : Fin 512) := by
    refine funext fun a => Fin.ext ?_
    match a with
    | ⟨0, _⟩ => show win0_6.index t (0 : Fin 2) * 256 + 1 * (y 0).val = t.val * 256 + (y 0).val; omega
    | ⟨1, _⟩ => show win0_6.index t (1 : Fin 2) * 512 + 1 * (y 1).val = (y 1).val; omega
  show @Eq EReal (out0_6 (F := Ideal) _ _ _ _ _ _ ((cfg0.win 6).xinj (grid0.coords t) y)) (queries (X m c) (G m c) (W m c) (((cfg0.win 6).blk t).view.emb y))
  rw [hx, he]
  refine (queries_apply _ _ _ _ _ _ _ _).trans ?_
  exact wide_block m c t ⟨(y 0).val, hy0⟩ ⟨(y 1).val, by omega⟩ ⟨t.val * 256 + (y 0).val, by omega⟩ rfl

theorem queries_mem (t : Fin cfg0.N) (i : S32768x512.Idx) :
    i ∈ ((cfg0.win 6).blk t).view.set ↔ ∀ a : Fin 2, win0_6.index t a * S256x512.size a ≤ (i a).val ∧ (i a).val < win0_6.index t a * S256x512.size a + S256x512.size a := by
  show i ∈ ((View.whole main_v9_0).slice (win0_6.rect t)).set ↔ _
  rw [View.set_slice_whole, Rect.mem_set_unit]
  exact Iff.rfl

theorem queries_result : (dats m 0 c).arrAt 6 cfg0.N = queries (X m c) (G m c) (W m c) :=
  (dats m 0 c).arrAt_eq_of_cover 6 _ (fun t _ => queries_flushed m c t) (fun i => by
    have hi0 : (i 0).val < 32768 := (i 0).isLt
    have hi1 : (i 1).val < 512 := (i 1).isLt
    refine ⟨⟨(i 0).val / 256, lt_of_lt_of_eq (by omega) N_0.symm⟩, writes6 ⟨(i 0).val / 256, by omega⟩, ?_⟩
    obtain ⟨_, _, _, _, _, _, ⟨h0, h1⟩, _⟩ := places ⟨(i 0).val / 256, lt_of_lt_of_eq (by omega) N_0.symm⟩
    rw [queries_mem]
    intro a
    match a with
    | ⟨0, _⟩ => show win0_6.index _ (0 : Fin 2) * 256 ≤ (i 0).val ∧ (i 0).val < win0_6.index _ (0 : Fin 2) * 256 + 256; rw [h0]; show (i 0).val / 256 * 256 ≤ _ ∧ _ < (i 0).val / 256 * 256 + 256; omega
    | ⟨1, _⟩ => show win0_6.index _ (1 : Fin 2) * 512 ≤ (i 1).val ∧ (i 1).val < win0_6.index _ (1 : Fin 2) * 512 + 512; rw [h1]; omega)

theorem keys_flushed (t : Fin cfg0.N) :
    (dats m 0 c).flushed 7 t = ((cfg0.win 7).blk t).view.read (Elt Ideal) (keys (X m c) (G m c) (W m c)) := by
  obtain ⟨_, _, _, _, _, _, _, ⟨h0, h1⟩, _⟩ := places t
  have ht := lt_of_lt_of_eq t.isLt (show cfg0.N = 128 from N_0)
  rw [flushed7]
  funext y
  have hy0 : (y 0).val < 256 := (y 0).isLt
  have hy1 : (y 1).val < 512 := (y 1).isLt
  have hx : (cfg0.win 7).xinj (grid0.coords t) y = ix2 (⟨(y 0).val, hy0⟩ : Fin 256) (⟨(y 1).val, hy1⟩ : Fin 512) := by
    funext a
    match a with
    | ⟨0, _⟩ => rfl
    | ⟨1, _⟩ => rfl
  have he : ((cfg0.win 7).blk t).view.emb y = ix2 (⟨t.val * 256 + (y 0).val, by omega⟩ : Fin 32768) (⟨(y 1).val, hy1⟩ : Fin 512) := by
    refine funext fun a => Fin.ext ?_
    match a with
    | ⟨0, _⟩ => show win0_7.index t (0 : Fin 2) * 256 + 1 * (y 0).val = t.val * 256 + (y 0).val; omega
    | ⟨1, _⟩ => show win0_7.index t (1 : Fin 2) * 512 + 1 * (y 1).val = (y 1).val; omega
  show @Eq EReal (out0_7 (F := Ideal) _ _ _ _ _ _ ((cfg0.win 7).xinj (grid0.coords t) y)) (keys (X m c) (G m c) (W m c) (((cfg0.win 7).blk t).view.emb y))
  rw [hx, he]
  refine (keys_apply _ _ _ _ _ _ _ _).trans ?_
  exact wide_block m c t ⟨(y 0).val, hy0⟩ ⟨512 + (y 1).val, by omega⟩ ⟨t.val * 256 + (y 0).val, by omega⟩ rfl

theorem keys_mem (t : Fin cfg0.N) (i : S32768x512.Idx) :
    i ∈ ((cfg0.win 7).blk t).view.set ↔ ∀ a : Fin 2, win0_7.index t a * S256x512.size a ≤ (i a).val ∧ (i a).val < win0_7.index t a * S256x512.size a + S256x512.size a := by
  show i ∈ ((View.whole main_v9_1).slice (win0_7.rect t)).set ↔ _
  rw [View.set_slice_whole, Rect.mem_set_unit]
  exact Iff.rfl

theorem keys_result : (dats m 0 c).arrAt 7 cfg0.N = keys (X m c) (G m c) (W m c) :=
  (dats m 0 c).arrAt_eq_of_cover 7 _ (fun t _ => keys_flushed m c t) (fun i => by
    have hi0 : (i 0).val < 32768 := (i 0).isLt
    have hi1 : (i 1).val < 512 := (i 1).isLt
    refine ⟨⟨(i 0).val / 256, lt_of_lt_of_eq (by omega) N_0.symm⟩, writes7 ⟨(i 0).val / 256, by omega⟩, ?_⟩
    obtain ⟨_, _, _, _, _, _, _, ⟨h0, h1⟩, _⟩ := places ⟨(i 0).val / 256, lt_of_lt_of_eq (by omega) N_0.symm⟩
    rw [keys_mem]
    intro a
    match a with
    | ⟨0, _⟩ => show win0_7.index _ (0 : Fin 2) * 256 ≤ (i 0).val ∧ (i 0).val < win0_7.index _ (0 : Fin 2) * 256 + 256; rw [h0]; show (i 0).val / 256 * 256 ≤ _ ∧ _ < (i 0).val / 256 * 256 + 256; omega
    | ⟨1, _⟩ => show win0_7.index _ (1 : Fin 2) * 512 ≤ (i 1).val ∧ (i 1).val < win0_7.index _ (1 : Fin 2) * 512 + 512; rw [h1]; omega)

theorem values_flushed (t : Fin cfg0.N) :
    (dats m 0 c).flushed 8 t = ((cfg0.win 8).blk t).view.read (Elt Ideal) (values (X m c) (G m c) (W m c)) := by
  obtain ⟨_, _, _, _, _, _, _, _, ⟨h0, h1⟩, _⟩ := places t
  have ht := lt_of_lt_of_eq t.isLt (show cfg0.N = 128 from N_0)
  rw [flushed8]
  funext y
  have hy0 : (y 0).val < 256 := (y 0).isLt
  have hy1 : (y 1).val < 1024 := (y 1).isLt
  have hx : (cfg0.win 8).xinj (grid0.coords t) y = ix2 (⟨(y 0).val, hy0⟩ : Fin 256) (⟨(y 1).val, hy1⟩ : Fin 1024) := by
    funext a
    match a with
    | ⟨0, _⟩ => rfl
    | ⟨1, _⟩ => rfl
  have he : ((cfg0.win 8).blk t).view.emb y = ix2 (⟨t.val * 256 + (y 0).val, by omega⟩ : Fin 32768) (⟨(y 1).val, hy1⟩ : Fin 1024) := by
    refine funext fun a => Fin.ext ?_
    match a with
    | ⟨0, _⟩ => show win0_8.index t (0 : Fin 2) * 256 + 1 * (y 0).val = t.val * 256 + (y 0).val; omega
    | ⟨1, _⟩ => show win0_8.index t (1 : Fin 2) * 1024 + 1 * (y 1).val = (y 1).val; omega
  show @Eq EReal (out0_8 (F := Ideal) _ _ _ _ _ _ ((cfg0.win 8).xinj (grid0.coords t) y)) (values (X m c) (G m c) (W m c) (((cfg0.win 8).blk t).view.emb y))
  rw [hx, he]
  refine (values_apply _ _ _ _ _ _ _ _).trans ?_
  exact wide_block m c t ⟨(y 0).val, hy0⟩ ⟨1024 + (y 1).val, by omega⟩ ⟨t.val * 256 + (y 0).val, by omega⟩ rfl

theorem values_mem (t : Fin cfg0.N) (i : S32768x1024.Idx) :
    i ∈ ((cfg0.win 8).blk t).view.set ↔ ∀ a : Fin 2, win0_8.index t a * S256x1024.size a ≤ (i a).val ∧ (i a).val < win0_8.index t a * S256x1024.size a + S256x1024.size a := by
  show i ∈ ((View.whole main_v9_2).slice (win0_8.rect t)).set ↔ _
  rw [View.set_slice_whole, Rect.mem_set_unit]
  exact Iff.rfl

theorem values_result : (dats m 0 c).arrAt 8 cfg0.N = values (X m c) (G m c) (W m c) :=
  (dats m 0 c).arrAt_eq_of_cover 8 _ (fun t _ => values_flushed m c t) (fun i => by
    have hi0 : (i 0).val < 32768 := (i 0).isLt
    have hi1 : (i 1).val < 1024 := (i 1).isLt
    refine ⟨⟨(i 0).val / 256, lt_of_lt_of_eq (by omega) N_0.symm⟩, writes8 ⟨(i 0).val / 256, by omega⟩, ?_⟩
    obtain ⟨_, _, _, _, _, _, _, _, ⟨h0, h1⟩, _⟩ := places ⟨(i 0).val / 256, lt_of_lt_of_eq (by omega) N_0.symm⟩
    rw [values_mem]
    intro a
    match a with
    | ⟨0, _⟩ => show win0_8.index _ (0 : Fin 2) * 256 ≤ (i 0).val ∧ (i 0).val < win0_8.index _ (0 : Fin 2) * 256 + 256; rw [h0]; show (i 0).val / 256 * 256 ≤ _ ∧ _ < (i 0).val / 256 * 256 + 256; omega
    | ⟨1, _⟩ => show win0_8.index _ (1 : Fin 2) * 1024 ≤ (i 1).val ∧ (i 1).val < win0_8.index _ (1 : Fin 2) * 1024 + 1024; rw [h1]; omega)

theorem gates_flushed (t : Fin cfg0.N) :
    (dats m 0 c).flushed 9 t = ((cfg0.win 9).blk t).view.read (Elt Ideal) (gates (X m c) (G m c) (W m c)) := by
  obtain ⟨_, _, _, _, _, _, _, _, _, ⟨h0, h1⟩, _⟩ := places t
  have ht := lt_of_lt_of_eq t.isLt (show cfg0.N = 128 from N_0)
  rw [flushed9]
  funext y
  have hy0 : (y 0).val < 256 := (y 0).isLt
  have hy1 : (y 1).val < 1024 := (y 1).isLt
  have hx : (cfg0.win 9).xinj (grid0.coords t) y = ix2 (⟨(y 0).val, hy0⟩ : Fin 256) (⟨(y 1).val, hy1⟩ : Fin 1024) := by
    funext a
    match a with
    | ⟨0, _⟩ => rfl
    | ⟨1, _⟩ => rfl
  have he : ((cfg0.win 9).blk t).view.emb y = ix2 (⟨t.val * 256 + (y 0).val, by omega⟩ : Fin 32768) (⟨(y 1).val, hy1⟩ : Fin 1024) := by
    refine funext fun a => Fin.ext ?_
    match a with
    | ⟨0, _⟩ => show win0_9.index t (0 : Fin 2) * 256 + 1 * (y 0).val = t.val * 256 + (y 0).val; omega
    | ⟨1, _⟩ => show win0_9.index t (1 : Fin 2) * 1024 + 1 * (y 1).val = (y 1).val; omega
  show @Eq EReal (out0_9 (F := Ideal) _ _ _ _ _ _ ((cfg0.win 9).xinj (grid0.coords t) y)) (gates (X m c) (G m c) (W m c) (((cfg0.win 9).blk t).view.emb y))
  rw [hx, he]
  refine (gates_apply _ _ _ _ _ _ _ _).trans ?_
  exact wide_block m c t ⟨(y 0).val, hy0⟩ ⟨2048 + (y 1).val, by omega⟩ ⟨t.val * 256 + (y 0).val, by omega⟩ rfl

theorem gates_mem (t : Fin cfg0.N) (i : S32768x1024.Idx) :
    i ∈ ((cfg0.win 9).blk t).view.set ↔ ∀ a : Fin 2, win0_9.index t a * S256x1024.size a ≤ (i a).val ∧ (i a).val < win0_9.index t a * S256x1024.size a + S256x1024.size a := by
  show i ∈ ((View.whole main_v9_3).slice (win0_9.rect t)).set ↔ _
  rw [View.set_slice_whole, Rect.mem_set_unit]
  exact Iff.rfl

theorem gates_result : (dats m 0 c).arrAt 9 cfg0.N = gates (X m c) (G m c) (W m c) :=
  (dats m 0 c).arrAt_eq_of_cover 9 _ (fun t _ => gates_flushed m c t) (fun i => by
    have hi0 : (i 0).val < 32768 := (i 0).isLt
    have hi1 : (i 1).val < 1024 := (i 1).isLt
    refine ⟨⟨(i 0).val / 256, lt_of_lt_of_eq (by omega) N_0.symm⟩, writes9 ⟨(i 0).val / 256, by omega⟩, ?_⟩
    obtain ⟨_, _, _, _, _, _, _, _, _, ⟨h0, h1⟩, _⟩ := places ⟨(i 0).val / 256, lt_of_lt_of_eq (by omega) N_0.symm⟩
    rw [gates_mem]
    intro a
    match a with
    | ⟨0, _⟩ => show win0_9.index _ (0 : Fin 2) * 256 ≤ (i 0).val ∧ (i 0).val < win0_9.index _ (0 : Fin 2) * 256 + 256; rw [h0]; show (i 0).val / 256 * 256 ≤ _ ∧ _ < (i 0).val / 256 * 256 + 256; omega
    | ⟨1, _⟩ => show win0_9.index _ (1 : Fin 2) * 1024 ≤ (i 1).val ∧ (i 1).val < win0_9.index _ (1 : Fin 2) * 1024 + 1024; rw [h1]; omega)

theorem decays_flushed (t : Fin cfg0.N) :
    (dats m 0 c).flushed 10 t = ((cfg0.win 10).blk t).view.read (Elt Ideal) (decays (X m c) (G m c) (W m c) (WA m c) (BA m c)) := by
  obtain ⟨_, _, _, _, _, _, _, _, _, _, h0, h1⟩ := places t
  have ht := lt_of_lt_of_eq t.isLt (show cfg0.N = 128 from N_0)
  rw [flushed10]
  funext y
  have hy0 : (y 0).val < 256 := (y 0).isLt
  have hy1 : (y 1).val < 512 := (y 1).isLt
  have hx : (cfg0.win 10).xinj (grid0.coords t) y = ix2 (⟨(y 0).val, hy0⟩ : Fin 256) (⟨(y 1).val, hy1⟩ : Fin 512) := by
    funext a
    match a with
    | ⟨0, _⟩ => rfl
    | ⟨1, _⟩ => rfl
  have he : ((cfg0.win 10).blk t).view.emb y = ix2 (⟨t.val * 256 + (y 0).val, by omega⟩ : Fin 32768) (⟨(y 1).val, hy1⟩ : Fin 512) := by
    refine funext fun a => Fin.ext ?_
    match a with
    | ⟨0, _⟩ => show win0_10.index t (0 : Fin 2) * 256 + 1 * (y 0).val = t.val * 256 + (y 0).val; omega
    | ⟨1, _⟩ => show win0_10.index t (1 : Fin 2) * 512 + 1 * (y 1).val = (y 1).val; omega
  show @Eq EReal (out0_10 (F := Ideal) _ _ _ _ _ _ ((cfg0.win 10).xinj (grid0.coords t) y)) (decays (X m c) (G m c) (W m c) (WA m c) (BA m c) (((cfg0.win 10).blk t).view.emb y))
  rw [hx, he]
  refine (decays_apply _ _ _ _ _ _ _ _).trans ?_
  exact congrArg decay (logits_block m c t ⟨(y 0).val, hy0⟩ ⟨(y 1).val, hy1⟩ ⟨t.val * 256 + (y 0).val, by omega⟩ rfl)

theorem decays_mem (t : Fin cfg0.N) (i : S32768x512.Idx) :
    i ∈ ((cfg0.win 10).blk t).view.set ↔ ∀ a : Fin 2, win0_10.index t a * S256x512.size a ≤ (i a).val ∧ (i a).val < win0_10.index t a * S256x512.size a + S256x512.size a := by
  show i ∈ ((View.whole main_v9_4).slice (win0_10.rect t)).set ↔ _
  rw [View.set_slice_whole, Rect.mem_set_unit]
  exact Iff.rfl

theorem decays_result : (dats m 0 c).arrAt 10 cfg0.N = decays (X m c) (G m c) (W m c) (WA m c) (BA m c) :=
  (dats m 0 c).arrAt_eq_of_cover 10 _ (fun t _ => decays_flushed m c t) (fun i => by
    have hi0 : (i 0).val < 32768 := (i 0).isLt
    have hi1 : (i 1).val < 512 := (i 1).isLt
    refine ⟨⟨(i 0).val / 256, lt_of_lt_of_eq (by omega) N_0.symm⟩, writes10 ⟨(i 0).val / 256, by omega⟩, ?_⟩
    obtain ⟨_, _, _, _, _, _, _, _, _, _, h0, h1⟩ := places ⟨(i 0).val / 256, lt_of_lt_of_eq (by omega) N_0.symm⟩
    rw [decays_mem]
    intro a
    match a with
    | ⟨0, _⟩ => show win0_10.index _ (0 : Fin 2) * 256 ≤ (i 0).val ∧ (i 0).val < win0_10.index _ (0 : Fin 2) * 256 + 256; rw [h0]; show (i 0).val / 256 * 256 ≤ _ ∧ _ < (i 0).val / 256 * 256 + 256; omega
    | ⟨1, _⟩ => show win0_10.index _ (1 : Fin 2) * 512 ≤ (i 1).val ∧ (i 1).val < win0_10.index _ (1 : Fin 2) * 512 + 512; rw [h1]; omega)

end Cert.GlaIn

end
-- ==== Proof.Out.Gla.lean ====
/-
  The gated-linear-attention output projection: the kernel's result array, block after block, is the residual plus the
  product that the reference states.
-/
module

public import proofs.«01_k».proof.Proof.Gen.Kernel3Ideal.Value
public import proofs.«01_k».proof.Proof.Gen.Reference3Ideal.Run
public import Idealize.ShloMosaic.Lib.Pointwise

@[expose] public section

set_option maxRecDepth 16384

noncomputable section

namespace Cert.Out.Gla

open Idealize.ShloMosaic Idealize.ShloMosaic.TcCoe Idealize.SL.Sem Cert.Kernel3Ideal Cert.Kernel3Ideal.Gen Cert.Kernel3Ideal.Value

/-- One result element: the residual plus the row times the column. -/
def projected (o : FVec Ideal S32768x1024 .bf16) (w : FVec Ideal S1024x1024 .f32) (x : FVec Ideal S32768x1024 .f32) : FVec Ideal S32768x1024 .f32 :=
  fun i => (x i : EReal) + ∑ k : Fin 1024, (o (ix2 (i 0) k) : EReal) * (w (ix2 k (i 1)) : EReal)

theorem body_apply (x0 : Vec Ideal S256x1024 .bf16) (x1 : Vec Ideal S1024x1024 .bf16) (x2 : Vec Ideal S256x1024 .f32) (r : Fin 256) (l : Fin 1024) :
    @Eq EReal (out0_3 x0 x1 x2 (ix2 r l)) (x2 (ix2 r l) + ∑ k : Fin 1024, (x0 (ix2 r k) : EReal) * (x1 (ix2 k l) : EReal)) := by
  have hz : (![0, 0] : Fin 2 → Nat) = fun _ => 0 := by funext a; match a with | ⟨0, _⟩ => rfl | ⟨1, _⟩ => rfl
  unfold out0_3
  rw [View.canon_unit_zero hz, View.ld_unit_zero hz, View.ld_unit_zero hz, View.ld_unit_zero hz]
  pointwise [k0_pay1]

variable (m : (ℓ : Loc nD τ sig) → Buf (Elt Ideal) ℓ) (c : Dev nD)

/-- The arguments as launched. -/
abbrev O : FVec Ideal S32768x1024 .bf16 := m ((c.tc : Thread nD τ).loc main_arg0)
abbrev W : FVec Ideal S1024x1024 .f32 := m ((c.tc : Thread nD τ).loc main_arg1)
abbrev X : FVec Ideal S32768x1024 .f32 := m ((c.tc : Thread nD τ).loc main_arg2)

/-- Where each window's block lies at a point. -/
theorem places : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0) :=
  (by decide +kernel : ∀ t : Fin grid0.N, _)

/-- The point that writes back the block holding row `i`. -/
theorem writes : ∀ q : Fin 128, win0_3.flush (⟨q.val, lt_of_lt_of_eq q.isLt N_0.symm⟩ : Fin grid0.N) = true := by decide +kernel

theorem block0 (t : Fin cfg0.N) (r : Fin 256) (l : Fin 1024) (i : Fin 32768) (hi : i.val = t.val * 256 + r.val) :
    (iblk m c 0 t : Vec Ideal S256x1024 .bf16) (ix2 r l) = O m c (ix2 i l) := by
  obtain ⟨⟨h0, h1⟩, _⟩ := places t
  unfold iblk
  rw [View.read_apply]
  show V m c main_arg0 _ = _
  rw [V_main_arg0]
  refine congrArg (O m c) (funext fun a => Fin.ext ?_)
  match a with
  | ⟨0, _⟩ => show win0_0.index t (0 : Fin 2) * 256 + 1 * r.val = i.val; omega
  | ⟨1, _⟩ => show win0_0.index t (1 : Fin 2) * 1024 + 1 * l.val = l.val; omega

theorem V_weight : (V m c main_v0 : S1024x1024.Idx → EReal) = W m c := rfl

theorem block1 (t : Fin cfg0.N) (r : Fin 1024) (l : Fin 1024) :
    @Eq EReal ((iblk m c 1 t : Vec Ideal S1024x1024 .bf16) (ix2 r l)) (W m c (ix2 r l)) := by
  obtain ⟨_, ⟨h0, h1⟩, _⟩ := places t
  rw [← V_weight]
  unfold iblk
  rw [View.read_apply]
  show V m c main_v0 _ = _
  refine congrArg (V m c main_v0) (funext fun a => Fin.ext ?_)
  match a with
  | ⟨0, _⟩ => show win0_1.index t (0 : Fin 2) * 1024 + 1 * r.val = r.val; omega
  | ⟨1, _⟩ => show win0_1.index t (1 : Fin 2) * 1024 + 1 * l.val = l.val; omega

theorem block2 (t : Fin cfg0.N) (r : Fin 256) (l : Fin 1024) (i : Fin 32768) (hi : i.val = t.val * 256 + r.val) :
    (iblk m c 2 t : Vec Ideal S256x1024 .f32) (ix2 r l) = X m c (ix2 i l) := by
  obtain ⟨_, _, ⟨h0, h1⟩, _⟩ := places t
  unfold iblk
  rw [View.read_apply]
  show V m c main_arg2 _ = _
  rw [V_main_arg2]
  refine congrArg (X m c) (funext fun a => Fin.ext ?_)
  match a with
  | ⟨0, _⟩ => show win0_2.index t (0 : Fin 2) * 256 + 1 * r.val = i.val; omega
  | ⟨1, _⟩ => show win0_2.index t (1 : Fin 2) * 1024 + 1 * l.val = l.val; omega

theorem flushed_eq (t : Fin cfg0.N) :
    (dats m 0 c).flushed 3 t = ((cfg0.win 3).blk t).view.read (Elt Ideal) (projected (O m c) (W m c) (X m c)) := by
  obtain ⟨_, _, _, h0, h1⟩ := places t
  have ht := lt_of_lt_of_eq t.isLt (show cfg0.N = 128 from N_0)
  rw [flushed3]
  funext y
  have hy0 : (y 0).val < 256 := (y 0).isLt
  have hy1 : (y 1).val < 1024 := (y 1).isLt
  have hx : (cfg0.win 3).xinj (grid0.coords t) y = ix2 (⟨(y 0).val, hy0⟩ : Fin 256) (⟨(y 1).val, hy1⟩ : Fin 1024) := by
    funext a
    match a with
    | ⟨0, _⟩ => rfl
    | ⟨1, _⟩ => rfl
  have he : ((cfg0.win 3).blk t).view.emb y = ix2 (⟨t.val * 256 + (y 0).val, by omega⟩ : Fin 32768) (⟨(y 1).val, hy1⟩ : Fin 1024) := by
    refine funext fun a => Fin.ext ?_
    match a with
    | ⟨0, _⟩ => show win0_3.index t (0 : Fin 2) * 256 + 1 * (y 0).val = t.val * 256 + (y 0).val; omega
    | ⟨1, _⟩ => show win0_3.index t (1 : Fin 2) * 1024 + 1 * (y 1).val = (y 1).val; omega
  show @Eq EReal (out0_3 (F := Ideal) _ _ _ ((cfg0.win 3).xinj (grid0.coords t) y)) (projected _ _ _ (((cfg0.win 3).blk t).view.emb y))
  rw [hx, he]
  refine (body_apply _ _ _ _ _).trans ?_
  refine congrArg₂ (· + ·) (block2 m c t _ _ _ rfl) (Finset.sum_congr rfl fun k _ => congrArg₂ (· * ·) (block0 m c t _ _ _ rfl) (block1 m c t _ _))

theorem mem_block (t : Fin cfg0.N) (i : S32768x1024.Idx) :
    i ∈ ((cfg0.win 3).blk t).view.set ↔ ∀ a : Fin 2, win0_3.index t a * S256x1024.size a ≤ (i a).val ∧ (i a).val < win0_3.index t a * S256x1024.size a + S256x1024.size a := by
  show i ∈ ((View.whole main_v1).slice (win0_3.rect t)).set ↔ _
  rw [View.set_slice_whole, Rect.mem_set_unit]
  exact Iff.rfl

/-- The result array after the run. -/
theorem result : (dats m 0 c).arrAt 3 cfg0.N = projected (O m c) (W m c) (X m c) :=
  (dats m 0 c).arrAt_eq_of_cover 3 _ (fun t _ => flushed_eq m c t) (fun i => by
    have hi0 : (i 0).val < 32768 := (i 0).isLt
    have hi1 : (i 1).val < 1024 := (i 1).isLt
    refine ⟨⟨(i 0).val / 256, lt_of_lt_of_eq (by omega) N_0.symm⟩, writes ⟨(i 0).val / 256, by omega⟩, ?_⟩
    obtain ⟨_, _, _, h0, h1⟩ := places ⟨(i 0).val / 256, lt_of_lt_of_eq (by omega) N_0.symm⟩
    rw [mem_block]
    intro a
    match a with
    | ⟨0, _⟩ => show win0_3.index _ (0 : Fin 2) * 256 ≤ (i 0).val ∧ (i 0).val < win0_3.index _ (0 : Fin 2) * 256 + 256; rw [h0]; show (i 0).val / 256 * 256 ≤ _ ∧ _ < (i 0).val / 256 * 256 + 256; omega
    | ⟨1, _⟩ => show win0_3.index _ (1 : Fin 2) * 1024 ≤ (i 1).val ∧ (i 1).val < win0_3.index _ (1 : Fin 2) * 1024 + 1024; rw [h1]; omega)

/-- The reference's result, read at an index. -/
theorem reference (o : FVec Ideal Cert.Reference3Ideal.S32768x1024 .bf16) (w : FVec Ideal Cert.Reference3Ideal.S1024x1024 .f32) (x : FVec Ideal Cert.Reference3Ideal.S32768x1024 .f32)
    (h : FTy.bits .bf16 < FTy.bits .f32) :
    addf x (Host.dotGeneral (F := Ideal) Cert.Reference3Ideal.dot_S32768x1024_S1024x1024_S32768x1024_1_0_0_1_n_n none (extf .f32 o h) w) = projected o w x := by
  refine funext fun i => ?_
  have hi : i = ix2 (i 0) (i 1) := by
    funext a
    match a with
    | ⟨0, _⟩ => rfl
    | ⟨1, _⟩ => rfl
  rw [hi]
  pointwise [projected]

end Cert.Out.Gla

end
-- ==== Proof.SwaIn.Spec.lean ====
/-
  The sliding-window attention's input projection in the reference's own terms: the projected rows, each head's RMS norm,
  and the partial rotation by position; and the facts of finite numbers the kernel's own form of the norm needs.
-/
module

public import Idealize.ShloMosaic.Lib.Pointwise
public import Idealize.ShloMosaic.Lib.ValueIdxCore
public import proofs.«01_k».proof.Proof.GlaIn.Spec

@[expose] public section

noncomputable section

namespace Cert.SwaIn

open Idealize.ShloMosaic
open scoped BigOperators

/-- The RMS norm of one head's lanes with its gain. -/
def unit (t g : Fin 64 → EReal) (d : Fin 64) : EReal :=
  t d * Ideal.rsqrt (Ideal.div (∑ e, t e * t e) (Ideal.ofBits .f32 0x42800000#32) + Ideal.ofBits .f32 0x358637BD#32) * g d

/-- The rotation of a head's first sixteen lanes by eight angles. -/
def turn (t : Fin 64 → EReal) (a : Fin 8 → EReal) (d : Fin 64) : EReal :=
  if h : d.val < 8 then t d * Ideal.cos (a ⟨d.val, h⟩) - t ⟨8 + d.val, by omega⟩ * Ideal.sin (a ⟨d.val, h⟩)
  else if h' : d.val - 8 < 8 then t d * Ideal.cos (a ⟨d.val - 8, h'⟩) + t ⟨d.val - 8, by omega⟩ * Ideal.sin (a ⟨d.val - 8, h'⟩)
  else t d

/-- The eight rotation rates. -/
def rate (j : Fin 8) : EReal :=
  Ideal.pow (Ideal.ofBits .f32 0x48F42400#32)
    (Ideal.div (-(Ideal.ofBits .f32 0x40000000#32 * FloatOps.sitofp (F := Ideal) .f32 (BitVec.ofNat 32 j.val))) (Ideal.ofBits .f32 0x41800000#32))

variable (x : FVec Ideal ⟨2, ![32768, 1024]⟩ .f32) (p : IVec ⟨2, ![2, 16384]⟩ 32) (g : FVec Ideal ⟨1, ![1024]⟩ .f32)
  (w : FVec Ideal ⟨2, ![1024, 1280]⟩ .f32) (b : FVec Ideal ⟨1, ![1280]⟩ .f32) (qg kg : FVec Ideal ⟨1, ![64]⟩ .f32)

/-- One row of the projection, at a column. -/
def wide (i : Fin 32768) (l : Fin 1280) : EReal :=
  (∑ k : Fin 1024, GlaIn.normed (fun j => x (ix2 i j)) (fun j => g (ix1 j)) k * w (ix2 k l)) + b (ix1 l)

/-- A row's position. -/
def place (i : Fin 32768) : EReal :=
  FloatOps.sitofp (F := Ideal) .f32 (p (ix2 (⟨i.val / 16384, by omega⟩ : Fin 2) (⟨i.val % 16384, by omega⟩ : Fin 16384)))

/-- A row's query and key heads after the norm and the rotation. -/
def query (i : Fin 32768) (h : Fin 16) : Fin 64 → EReal :=
  turn (unit (fun d => wide x g w b i ⟨h.val * 64 + d.val, by omega⟩) fun d => qg (ix1 d)) fun j => place p i * rate j
def key (i : Fin 32768) (h : Fin 2) : Fin 64 → EReal :=
  turn (unit (fun d => wide x g w b i ⟨1024 + (h.val * 64 + d.val), by omega⟩) fun d => kg (ix1 d)) fun j => place p i * rate j

/-- The three results. -/
def queries : FVec Ideal ⟨2, ![32768, 1024]⟩ .bf16 := fun i =>
  query x p g w b qg (i 0) ⟨(i 1).val / 64, Nat.div_lt_of_lt_mul (i 1).isLt⟩ ⟨(i 1).val % 64, Nat.mod_lt _ (by decide)⟩ * Ideal.ofBits .f32 0x3E000000#32
def keys : FVec Ideal ⟨2, ![32768, 256]⟩ .bf16 := fun i =>
  key x p g w b kg (i 0) ⟨(i 1).val / 128, Nat.div_lt_of_lt_mul (i 1).isLt⟩ ⟨(i 1).val % 64, Nat.mod_lt _ (by decide)⟩
def values : FVec Ideal ⟨2, ![32768, 256]⟩ .bf16 := fun i =>
  wide x g w b (i 0) ⟨1152 + ((i 1).val / 128 * 64 + (i 1).val % 64), by have h : (i 1).val < 256 := (i 1).isLt; omega⟩

/-! ## Finite numbers -/

/-- A number that is neither infinity. -/
def Finite (z : EReal) : Prop := ∃ r : ℝ, z = (r : EReal)

theorem Finite.mul {a b : EReal} : Finite a → Finite b → Finite (a * b) := by
  rintro ⟨r, rfl⟩ ⟨s, rfl⟩; exact ⟨r * s, (EReal.coe_mul r s).symm⟩

theorem Finite.add {a b : EReal} : Finite a → Finite b → Finite (a + b) := by
  rintro ⟨r, rfl⟩ ⟨s, rfl⟩; exact ⟨r + s, (EReal.coe_add r s).symm⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Finite.sum {ι : Type} [Fintype ι] {f : ι → EReal} (h : ∀ i, Finite (f i)) : Finite (∑ i, f i) := by
  choose r hr using h
  exact ⟨∑ i, r i, by rw [coe_sum]; exact Finset.sum_congr rfl fun i _ => hr i⟩

theorem finite_of_abs_lt {z : EReal} (h : max z (-z) < ⊤) : Finite z := by
  induction z using EReal.rec with
  | bot => exact absurd h (by simp)
  | coe a => exact ⟨a, rfl⟩
  | top => exact absurd h (by simp)

theorem ofBits_64 : Ideal.ofBits .f32 0x42800000#32 = ((64 : ℝ) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

theorem ofBits_eps : ∃ r : ℝ, 0 < r ∧ Ideal.ofBits .f32 0x358637BD#32 = (r : EReal) := by
  refine ⟨8796093 * (2 : ℝ) ^ (-43 : ℤ), by positivity, ?_⟩
  simp [Ideal.ofBits, Ideal.ieee, -EReal.coe_mul]

theorem div_coe (r : ℝ) {s : ℝ} (hs : s ≠ 0) : Ideal.div (r : EReal) (s : EReal) = ((r / s : ℝ) : EReal) := by
  unfold Ideal.div
  rw [if_neg (by exact_mod_cast hs), ← EReal.coe_inv, ← EReal.coe_mul, div_eq_mul_inv]

/-- A finite row is finite after its norm. -/
theorem normed_finite {x g : Fin 1024 → EReal} (hx : ∀ j, Finite (x j)) (hg : ∀ j, Finite (g j)) (k : Fin 1024) :
    Finite (GlaIn.normed x g k) := by
  refine Finite.mul (Finite.mul (hx k) ?_) (hg k)
  choose r hr using hx
  obtain ⟨e, he, h⟩ := ofBits_eps
  have hs : ∑ j, x j * x j = ((∑ j, r j * r j : ℝ) : EReal) := by
    rw [coe_sum]
    exact Finset.sum_congr rfl fun j _ => by rw [hr j, EReal.coe_mul]
  rw [hs, ofBits_1024, h, div_coe _ (by norm_num), ← EReal.coe_add]
  have hp : 0 < (∑ j, r j * r j) / 1024 + e :=
    add_pos_of_nonneg_of_pos (div_nonneg (Finset.sum_nonneg fun j _ => mul_self_nonneg (r j)) (by norm_num)) he
  rw [Ideal.rsqrt_coe, if_neg (not_lt.mpr hp.le), if_neg hp.ne']
  exact ⟨_, rfl⟩

/-- The rows, the norm's gain and the projections to queries and keys are finite. -/
def Tame : Prop :=
  (∀ i j, Finite (x (ix2 i j))) ∧ (∀ j, Finite (g (ix1 j))) ∧ (∀ k, ∀ l : Fin 1280, l.val < 1152 → Finite (w (ix2 k l)))
    ∧ ∀ l : Fin 1280, l.val < 1152 → Finite (b (ix1 l))

theorem wide_finite (h : Tame x g w b) (i : Fin 32768) (l : Fin 1280) (hl : l.val < 1152) : Finite (wide x g w b i l) :=
  Finite.add (Finite.sum fun k => Finite.mul (normed_finite (h.1 i) h.2.1 k) (h.2.2.1 k l hl)) (h.2.2.2 l hl)

/-- The block of sixty-four lanes that holds a lane, of a sum over all lanes. -/
theorem sum_block (H : ℕ) (f : Fin (H * 64) → ℝ) (h : Fin H) :
    ∑ e : Fin (H * 64), (if e.val / 64 = h.val then f e else 0) = ∑ d : Fin 64, f ⟨h.val * 64 + d.val, by have := h.isLt; omega⟩ := by
  rw [← (finProdFinEquiv (m := H) (n := 64)).sum_comp, Fintype.sum_prod_type, Finset.sum_eq_single h]
  · refine Finset.sum_congr rfl fun d _ => ?_
    have e : (finProdFinEquiv (h, d)).val = d.val + 64 * h.val := rfl
    rw [if_pos (by rw [e]; omega)]
    exact congrArg f (Fin.ext (by rw [e]; show _ = h.val * 64 + d.val; omega))
  · intro i _ hi
    refine Finset.sum_eq_zero fun d _ => ?_
    have e : (finProdFinEquiv (i, d)).val = d.val + 64 * i.val := rfl
    rw [if_neg (by rw [e]; intro h'; exact hi (Fin.ext (by omega)))]
  · exact fun h' => absurd (Finset.mem_univ h) h'

/-- The kernel's mean of squares of a head: the squares' two parts times the block-diagonal matrix of sixty-fourths. -/
theorem mean_eq (H : ℕ) (t : Fin (H * 64) → EReal) (ht : ∀ e, Finite (t e)) (q : Fin (H * 64) → EReal) (h : Fin H)
    (hq : ∀ e, q e = Ideal.div (if e.val / 64 = h.val then 1 else 0) (Ideal.ofBits .f32 0x42800000#32)) :
    (∑ e, t e * t e * q e) + ∑ e, (t e * t e - t e * t e) * q e
      = Ideal.div (∑ d : Fin 64, t ⟨h.val * 64 + d.val, by have := h.isLt; omega⟩ * t ⟨h.val * 64 + d.val, by have := h.isLt; omega⟩) (Ideal.ofBits .f32 0x42800000#32) := by
  choose r hr using ht
  have z : ∑ e, (t e * t e - t e * t e) * q e = 0 := Finset.sum_eq_zero fun e _ => by
    rw [hr e, ← EReal.coe_mul, ← EReal.coe_sub, sub_self, EReal.coe_zero, zero_mul]
  have s : ∑ e, t e * t e * q e = (((∑ e, if e.val / 64 = h.val then r e * r e else 0) / 64 : ℝ) : EReal) := by
    rw [Finset.sum_div, coe_sum]
    refine Finset.sum_congr rfl fun e _ => ?_
    rw [hq e, hr e, ofBits_64, ← EReal.coe_mul]
    by_cases he : e.val / 64 = h.val
    · rw [if_pos he, if_pos he, ← EReal.coe_one, div_coe _ (by norm_num), ← EReal.coe_mul]
      congr 1; ring
    · rw [if_neg he, if_neg he, ← EReal.coe_zero, div_coe _ (by norm_num), ← EReal.coe_mul]
      congr 1; ring
  rw [z, add_zero, s, sum_block H (fun e => r e * r e) h, ofBits_64, ← div_coe _ (by norm_num), coe_sum]
  exact congrArg (fun z => Ideal.div z _) (Finset.sum_congr rfl fun d _ => by rw [hr, EReal.coe_mul])

/-- The kernel's rotation of one lane, by the lanes eight above and eight below it. -/
theorem turn_lane {n : ℕ} (t : Fin n → EReal) (a : EReal) (l up dn : Fin n) (o : ℕ) (d : Fin 64) (ho : o + 64 ≤ n) (hl : l.val = o + d.val)
    (hup : d.val < 8 → up.val = o + (8 + d.val)) (hdn : 8 ≤ d.val → d.val < 16 → dn.val = o + (d.val - 8)) (f lo hi : EReal)
    (hf : f = if d.val < 16 then rate ⟨d.val % 8, by omega⟩ else 0) (hlo : lo = if d.val < 8 then 0 - Ideal.sin (a * f) else 0)
    (hhi : hi = if 8 ≤ d.val ∧ d.val < 16 then Ideal.sin (a * f) else 0) :
    t l * Ideal.cos (a * f) + t up * lo + t dn * hi = turn (fun e => t ⟨o + e.val, by omega⟩) (fun j => a * rate j) d := by
  unfold turn
  have el : t l = t ⟨o + d.val, by omega⟩ := congrArg t (Fin.ext hl)
  by_cases h8 : d.val < 8
  · have hr : (⟨d.val % 8, by omega⟩ : Fin 8) = ⟨d.val, h8⟩ := Fin.ext (by show d.val % 8 = d.val; omega)
    have eu : t up = t ⟨o + (8 + d.val), by omega⟩ := congrArg t (Fin.ext (hup h8))
    rw [dif_pos h8, hlo, hhi, if_pos h8, if_neg (by omega), hf, if_pos (by omega), hr, mul_zero, add_zero, zero_sub, mul_neg,
      ← sub_eq_add_neg, el, eu]
  · by_cases h16 : d.val - 8 < 8
    · have hr : (⟨d.val % 8, by omega⟩ : Fin 8) = ⟨d.val - 8, h16⟩ := Fin.ext (by show d.val % 8 = d.val - 8; omega)
      have ed : t dn = t ⟨o + (d.val - 8), by omega⟩ := congrArg t (Fin.ext (hdn (by omega) (by omega)))
      rw [dif_neg h8, dif_pos h16, hlo, hhi, if_neg h8, if_pos (by omega), hf, if_pos (by omega), hr, mul_zero, add_zero, el, ed]
    · rw [dif_neg h8, dif_neg h16, hlo, hhi, if_neg h8, if_neg (by omega), hf, if_neg (by omega), mul_zero, mul_zero, add_zero, mul_zero, add_zero, el]
      have hc : Ideal.cos 0 = 1 := by
        rw [← EReal.coe_zero]
        show ((Real.cos 0 : ℝ) : EReal) = 1
        rw [Real.cos_zero, EReal.coe_one]
      rw [hc, mul_one]

end Cert.SwaIn

end
-- ==== Proof.SwaIn.Read.lean ====
/-
  The reference's three results, read at an index.
-/
module

public import proofs.«01_k».proof.Proof.Gen.Reference4Ideal.Run
public import proofs.«01_k».proof.Proof.SwaIn.Spec

@[expose] public section

set_option maxRecDepth 16384

noncomputable section

namespace Cert.SwaIn

open Idealize.ShloMosaic Idealize.ShloMosaic.TcCoe Idealize.SL.Sem Cert.Reference4Ideal Cert.Reference4Ideal.Gen Cert.Reference4Ideal.Value

section Towers

variable (x : FVec Ideal S32768x1024 .f32) (pos : IVec S2x16384 32) (g : FVec Ideal S1024 .f32) (w : FVec Ideal S1024x1280 .f32) (b : FVec Ideal S1280 .f32) (qg kg : FVec Ideal S64 .f32)
  (p : FVec Ideal S2x16384x1280 .f32) (t : FVec Ideal S2x16384x16x64 .f32) (k : FVec Ideal S2x16384x2x64 .f32) (a : FVec Ideal S2x16384x8 .f32)

/-- The projection as the reference computes it. -/
def projected : FVec Ideal S2x16384x1280 .f32 :=
  addf (Host.dotGeneral dot_S2x16384x1024_S1024x1280_S2x16384x1280_2_0_01_1_n_n none (shapeCast S2x16384x1024 (mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))) shapeCasts_S32768x1024_S2x16384x1024) w) (broadcastInDim S2x16384x1280 ![0, 1, 2] bcast_S1x1x1280_S2x16384x1280_0_1_2 (broadcastInDim S1x1x1280 ![2] bcast_S1280_S1x1x1280_2 b))

theorem projected_apply (u : Fin 2) (s : Fin 16384) (l : Fin 1280) :
    @Eq EReal (projected x g w b (ix3 u s l)) (wide x g w b ⟨u.val * 16384 + s.val, by omega⟩ l) := by
  pointwise [projected, wide, GlaIn.normed]

/-- The query heads' norm as the reference computes it. -/
def qnorm : FVec Ideal S2x16384x16x64 .f32 :=
  (mulf (mulf (shapeCast S2x16384x16x64 (extractStridedSlice S2x16384x1024 ![0, 0, 0] p slices_S2x16384x1280_S2x16384x1024_0_0_0) shapeCasts_S2x16384x1024_S2x16384x16x64) (broadcastInDim S2x16384x16x64 ![0, 1, 2, 3] bcast_S2x16384x16x1_S2x16384x16x64_0_1_2_3 (Host.rsqrt (addf (Host.divf (broadcastInDim S2x16384x16x1 ![0, 1, 2] bcast_S2x16384x16_S2x16384x16x1_0_1_2 (Host.reduceAdd (mulf (shapeCast S2x16384x16x64 (extractStridedSlice S2x16384x1024 ![0, 0, 0] p slices_S2x16384x1280_S2x16384x1024_0_0_0) shapeCasts_S2x16384x1024_S2x16384x16x64) (shapeCast S2x16384x16x64 (extractStridedSlice S2x16384x1024 ![0, 0, 0] p slices_S2x16384x1280_S2x16384x1024_0_0_0) shapeCasts_S2x16384x1024_S2x16384x16x64)) (constant S_ .f32 0x00000000#32) reducesTo_S2x16384x16x64_S2x16384x16_d3 h_S_)) (broadcastInDim S2x16384x16x1 ![] bcast_S_S2x16384x16x1 (constant S_ .f32 0x42800000#32))) (broadcastInDim S2x16384x16x1 ![] bcast_S_S2x16384x16x1 (constant S_ .f32 0x358637BD#32)))))) (broadcastInDim S2x16384x16x64 ![0, 1, 2, 3] bcast_S1x1x1x64_S2x16384x16x64_0_1_2_3 (broadcastInDim S1x1x1x64 ![3] bcast_S64_S1x1x1x64_3 qg)))

theorem qnorm_ref (u : Fin 2) (s : Fin 16384) (h : Fin 16) (d : Fin 64) :
    @Eq EReal (qnorm qg p (ix4 u s h d)) (unit (fun e => p (ix3 u s (⟨h.val * 64 + e.val, by omega⟩ : Fin 1280))) (fun e => qg (ix1 e)) d) := by
  pointwise [qnorm, unit]

/-- The key heads' norm as the reference computes it. -/
def knorm : FVec Ideal S2x16384x2x64 .f32 :=
  (mulf (mulf (shapeCast S2x16384x2x64 (extractStridedSlice S2x16384x128 ![0, 0, 1024] p slices_S2x16384x1280_S2x16384x128_0_0_1024) shapeCasts_S2x16384x128_S2x16384x2x64) (broadcastInDim S2x16384x2x64 ![0, 1, 2, 3] bcast_S2x16384x2x1_S2x16384x2x64_0_1_2_3 (Host.rsqrt (addf (Host.divf (broadcastInDim S2x16384x2x1 ![0, 1, 2] bcast_S2x16384x2_S2x16384x2x1_0_1_2 (Host.reduceAdd (mulf (shapeCast S2x16384x2x64 (extractStridedSlice S2x16384x128 ![0, 0, 1024] p slices_S2x16384x1280_S2x16384x128_0_0_1024) shapeCasts_S2x16384x128_S2x16384x2x64) (shapeCast S2x16384x2x64 (extractStridedSlice S2x16384x128 ![0, 0, 1024] p slices_S2x16384x1280_S2x16384x128_0_0_1024) shapeCasts_S2x16384x128_S2x16384x2x64)) (constant S_ .f32 0x00000000#32) reducesTo_S2x16384x2x64_S2x16384x2_d3 h_S_)) (broadcastInDim S2x16384x2x1 ![] bcast_S_S2x16384x2x1 (constant S_ .f32 0x42800000#32))) (broadcastInDim S2x16384x2x1 ![] bcast_S_S2x16384x2x1 (constant S_ .f32 0x358637BD#32)))))) (broadcastInDim S2x16384x2x64 ![0, 1, 2, 3] bcast_S1x1x1x64_S2x16384x2x64_0_1_2_3 (broadcastInDim S1x1x1x64 ![3] bcast_S64_S1x1x1x64_3 kg)))

theorem knorm_ref (u : Fin 2) (s : Fin 16384) (h : Fin 2) (d : Fin 64) :
    @Eq EReal (knorm kg p (ix4 u s h d)) (unit (fun e => p (ix3 u s (⟨1024 + (h.val * 64 + e.val), by omega⟩ : Fin 1280))) (fun e => kg (ix1 e)) d) := by
  pointwise [knorm, unit]

/-- The rotation's angles as the reference computes them. -/
def angles : FVec Ideal S2x16384x8 .f32 :=
  (mulf (broadcastInDim S2x16384x8 ![0, 1, 2] bcast_S2x16384x1_S2x16384x8_0_1_2 (broadcastInDim S2x16384x1 ![0, 1] bcast_S2x16384_S2x16384x1_0_1 (sitofp .f32 pos))) (broadcastInDim S2x16384x8 ![0, 1, 2] bcast_S1x1x8_S2x16384x8_0_1_2 (broadcastInDim S1x1x8 ![2] bcast_S8_S1x1x8_2 (Host.powf (broadcastInDim S8 ![] bcast_S_S8 (constant S_ .f32 0x48F42400#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32)))))))

theorem angles_apply (u : Fin 2) (s : Fin 16384) (j : Fin 8) :
    @Eq EReal (angles pos (ix3 u s j)) (FloatOps.sitofp (F := Ideal) .f32 (pos (ix2 u s)) * rate j) := by
  pointwise [angles, rate]

/-- The rotation of the queries and of the keys as the reference computes it. -/
def turn16 (cs sn : FVec Ideal S2x16384x16x8 .f32) : FVec Ideal S2x16384x16x64 .f32 :=
  concatenate S2x16384x16x64 3 [⟨S2x16384x16x8, subf (mulf (extractStridedSlice S2x16384x16x8 ![0, 0, 0, 0] t slices_S2x16384x16x64_S2x16384x16x8_0_0_0_0) cs) (mulf (extractStridedSlice S2x16384x16x8 ![0, 0, 0, 8] t slices_S2x16384x16x64_S2x16384x16x8_0_0_0_8) sn)⟩, ⟨S2x16384x16x8, addf (mulf (extractStridedSlice S2x16384x16x8 ![0, 0, 0, 8] t slices_S2x16384x16x64_S2x16384x16x8_0_0_0_8) cs) (mulf (extractStridedSlice S2x16384x16x8 ![0, 0, 0, 0] t slices_S2x16384x16x64_S2x16384x16x8_0_0_0_0) sn)⟩, ⟨S2x16384x16x48, extractStridedSlice S2x16384x16x48 ![0, 0, 0, 16] t slices_S2x16384x16x64_S2x16384x16x48_0_0_0_16⟩] concatenates_S2x16384x16x8_S2x16384x16x8_S2x16384x16x48_S2x16384x16x64_d3
def spread16 : FVec Ideal S2x16384x16x8 .f32 := broadcastInDim S2x16384x16x8 ![0, 1, 2, 3] bcast_S2x16384x1x8_S2x16384x16x8_0_1_2_3 (broadcastInDim S2x16384x1x8 ![0, 1, 3] bcast_S2x16384x8_S2x16384x1x8_0_1_3 a)
def turn2 (cs sn : FVec Ideal S2x16384x2x8 .f32) : FVec Ideal S2x16384x2x64 .f32 :=
  concatenate S2x16384x2x64 3 [⟨S2x16384x2x8, subf (mulf (extractStridedSlice S2x16384x2x8 ![0, 0, 0, 0] k slices_S2x16384x2x64_S2x16384x2x8_0_0_0_0) cs) (mulf (extractStridedSlice S2x16384x2x8 ![0, 0, 0, 8] k slices_S2x16384x2x64_S2x16384x2x8_0_0_0_8) sn)⟩, ⟨S2x16384x2x8, addf (mulf (extractStridedSlice S2x16384x2x8 ![0, 0, 0, 8] k slices_S2x16384x2x64_S2x16384x2x8_0_0_0_8) cs) (mulf (extractStridedSlice S2x16384x2x8 ![0, 0, 0, 0] k slices_S2x16384x2x64_S2x16384x2x8_0_0_0_0) sn)⟩, ⟨S2x16384x2x48, extractStridedSlice S2x16384x2x48 ![0, 0, 0, 16] k slices_S2x16384x2x64_S2x16384x2x48_0_0_0_16⟩] concatenates_S2x16384x2x8_S2x16384x2x8_S2x16384x2x48_S2x16384x2x64_d3
def spread2 : FVec Ideal S2x16384x2x8 .f32 := broadcastInDim S2x16384x2x8 ![0, 1, 2, 3] bcast_S2x16384x1x8_S2x16384x2x8_0_1_2_3 (broadcastInDim S2x16384x1x8 ![0, 1, 3] bcast_S2x16384x8_S2x16384x1x8_0_1_3 a)

theorem turn16_apply (u : Fin 2) (s : Fin 16384) (h : Fin 16) (d : Fin 64) :
    @Eq EReal (turn16 t (spread16 (Host.cos a)) (spread16 (Host.sin a)) (ix4 u s h d)) (turn (fun e => t (ix4 u s h e)) (fun j => a (ix3 u s j)) d) := by
  pointwise [turn16, spread16, turn]
  have e8 (h : ¬d.val < 8) (h' : 8 + (d.val - 8) < 64) : (⟨8 + (d.val - 8), h'⟩ : Fin 64) = d := Fin.ext (by show 8 + (d.val - 8) = d.val; omega)
  have e16 (h : ¬d.val - 8 < 8) (h' : 16 + (d.val - 8 - 8) < 64) : (⟨16 + (d.val - 8 - 8), h'⟩ : Fin 64) = d := Fin.ext (by show 16 + (d.val - 8 - 8) = d.val; omega)
  split_ifs <;> first | rfl | rw [e16 (by assumption)] | rw [e8 (by assumption)]

theorem turn2_apply (u : Fin 2) (s : Fin 16384) (h : Fin 2) (d : Fin 64) :
    @Eq EReal (turn2 k (spread2 (Host.cos a)) (spread2 (Host.sin a)) (ix4 u s h d)) (turn (fun e => k (ix4 u s h e)) (fun j => a (ix3 u s j)) d) := by
  pointwise [turn2, spread2, turn]
  have e8 (h : ¬d.val < 8) (h' : 8 + (d.val - 8) < 64) : (⟨8 + (d.val - 8), h'⟩ : Fin 64) = d := Fin.ext (by show 8 + (d.val - 8) = d.val; omega)
  have e16 (h : ¬d.val - 8 < 8) (h' : 16 + (d.val - 8 - 8) < 64) : (⟨16 + (d.val - 8 - 8), h'⟩ : Fin 64) = d := Fin.ext (by show 16 + (d.val - 8 - 8) = d.val; omega)
  split_ifs <;> first | rfl | rw [e16 (by assumption)] | rw [e8 (by assumption)]

/-- The three results from the rotated heads and the projection. -/
def flatQ : FVec Ideal S32768x1024 .bf16 :=
  truncf .bf16 (shapeCast S32768x1024 (mulf t (broadcastInDim S2x16384x16x64 ![] bcast_S_S2x16384x16x64 (constant S_ .f32 0x3E000000#32))) shapeCasts_S2x16384x16x64_S32768x1024) bitsLt_bf16_f32
def flatK : FVec Ideal S32768x256 .bf16 :=
  truncf .bf16 (shapeCast S32768x256 (broadcastInDim S2x16384x2x2x64 ![0, 1, 2, 3, 4] bcast_S2x16384x2x1x64_S2x16384x2x2x64_0_1_2_3_4 (broadcastInDim S2x16384x2x1x64 ![0, 1, 2, 4] bcast_S2x16384x2x64_S2x16384x2x1x64_0_1_2_4 k)) shapeCasts_S2x16384x2x2x64_S32768x256) bitsLt_bf16_f32
def heads : FVec Ideal S2x16384x2x64 .f32 :=
  shapeCast S2x16384x2x64 (extractStridedSlice S2x16384x128 ![0, 0, 1152] p slices_S2x16384x1280_S2x16384x128_0_0_1152) shapeCasts_S2x16384x128_S2x16384x2x64

theorem flatQ_apply (i : Fin 32768) (l : Fin 1024) :
    @Eq EReal (flatQ t (ix2 i l)) (t (ix4 (⟨i.val / 16384, by omega⟩ : Fin 2) (⟨i.val % 16384, by omega⟩ : Fin 16384) (⟨l.val / 64, by omega⟩ : Fin 16) (⟨l.val % 64, by omega⟩ : Fin 64)) * Ideal.ofBits .f32 0x3E000000#32) := by
  pointwise [flatQ]

theorem flatK_apply (i : Fin 32768) (l : Fin 256) :
    @Eq EReal (flatK k (ix2 i l)) (k (ix4 (⟨i.val / 16384, by omega⟩ : Fin 2) (⟨i.val % 16384, by omega⟩ : Fin 16384) (⟨l.val / 128, by omega⟩ : Fin 2) (⟨l.val % 64, by omega⟩ : Fin 64))) := by
  pointwise [flatK]

theorem heads_apply (u : Fin 2) (s : Fin 16384) (h : Fin 2) (d : Fin 64) :
    @Eq EReal (heads p (ix4 u s h d)) (p (ix3 u s (⟨1152 + (h.val * 64 + d.val), by omega⟩ : Fin 1280))) := by
  pointwise [heads]

theorem wide_joined (i j : Fin 32768) (l : Fin 1280) (h : j.val = i.val / 16384 * 16384 + i.val % 16384) : wide x g w b j l = wide x g w b i l :=
  congrArg (fun z => wide x g w b z l) (Fin.ext (by omega))

theorem queries_tower : flatQ (turn16 (qnorm qg (projected x g w b)) (spread16 (Host.cos (angles pos))) (spread16 (Host.sin (angles pos)))) = queries x pos g w b qg := by
  refine funext fun i => ?_
  rw [ValueIdx.eq_ix2 i]
  refine (flatQ_apply _ _ _).trans (congrArg (fun z : EReal => z * Ideal.ofBits .f32 0x3E000000#32) ?_)
  refine (turn16_apply _ _ _ _ _ _).trans ?_
  unfold query
  refine congrArg₂ (fun q r => turn q r _) (funext fun e => ?_) (funext fun j => angles_apply _ _ _ _)
  refine (qnorm_ref _ _ _ _ _ _).trans (congrArg (fun q => unit q _ e) (funext fun d => ?_))
  refine (projected_apply _ _ _ _ _ _ _).trans ?_
  exact wide_joined x g w b (i 0) _ _ rfl

theorem keys_tower : flatK (turn2 (knorm kg (projected x g w b)) (spread2 (Host.cos (angles pos))) (spread2 (Host.sin (angles pos)))) = keys x pos g w b kg := by
  refine funext fun i => ?_
  rw [ValueIdx.eq_ix2 i]
  refine (flatK_apply _ _ _).trans ?_
  refine (turn2_apply _ _ _ _ _ _).trans ?_
  unfold keys key
  refine congrArg₂ (fun q r => turn q r _) (funext fun e => ?_) (funext fun j => angles_apply _ _ _ _)
  refine (knorm_ref _ _ _ _ _ _).trans (congrArg (fun q => unit q _ e) (funext fun d => ?_))
  refine (projected_apply _ _ _ _ _ _ _).trans ?_
  exact wide_joined x g w b (i 0) _ _ rfl

theorem values_tower : flatK (heads (projected x g w b)) = values x g w b := by
  refine funext fun i => ?_
  rw [ValueIdx.eq_ix2 i]
  refine (flatK_apply _ _ _).trans ?_
  refine (heads_apply _ _ _ _ _).trans ?_
  refine (projected_apply _ _ _ _ _ _ _).trans ?_
  exact wide_joined x g w b (i 0) _ _ rfl

end Towers

variable (m : (ℓ : Loc nD τ sig) → Buf (Elt Ideal) ℓ) (c : Dev nD)

/-- The arguments as launched. -/
abbrev RX : FVec Ideal S32768x1024 .f32 := m ((c.tc : Thread nD τ).loc main_arg0)
abbrev RP : IVec S2x16384 32 := m ((c.tc : Thread nD τ).loc main_arg1)
abbrev RG : FVec Ideal S1024 .f32 := m ((c.tc : Thread nD τ).loc main_arg2)
abbrev RW : FVec Ideal S1024x1280 .f32 := m ((c.tc : Thread nD τ).loc main_arg3)
abbrev RB : FVec Ideal S1280 .f32 := m ((c.tc : Thread nD τ).loc main_arg4)
abbrev RQG : FVec Ideal S64 .f32 := m ((c.tc : Thread nD τ).loc main_arg5)
abbrev RKG : FVec Ideal S64 .f32 := m ((c.tc : Thread nD τ).loc main_arg6)

theorem ref_queries : (res_main_v101 m c : S32768x1024.Idx → EReal) = queries (RX m c) (RP m c) (RG m c) (RW m c) (RB m c) (RQG m c) :=
  Eq.trans (show (res_main_v101 m c : S32768x1024.Idx → EReal) = flatQ (turn16 (qnorm (RQG m c) (projected (RX m c) (RG m c) (RW m c) (RB m c))) (spread16 (Host.cos (angles (RP m c)))) (spread16 (Host.sin (angles (RP m c))))) from rfl) (queries_tower _ _ _ _ _ _)

theorem ref_keys : (res_main_v105 m c : S32768x256.Idx → EReal) = keys (RX m c) (RP m c) (RG m c) (RW m c) (RB m c) (RKG m c) :=
  Eq.trans (show (res_main_v105 m c : S32768x256.Idx → EReal) = flatK (turn2 (knorm (RKG m c) (projected (RX m c) (RG m c) (RW m c) (RB m c))) (spread2 (Host.cos (angles (RP m c)))) (spread2 (Host.sin (angles (RP m c))))) from rfl) (keys_tower _ _ _ _ _ _)

theorem ref_values : (flatK (heads (projected (RX m c) (RG m c) (RW m c) (RB m c))) : S32768x256.Idx → EReal) = values (RX m c) (RG m c) (RW m c) (RB m c) :=
  values_tower _ _ _ _

end Cert.SwaIn

end
-- ==== Proof.SwaIn.Body.lean ====
/-
  What one grid point of the sliding-window attention's input projection computes.
-/
module

public import proofs.«01_k».proof.Proof.Gen.Kernel4Ideal.Value
public import proofs.«01_k».proof.Proof.SwaIn.Spec

@[expose] public section

set_option maxRecDepth 16384

noncomputable section

namespace Cert.SwaIn

open Idealize.ShloMosaic Idealize.ShloMosaic.TcCoe Idealize.SL.Sem Cert.Kernel4Ideal Cert.Kernel4Ideal.Gen

theorem zeros : (![0, 0] : Fin 2 → Nat) = fun _ => 0 := by funext a; match a with | ⟨0, _⟩ => rfl | ⟨1, _⟩ => rfl

/-! ## The rotation's lanes -/

theorem low_word : ∀ l : Fin 128, IntOp.cmpi .slt (IntOp.andi (BitVec.ofNat 32 l.val) 63#32) 8#32 = if l.val % 64 < 8 then 1#1 else 0#1 := by
  decide +kernel

theorem high_word : ∀ l : Fin 128, IntOp.andi (IntOp.cmpi .sge (IntOp.andi (BitVec.ofNat 32 l.val) 63#32) 8#32)
    (IntOp.cmpi .slt (IntOp.andi (BitVec.ofNat 32 l.val) 63#32) 16#32) = if 8 ≤ l.val % 64 ∧ l.val % 64 < 16 then 1#1 else 0#1 := by
  decide +kernel

theorem select_ite {α : Type} (p : Prop) [Decidable p] (a b : α) : Scalar.select (if p then 1#1 else 0#1) a b = if p then a else b := by
  by_cases h : p
  · rw [if_pos h, if_pos h]; exact ValueIdx.select_one _ _
  · rw [if_neg h, if_neg h]; exact ValueIdx.select_zero _ _

theorem low_apply (sn : FVec Ideal S256x128 .f32) (r : Fin 256) (l : Fin 128) :
    @Eq EReal (k0_pay20 sn k0_pay18 k0_pay19 (ix2 r l)) (if l.val % 64 < 8 then 0 - sn (ix2 r l) else 0) := by
  pointwise [k0_pay20, k0_pay18, k0_pay17, k0_pay19]
  rw [low_word, select_ite]

theorem high_apply (sn : FVec Ideal S256x128 .f32) (r : Fin 256) (l : Fin 128) :
    @Eq EReal (k0_pay21 sn k0_pay17 (ix2 r l)) (if 8 ≤ l.val % 64 ∧ l.val % 64 < 16 then sn (ix2 r l) else 0) := by
  pointwise [k0_pay21, k0_pay17]
  rw [high_word, select_ite]

/-- One rotated lane reads its own lane and the two it is rotated with. -/
def lane {n : ℕ} (t : FVec Ideal ⟨2, ![256, n]⟩ .f32) (cs lo hi : FVec Ideal S256x128 .f32) (r : Fin 256) (a up dn : Fin n) (e : Fin 128) : EReal :=
  t (ix2 r a) * cs (ix2 r e) + t (ix2 r up) * lo (ix2 r e) + t (ix2 r dn) * hi (ix2 r e)

theorem lane_congr {n : ℕ} (t : FVec Ideal ⟨2, ![256, n]⟩ .f32) (cs lo hi : FVec Ideal S256x128 .f32) (r : Fin 256) {a up dn a' up' dn' : Fin n} {e e' : Fin 128}
    (ha : a.val = a'.val) (hu : up.val = up'.val) (hd : dn.val = dn'.val) (he : e.val = e'.val) :
    lane t cs lo hi r a up dn e = lane t cs lo hi r a' up' dn' e' := by
  rw [Fin.ext ha, Fin.ext hu, Fin.ext hd, Fin.ext he]

theorem rotated_q (t : FVec Ideal S256x1024 .f32) (cs sn : FVec Ideal S256x128 .f32) (r : Fin 256) (l : Fin 1024) :
    @Eq EReal (k0_pay30 t cs (k0_pay20 sn k0_pay18 k0_pay19) (k0_pay21 sn k0_pay17) (k0_pay22 t cs sn k0_pay17 k0_pay18 k0_pay19) (k0_pay23 t cs sn k0_pay17 k0_pay18 k0_pay19)
        (k0_pay24 t cs sn k0_pay17 k0_pay18 k0_pay19) (k0_pay25 t cs sn k0_pay17 k0_pay18 k0_pay19) (k0_pay27 t) (k0_pay28 t) (k0_pay29 t cs) (ix2 r l))
      (lane t cs (k0_pay20 sn k0_pay18 k0_pay19) (k0_pay21 sn k0_pay17) r l (⟨l.val / 128 * 128 + (l.val % 128 + 8) % 128, by omega⟩ : Fin 1024)
        (⟨l.val / 128 * 128 + (l.val % 128 + 120) % 128, by omega⟩ : Fin 1024) ⟨l.val % 128, by omega⟩ * Ideal.ofBits .f32 0x3E000000#32) := by
  generalize hlo : k0_pay20 sn k0_pay18 k0_pay19 = lo
  generalize hhi : k0_pay21 sn k0_pay17 = hi
  unfold k0_pay30 k0_pay22 k0_pay23 k0_pay24 k0_pay25 k0_pay27 k0_pay28 k0_pay29 k0_pay26
  rw [hlo, hhi]
  pointwise
  have hl := l.isLt
  split_ifs <;> exact congrArg (fun z : EReal => z * Ideal.ofBits .f32 0x3E000000#32) (lane_congr t cs lo hi r (by dsimp only <;> omega) (by dsimp only <;> omega) (by dsimp only <;> omega) (by dsimp only <;> omega))

theorem rotated_k (t : FVec Ideal S256x256 .f32) (cs lo hi : FVec Ideal S256x128 .f32) (r : Fin 256) (l : Fin 256) :
    @Eq EReal (k0_pay1 hi (k0_pay31 t cs lo hi) (k0_pay33 t) (k0_pay34 t cs) (k0_pay35 t lo) (ix2 r l))
      (lane t cs lo hi r l (⟨l.val / 128 * 128 + (l.val % 128 + 8) % 128, by omega⟩ : Fin 256)
        (⟨l.val / 128 * 128 + (l.val % 128 + 120) % 128, by omega⟩ : Fin 256) ⟨l.val % 128, by omega⟩) := by
  unfold k0_pay1 k0_pay31 k0_pay33 k0_pay34 k0_pay35 k0_pay32
  pointwise
  have hl := l.isLt
  split_ifs <;> exact lane_congr t cs lo hi r (by dsimp only <;> omega) (by dsimp only <;> omega) (by dsimp only <;> omega) (by dsimp only <;> omega)

/-! ## The projected rows and the norms of their heads -/

variable (x0 : Vec Ideal S256x1024 .f32) (x1 : Vec Ideal S256x1 .i32) (x2 : Vec Ideal S1x1024 .f32) (x3 : Vec Ideal S1024x1536 .bf16) (x4 : Vec Ideal S1x1536 .f32) (x5 : Vec Ideal S1024x1024 .bf16) (x6 : Vec Ideal S256x256 .bf16) (x7 : Vec Ideal S1x1024 .f32) (x8 : Vec Ideal S1x256 .f32) (x9 : Vec Ideal S1x128 .f32)

theorem row_apply (r : Fin 256) (l : Fin 1536) :
    @Eq EReal (k0_pay3 x0 x2 x3 x4 (ix2 r l)) ((∑ k : Fin 1024, GlaIn.normed (fun j => x0 (ix2 r j)) (fun j => x2 (ix2 0 j)) k * x3 (ix2 k l)) + x4 (ix2 0 l)) := by
  pointwise [k0_pay3, GlaIn.normed]

theorem qnorm_apply (r : Fin 256) (l : Fin 1024) :
    @Eq EReal (k0_pay36 x0 x1 x2 x3 x4 x5 x6 x7 x8 x9 (ix2 r l))
      (k0_pay3 x0 x2 x3 x4 (ix2 r (⟨l.val, by omega⟩ : Fin 1536)) * Ideal.rsqrt ((∑ e : Fin 1024, k0_pay3 x0 x2 x3 x4 (ix2 r (⟨e.val, by omega⟩ : Fin 1536)) * k0_pay3 x0 x2 x3 x4 (ix2 r (⟨e.val, by omega⟩ : Fin 1536)) * x5 (ix2 e l))
        + (∑ e : Fin 1024, (k0_pay3 x0 x2 x3 x4 (ix2 r (⟨e.val, by omega⟩ : Fin 1536)) * k0_pay3 x0 x2 x3 x4 (ix2 r (⟨e.val, by omega⟩ : Fin 1536)) - k0_pay3 x0 x2 x3 x4 (ix2 r (⟨e.val, by omega⟩ : Fin 1536)) * k0_pay3 x0 x2 x3 x4 (ix2 r (⟨e.val, by omega⟩ : Fin 1536))) * x5 (ix2 e l)) + Ideal.ofBits .f32 0x358637BD#32) * x7 (ix2 0 l)) := by
  unfold k0_pay36 k0_pay12 k0_pay7 k0_pay11 k0_pay10 k0_pay9 k0_pay8 k0_pay4
  rw [View.ld_unit_zero zeros _ x0, View.ld_unit_zero zeros _ x2, View.ld_unit_zero zeros _ x3, View.ld_unit_zero zeros _ x4, View.ld_unit_zero zeros _ x5, View.ld_unit_zero zeros _ x7]
  pointwise

theorem knorm_apply (r : Fin 256) (l : Fin 256) :
    @Eq EReal (k0_pay37 x0 x1 x2 x3 x4 x5 x6 x7 x8 x9 (ix2 r l))
      (k0_pay3 x0 x2 x3 x4 (ix2 r (⟨1024 + l.val, by omega⟩ : Fin 1536)) * Ideal.rsqrt ((∑ e : Fin 256, k0_pay3 x0 x2 x3 x4 (ix2 r (⟨1024 + e.val, by omega⟩ : Fin 1536)) * k0_pay3 x0 x2 x3 x4 (ix2 r (⟨1024 + e.val, by omega⟩ : Fin 1536)) * x6 (ix2 e l))
        + (∑ e : Fin 256, (k0_pay3 x0 x2 x3 x4 (ix2 r (⟨1024 + e.val, by omega⟩ : Fin 1536)) * k0_pay3 x0 x2 x3 x4 (ix2 r (⟨1024 + e.val, by omega⟩ : Fin 1536)) - k0_pay3 x0 x2 x3 x4 (ix2 r (⟨1024 + e.val, by omega⟩ : Fin 1536)) * k0_pay3 x0 x2 x3 x4 (ix2 r (⟨1024 + e.val, by omega⟩ : Fin 1536))) * x6 (ix2 e l)) + Ideal.ofBits .f32 0x358637BD#32) * x8 (ix2 0 l)) := by
  unfold k0_pay37 k0_pay13 k0_pay5
  rw [View.ld_unit_zero zeros _ x0, View.ld_unit_zero zeros _ x2, View.ld_unit_zero zeros _ x3, View.ld_unit_zero zeros _ x4, View.ld_unit_zero zeros _ x6, View.ld_unit_zero zeros _ x8]
  pointwise

theorem values_apply (r : Fin 256) (l : Fin 256) :
    @Eq EReal (out0_12 x0 x1 x2 x3 x4 x5 x6 x7 x8 x9 (ix2 r l)) (k0_pay3 x0 x2 x3 x4 (ix2 r (⟨1280 + l.val, by omega⟩ : Fin 1536))) := by
  unfold out0_12
  rw [View.canon_unit_zero zeros, View.ld_unit_zero zeros, View.ld_unit_zero zeros, View.ld_unit_zero zeros, View.ld_unit_zero zeros]
  pointwise [k0_pay2, k0_pay6]

theorem cos_apply (r : Fin 256) (l : Fin 128) :
    @Eq EReal (k0_pay38 x0 x1 x2 x3 x4 x5 x6 x7 x8 x9 (ix2 r l)) (Ideal.cos (FloatOps.sitofp (F := Ideal) .f32 (x1 (ix2 r 0)) * x9 (ix2 0 l))) := by
  unfold k0_pay38 k0_pay15 k0_pay14
  rw [View.ld_unit_zero zeros _ x1, View.ld_unit_zero zeros _ x9]
  pointwise

theorem sin_apply (r : Fin 256) (l : Fin 128) :
    @Eq EReal (k0_pay39 x0 x1 x2 x3 x4 x5 x6 x7 x8 x9 (ix2 r l)) (Ideal.sin (FloatOps.sitofp (F := Ideal) .f32 (x1 (ix2 r 0)) * x9 (ix2 0 l))) := by
  unfold k0_pay39 k0_pay16 k0_pay14
  rw [View.ld_unit_zero zeros _ x1, View.ld_unit_zero zeros _ x9]
  pointwise

theorem queries_lane (r : Fin 256) (l : Fin 1024) :
    @Eq EReal (out0_10 x0 x1 x2 x3 x4 x5 x6 x7 x8 x9 (ix2 r l))
      (lane (k0_pay36 x0 x1 x2 x3 x4 x5 x6 x7 x8 x9) (k0_pay38 x0 x1 x2 x3 x4 x5 x6 x7 x8 x9) (k0_pay20 (k0_pay39 x0 x1 x2 x3 x4 x5 x6 x7 x8 x9) k0_pay18 k0_pay19) (k0_pay21 (k0_pay39 x0 x1 x2 x3 x4 x5 x6 x7 x8 x9) k0_pay17) r l (⟨l.val / 128 * 128 + (l.val % 128 + 8) % 128, by omega⟩ : Fin 1024)
        (⟨l.val / 128 * 128 + (l.val % 128 + 120) % 128, by omega⟩ : Fin 1024) ⟨l.val % 128, by omega⟩ * Ideal.ofBits .f32 0x3E000000#32) := by
  unfold out0_10
  rw [View.canon_unit_zero zeros]
  exact rotated_q _ _ _ r l

theorem keys_lane (r : Fin 256) (l : Fin 256) :
    @Eq EReal (out0_11 x0 x1 x2 x3 x4 x5 x6 x7 x8 x9 (ix2 r l))
      (lane (k0_pay37 x0 x1 x2 x3 x4 x5 x6 x7 x8 x9) (k0_pay38 x0 x1 x2 x3 x4 x5 x6 x7 x8 x9) (k0_pay20 (k0_pay39 x0 x1 x2 x3 x4 x5 x6 x7 x8 x9) k0_pay18 k0_pay19) (k0_pay21 (k0_pay39 x0 x1 x2 x3 x4 x5 x6 x7 x8 x9) k0_pay17) r l (⟨l.val / 128 * 128 + (l.val % 128 + 8) % 128, by omega⟩ : Fin 256)
        (⟨l.val / 128 * 128 + (l.val % 128 + 120) % 128, by omega⟩ : Fin 256) ⟨l.val % 128, by omega⟩) := by
  unfold out0_11
  rw [View.canon_unit_zero zeros]
  exact rotated_k _ _ _ _ r l

end Cert.SwaIn

end
-- ==== Proof.SwaIn.Freq.lean ====
/-
  The rotation's rates as the kernel lays them out over its lanes.
-/
module

public import proofs.«01_k».proof.Proof.Gen.Kernel4Ideal.Value
public import proofs.«01_k».proof.Proof.SwaIn.Spec

@[expose] public section

set_option maxRecDepth 16384

noncomputable section

namespace Cert.SwaIn

open Idealize.ShloMosaic Idealize.ShloMosaic.TcCoe Idealize.SL.Sem Cert.Kernel4Ideal Cert.Kernel4Ideal.Gen

/-- The rotation rates as the kernel's host computes them. -/
def rates : FVec Ideal S8 .f32 :=
  Host.powf (broadcastInDim S8 ![] bcast_S_S8 (constant S_ .f32 0x48F42400#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32)))

/-- Which rate each lane takes. -/
def taps : IVec S128x1 32 :=
  broadcastInDim S128x1 ![0] bcast_S128_S128x1_0 (select (constantI S128 1 0#1) (addi (fun i => lit0 (S128.rowMajor i)) (broadcastInDim S128 ![] bcast_S_S128 (constantI S_ 32 8#32))) (fun i => lit0 (S128.rowMajor i)))

/-- The rates laid out over the lanes, zero where a lane is not rotated. -/
def spread : FVec Ideal S1x128 .f32 :=
  shapeCast S1x128 (select (fun i => lit1 (S128.rowMajor i)) (Host.gather gather_S8_S128x1_S128_n_0_n_n_0_1_1 rates taps) (broadcastInDim S128 ![] bcast_S_S128 (constant (F := Ideal) S_ .f32 0x00000000#32))) shapeCasts_S128_S1x128

theorem rates_apply (j : Fin 8) : @Eq EReal (rates (ix1 j)) (rate j) := by
  pointwise [rates, rate]

theorem tap_apply : ∀ l : Fin 128, gather_S8_S128x1_S128_n_0_n_n_0_1_1.start (ix1 l) taps 0 + gather_S8_S128x1_S128_n_0_n_n_0_1_1.batchCoord (ix1 l) 0
    + gather_S8_S128x1_S128_n_0_n_n_0_1_1.offCoord (ix1 l) 0 = l.val % 8 := by
  decide +kernel

theorem rotated_word : ∀ l : Fin 128, lit1 (S128.rowMajor (ix1 l)) = if l.val % 64 < 16 then 1#1 else 0#1 := by
  decide +kernel

theorem gathered (l : Fin 128) : @Eq EReal (Host.gather gather_S8_S128x1_S128_n_0_n_n_0_1_1 rates taps (ix1 l)) (rate ⟨l.val % 8, by omega⟩) := by
  refine Eq.trans ?_ (rates_apply _)
  refine congrArg rates (funext fun a => ?_)
  match a with
  | ⟨0, _⟩ => exact Fin.ext (tap_apply l)

theorem spread_apply (l : Fin 128) : @Eq EReal (spread (ix2 0 l)) (if l.val % 64 < 16 then rate ⟨l.val % 8, by omega⟩ else 0) := by
  unfold spread
  pointwise
  rw [rotated_word l, gathered l]
  by_cases h : l.val % 64 < 16
  · rw [if_pos h, if_pos h]; exact ValueIdx.select_one _ _
  · rw [if_neg h, if_neg h]; exact ValueIdx.select_zero _ _

end Cert.SwaIn

end
-- ==== Proof.SwaIn.Heads.lean ====
/-
  One grid point's queries, keys and values in the reference's own terms.
-/
module

public import proofs.«01_k».proof.Proof.SwaIn.Body

@[expose] public section

set_option maxRecDepth 16384

noncomputable section

namespace Cert.SwaIn

open Idealize.ShloMosaic Idealize.ShloMosaic.TcCoe Idealize.SL.Sem Cert.Kernel4Ideal Cert.Kernel4Ideal.Gen

/-- The projection's column that a kernel column holds: the key and value heads are laid out twice. -/
def col (l : Fin 1536) : Fin 1280 := ⟨if l.val < 1024 then l.val else 1024 + ((l.val - 1024) / 128 * 64 + (l.val - 1024) % 64), by split_ifs <;> omega⟩

theorem col_eq (l : Fin 1536) (e : Fin 1280) (h : l.val < 1024 ∧ e.val = l.val ∨ 1024 ≤ l.val ∧ e.val = 1024 + ((l.val - 1024) / 128 * 64 + (l.val - 1024) % 64)) :
    e = col l := by
  refine Fin.ext ?_
  show e.val = if l.val < 1024 then l.val else _
  split_ifs <;> omega

variable (x : FVec Ideal S32768x1024 .f32) (p : IVec S2x16384 32) (g : FVec Ideal S1024 .f32) (w : FVec Ideal S1024x1280 .f32) (b : FVec Ideal S1280 .f32) (qg kg : FVec Ideal S64 .f32)
  (x0 : Vec Ideal S256x1024 .f32) (x1 : Vec Ideal S256x1 .i32) (x2 : Vec Ideal S1x1024 .f32) (x3 : Vec Ideal S1024x1536 .bf16) (x4 : Vec Ideal S1x1536 .f32) (x5 : Vec Ideal S1024x1024 .bf16) (x6 : Vec Ideal S256x256 .bf16) (x7 : Vec Ideal S1x1024 .f32) (x8 : Vec Ideal S1x256 .f32) (x9 : Vec Ideal S1x128 .f32)
  (i : Fin 32768) (r : Fin 256)
  (hrow : ∀ l : Fin 1536, @Eq EReal (k0_pay3 x0 x2 x3 x4 (ix2 r l)) (wide x g w b i (col l)))
  (h1 : @Eq EReal (FloatOps.sitofp (F := Ideal) .f32 (x1 (ix2 r 0))) (place p i))
  (h5 : ∀ e l : Fin 1024, @Eq EReal (x5 (ix2 e l)) (Ideal.div (if e.val / 64 = l.val / 64 then 1 else 0) (Ideal.ofBits .f32 0x42800000#32)))
  (h6 : ∀ e l : Fin 256, @Eq EReal (x6 (ix2 e l)) (Ideal.div (if e.val / 64 = l.val / 64 then 1 else 0) (Ideal.ofBits .f32 0x42800000#32)))
  (h7 : ∀ l : Fin 1024, @Eq EReal (x7 (ix2 0 l)) (qg (ix1 (⟨l.val % 64, Nat.mod_lt _ (Nat.zero_lt_succ _)⟩ : Fin 64))))
  (h8 : ∀ l : Fin 256, @Eq EReal (x8 (ix2 0 l)) (kg (ix1 (⟨l.val % 64, Nat.mod_lt _ (Nat.zero_lt_succ _)⟩ : Fin 64))))
  (h9 : ∀ l : Fin 128, @Eq EReal (x9 (ix2 0 l)) (if l.val % 64 < 16 then rate ⟨l.val % 8, Nat.mod_lt _ (Nat.zero_lt_succ _)⟩ else 0))
  (tame : Tame x g w b)

include hrow h5 h7 tame in
theorem query_head (l : Fin 1024) (h : Fin 16) (d : Fin 64) (hl : l.val = h.val * 64 + d.val) :
    @Eq EReal (k0_pay36 x0 x1 x2 x3 x4 x5 x6 x7 x8 x9 (ix2 r l)) (unit (fun e => wide x g w b i ⟨h.val * 64 + e.val, by omega⟩) (fun e => qg (ix1 e)) d) := by
  have row (e : Fin 1024) (f : Fin 1280) (hf : f.val = e.val) : @Eq EReal (k0_pay3 x0 x2 x3 x4 (ix2 r (⟨e.val, by omega⟩ : Fin 1536))) (wide x g w b i f) :=
    (hrow _).trans (congrArg (wide x g w b i) (col_eq _ _ (by dsimp only; omega)).symm)
  have fin (e : Fin 1024) : Finite (k0_pay3 x0 x2 x3 x4 (ix2 r (⟨e.val, by omega⟩ : Fin 1536))) := by
    rw [row e ⟨e.val, by omega⟩ rfl]
    exact wide_finite x g w b tame i _ (by dsimp only; omega)
  refine (qnorm_apply x0 x1 x2 x3 x4 x5 x6 x7 x8 x9 r l).trans ?_
  unfold unit
  refine congrArg₂ (fun a b : EReal => a * b) (congrArg₂ (fun a b : EReal => a * b) (row l _ hl.symm)
    (congrArg (fun z : EReal => Ideal.rsqrt (z + Ideal.ofBits .f32 0x358637BD#32)) ?_)) ((h7 l).trans (congrArg (fun e => qg (ix1 e)) (Fin.ext (by show l.val % 64 = d.val; omega))))
  refine (mean_eq 16 (fun e : Fin 1024 => k0_pay3 x0 x2 x3 x4 (ix2 r (⟨e.val, by omega⟩ : Fin 1536))) fin (fun e : Fin 1024 => x5 (ix2 e l)) h
    (fun e => (h5 e l).trans (by rw [show l.val / 64 = h.val by omega]))).trans ?_
  exact congrArg (fun z : EReal => Ideal.div z (Ideal.ofBits .f32 0x42800000#32)) (Finset.sum_congr rfl fun e _ =>
    congrArg₂ (fun a b : EReal => a * b) (row _ _ rfl) (row _ _ rfl))

include hrow h6 h8 tame in
theorem key_head (l : Fin 256) (h : Fin 4) (d : Fin 64) (hl : l.val = h.val * 64 + d.val) :
    @Eq EReal (k0_pay37 x0 x1 x2 x3 x4 x5 x6 x7 x8 x9 (ix2 r l)) (unit (fun e => wide x g w b i ⟨1024 + (h.val / 2 * 64 + e.val), by omega⟩) (fun e => kg (ix1 e)) d) := by
  have row (e : Fin 256) (f : Fin 1280) (hf : f.val = 1024 + (e.val / 128 * 64 + e.val % 64)) : @Eq EReal (k0_pay3 x0 x2 x3 x4 (ix2 r (⟨1024 + e.val, by omega⟩ : Fin 1536))) (wide x g w b i f) :=
    (hrow _).trans (congrArg (wide x g w b i) (col_eq _ _ (by dsimp only; omega)).symm)
  have fin (e : Fin 256) : Finite (k0_pay3 x0 x2 x3 x4 (ix2 r (⟨1024 + e.val, by omega⟩ : Fin 1536))) := by
    rw [row e ⟨1024 + (e.val / 128 * 64 + e.val % 64), by omega⟩ rfl]
    exact wide_finite x g w b tame i _ (by dsimp only; omega)
  refine (knorm_apply x0 x1 x2 x3 x4 x5 x6 x7 x8 x9 r l).trans ?_
  unfold unit
  refine congrArg₂ (fun a b : EReal => a * b) (congrArg₂ (fun a b : EReal => a * b) (row l _ (by dsimp only; omega))
    (congrArg (fun z : EReal => Ideal.rsqrt (z + Ideal.ofBits .f32 0x358637BD#32)) ?_)) ((h8 l).trans (congrArg (fun e => kg (ix1 e)) (Fin.ext (by show l.val % 64 = d.val; omega))))
  refine (mean_eq 4 (fun e : Fin 256 => k0_pay3 x0 x2 x3 x4 (ix2 r (⟨1024 + e.val, by omega⟩ : Fin 1536))) fin (fun e : Fin 256 => x6 (ix2 e l)) h
    (fun e => (h6 e l).trans (by rw [show l.val / 64 = h.val by omega]))).trans ?_
  exact congrArg (fun z : EReal => Ideal.div z (Ideal.ofBits .f32 0x42800000#32)) (Finset.sum_congr rfl fun e _ =>
    congrArg₂ (fun a b : EReal => a * b) (row _ _ (by dsimp only; omega)) (row _ _ (by dsimp only; omega)))

include h1 h9 in
/-- A rotated lane of a head. -/
theorem lane_turn {n : ℕ} (t : FVec Ideal ⟨2, ![256, n]⟩ .f32) (l up dn : Fin n) (e : Fin 128) (o : ℕ) (d : Fin 64) (ho : o + 64 ≤ n) (hl : l.val = o + d.val)
    (he : e.val % 64 = d.val) (hup : d.val < 8 → up.val = o + (8 + d.val)) (hdn : 8 ≤ d.val → d.val < 16 → dn.val = o + (d.val - 8)) :
    lane t (k0_pay38 x0 x1 x2 x3 x4 x5 x6 x7 x8 x9) (k0_pay20 (k0_pay39 x0 x1 x2 x3 x4 x5 x6 x7 x8 x9) k0_pay18 k0_pay19) (k0_pay21 (k0_pay39 x0 x1 x2 x3 x4 x5 x6 x7 x8 x9) k0_pay17) r l up dn e
      = turn (fun e => t (ix2 r ⟨o + e.val, by omega⟩)) (fun j => place p i * rate j) d := by
  unfold lane
  have hf : @Eq EReal (x9 (ix2 0 e)) (if d.val < 16 then rate ⟨d.val % 8, by omega⟩ else 0) := by
    refine (h9 e).trans ?_
    rw [he]
    have hr : (⟨e.val % 8, by omega⟩ : Fin 8) = ⟨d.val % 8, by omega⟩ := Fin.ext (by show e.val % 8 = d.val % 8; omega)
    rw [hr]
  have hs : @Eq EReal (k0_pay39 x0 x1 x2 x3 x4 x5 x6 x7 x8 x9 (ix2 r e)) (Ideal.sin (place p i * x9 (ix2 0 e))) := by
    refine (sin_apply x0 x1 x2 x3 x4 x5 x6 x7 x8 x9 r e).trans ?_
    rw [h1]
  have hc : @Eq EReal (k0_pay38 x0 x1 x2 x3 x4 x5 x6 x7 x8 x9 (ix2 r e)) (Ideal.cos (place p i * x9 (ix2 0 e))) := by
    refine (cos_apply x0 x1 x2 x3 x4 x5 x6 x7 x8 x9 r e).trans ?_
    rw [h1]
  have hlo := low_apply (k0_pay39 x0 x1 x2 x3 x4 x5 x6 x7 x8 x9) r e
  have hhi := high_apply (k0_pay39 x0 x1 x2 x3 x4 x5 x6 x7 x8 x9) r e
  rw [he, hs] at hlo hhi
  rw [hc]
  exact turn_lane (fun e => t (ix2 r e)) (place p i) l up dn o d ho hl hup hdn _ _ _ hf hlo hhi

include hrow h1 h5 h7 h9 tame in
theorem queries_point (l : Fin 1024) :
    @Eq EReal (out0_10 x0 x1 x2 x3 x4 x5 x6 x7 x8 x9 (ix2 r l)) (query x p g w b qg i ⟨l.val / 64, by omega⟩ ⟨l.val % 64, by omega⟩ * Ideal.ofBits .f32 0x3E000000#32) := by
  refine (queries_lane x0 x1 x2 x3 x4 x5 x6 x7 x8 x9 r l).trans (congrArg (fun z : EReal => z * Ideal.ofBits .f32 0x3E000000#32) ?_)
  refine (lane_turn p x0 x1 x2 x3 x4 x5 x6 x7 x8 x9 i r h1 h9 _ _ _ _ _ (l.val / 64 * 64) ⟨l.val % 64, by omega⟩ (by omega) (by dsimp only; omega) (by dsimp only; omega) (by dsimp only; omega) (by dsimp only; omega)).trans ?_
  unfold query
  refine congrArg (fun t => turn t _ _) (funext fun d => ?_)
  exact query_head x g w b qg x0 x1 x2 x3 x4 x5 x6 x7 x8 x9 i r hrow h5 h7 tame _ ⟨l.val / 64, by omega⟩ d rfl

include hrow h1 h6 h8 h9 tame in
theorem keys_point (l : Fin 256) :
    @Eq EReal (out0_11 x0 x1 x2 x3 x4 x5 x6 x7 x8 x9 (ix2 r l)) (key x p g w b kg i ⟨l.val / 128, by omega⟩ ⟨l.val % 64, by omega⟩) := by
  refine (keys_lane x0 x1 x2 x3 x4 x5 x6 x7 x8 x9 r l).trans ?_
  refine (lane_turn p x0 x1 x2 x3 x4 x5 x6 x7 x8 x9 i r h1 h9 _ _ _ _ _ (l.val / 64 * 64) ⟨l.val % 64, by omega⟩ (by omega) (by dsimp only; omega) (by dsimp only; omega) (by dsimp only; omega) (by dsimp only; omega)).trans ?_
  unfold key
  refine congrArg (fun t => turn t _ _) (funext fun d => ?_)
  refine (key_head x g w b kg x0 x1 x2 x3 x4 x5 x6 x7 x8 x9 i r hrow h6 h8 tame _ ⟨l.val / 64, by omega⟩ d rfl).trans ?_
  refine congrArg (fun t => unit t _ d) (funext fun e => congrArg (wide x g w b i) (Fin.ext ?_))
  show 1024 + (l.val / 64 / 2 * 64 + e.val) = 1024 + (l.val / 128 * 64 + e.val)
  omega

include hrow in
theorem values_point (l : Fin 256) :
    @Eq EReal (out0_12 x0 x1 x2 x3 x4 x5 x6 x7 x8 x9 (ix2 r l)) (wide x g w b i ⟨1152 + (l.val / 128 * 64 + l.val % 64), by omega⟩) := by
  refine (values_apply x0 x1 x2 x3 x4 x5 x6 x7 x8 x9 r l).trans ((hrow _).trans (congrArg (wide x g w b i) (col_eq _ _ ?_).symm))
  dsimp only
  omega

end Cert.SwaIn

end
-- ==== Proof.SwaIn.Host.lean ====
/-
  What the host hands the sliding-window attention's input projection, read at an index.
-/
module

public import proofs.«01_k».proof.Proof.Gen.Kernel4Ideal.Value
public import proofs.«01_k».proof.Proof.SwaIn.Freq
public import proofs.«01_k».proof.Proof.SwaIn.Heads

@[expose] public section

set_option maxRecDepth 16384

noncomputable section

namespace Cert.SwaIn

open Idealize.ShloMosaic Idealize.ShloMosaic.TcCoe Idealize.SL.Sem Cert.Kernel4Ideal Cert.Kernel4Ideal.Gen Cert.Kernel4Ideal.Value

variable (m : (ℓ : Loc nD τ sig) → Buf (Elt Ideal) ℓ) (c : Dev nD)

/-- The arguments as launched. -/
abbrev X : FVec Ideal S32768x1024 .f32 := m ((c.tc : Thread nD τ).loc main_arg0)
abbrev P : IVec S2x16384 32 := m ((c.tc : Thread nD τ).loc main_arg1)
abbrev G : FVec Ideal S1024 .f32 := m ((c.tc : Thread nD τ).loc main_arg2)
abbrev W : FVec Ideal S1024x1280 .f32 := m ((c.tc : Thread nD τ).loc main_arg3)
abbrev B : FVec Ideal S1280 .f32 := m ((c.tc : Thread nD τ).loc main_arg4)
abbrev QG : FVec Ideal S64 .f32 := m ((c.tc : Thread nD τ).loc main_arg5)
abbrev KG : FVec Ideal S64 .f32 := m ((c.tc : Thread nD τ).loc main_arg6)

/-- The four copies of two heads that the kernel lays side by side. -/
def doubled (w : FVec Ideal S1024x128 .f32) : FVec Ideal S1024x256 .f32 :=
  concatenate S1024x256 1 [⟨S1024x64, extractStridedSlice S1024x64 ![0, 0] w slices_S1024x128_S1024x64_0_0⟩, ⟨S1024x64, extractStridedSlice S1024x64 ![0, 0] w slices_S1024x128_S1024x64_0_0⟩, ⟨S1024x64, extractStridedSlice S1024x64 ![0, 64] w slices_S1024x128_S1024x64_0_64⟩, ⟨S1024x64, extractStridedSlice S1024x64 ![0, 64] w slices_S1024x128_S1024x64_0_64⟩] concatenates_S1024x64_S1024x64_S1024x64_S1024x64_S1024x256_d1

def doubled1 (w : FVec Ideal S128 .f32) : FVec Ideal S256 .f32 :=
  concatenate S256 0 [⟨S64, extractStridedSlice S64 ![0] w slices_S128_S64_0⟩, ⟨S64, extractStridedSlice S64 ![0] w slices_S128_S64_0⟩, ⟨S64, extractStridedSlice S64 ![64] w slices_S128_S64_64⟩, ⟨S64, extractStridedSlice S64 ![64] w slices_S128_S64_64⟩] concatenates_S64_S64_S64_S64_S256_d0

/-! What the host hands the kernel. -/

theorem V_weight : (V m c main_v13 : S1024x1536.Idx → EReal) = concatenate S1024x1536 1 [⟨S1024x1024, extractStridedSlice S1024x1024 ![0, 0] (W m c) slices_S1024x1280_S1024x1024_0_0⟩, ⟨S1024x256, doubled (extractStridedSlice S1024x128 ![0, 1024] (W m c) slices_S1024x1280_S1024x128_0_1024)⟩, ⟨S1024x256, doubled (extractStridedSlice S1024x128 ![0, 1152] (W m c) slices_S1024x1280_S1024x128_0_1152)⟩] concatenates_S1024x1024_S1024x256_S1024x256_S1024x1536_d1 := rfl

theorem V_bias : (V m c main_v21 : S1x1536.Idx → EReal) = shapeCast S1x1536 (concatenate S1536 0 [⟨S1024, extractStridedSlice S1024 ![0] (B m c) slices_S1280_S1024_0⟩, ⟨S256, doubled1 (extractStridedSlice S128 ![1024] (B m c) slices_S1280_S128_1024)⟩, ⟨S256, doubled1 (extractStridedSlice S128 ![1152] (B m c) slices_S1280_S128_1152)⟩] concatenates_S1024_S256_S256_S1536_d0) shapeCasts_S1536_S1x1536 := rfl

theorem V_freq : (V m c main_v38 : S1x128.Idx → EReal) = spread := rfl

theorem V_pos : (V m c main_v39 : S32768x1.Idx → BitVec 32) = shapeCast S32768x1 (P m c) shapeCasts_S2x16384_S32768x1 := rfl
theorem V_gain : (V m c main_v40 : S1x1024.Idx → EReal) = shapeCast S1x1024 (G m c) shapeCasts_S1024_S1x1024 := rfl

/-- The block-diagonal matrices of the heads' lanes. -/
def same16 : FVec Ideal S1024x1024 .f32 :=
  shapeCast S1024x1024 (mulf (broadcastInDim S16x64x16x64 ![0, 1, 2, 3] bcast_S16x1x16x1_S16x64x16x64_0_1_2_3 (broadcastInDim S16x1x16x1 ![0, 2] bcast_S16x16_S16x1x16x1_0_2 (uitofp .f32 (cmpi .eq (addi (iotaInDim S16x16 32 0) (broadcastInDim S16x16 ![] bcast_S_S16x16 (constantI S_ 32 0#32))) (iotaInDim S16x16 32 1))))) (broadcastInDim S16x64x16x64 ![0, 1, 2, 3] bcast_S1x64x1x64_S16x64x16x64_0_1_2_3 (broadcastInDim S1x64x1x64 ![1, 3] bcast_S64x64_S1x64x1x64_1_3 (broadcastInDim S64x64 ![] bcast_S_S64x64 (constant S_ .f32 0x3F800000#32))))) shapeCasts_S16x64x16x64_S1024x1024

def same4 : FVec Ideal S256x256 .f32 :=
  shapeCast S256x256 (mulf (broadcastInDim S4x64x4x64 ![0, 1, 2, 3] bcast_S4x1x4x1_S4x64x4x64_0_1_2_3 (broadcastInDim S4x1x4x1 ![0, 2] bcast_S4x4_S4x1x4x1_0_2 (uitofp .f32 (cmpi .eq (addi (iotaInDim S4x4 32 0) (broadcastInDim S4x4 ![] bcast_S_S4x4 (constantI S_ 32 0#32))) (iotaInDim S4x4 32 1))))) (broadcastInDim S4x64x4x64 ![0, 1, 2, 3] bcast_S1x64x1x64_S4x64x4x64_0_1_2_3 (broadcastInDim S1x64x1x64 ![1, 3] bcast_S64x64_S1x64x1x64_1_3 (broadcastInDim S64x64 ![] bcast_S_S64x64 (constant S_ .f32 0x3F800000#32))))) shapeCasts_S4x64x4x64_S256x256

theorem V_pq : (V m c main_v51 : S1024x1024.Idx → EReal) = Host.divf same16 (broadcastInDim S1024x1024 ![] bcast_S_S1024x1024 (constant S_ .f32 0x42800000#32)) := rfl
theorem V_pk : (V m c main_v62 : S256x256.Idx → EReal) = Host.divf same4 (broadcastInDim S256x256 ![] bcast_S_S256x256 (constant S_ .f32 0x42800000#32)) := rfl
theorem V_qg : (V m c main_v66 : S1x1024.Idx → EReal) = shapeCast S1x1024 (shapeCast S1024 (broadcastInDim S16x64 ![0, 1] bcast_S1x64_S16x64_0_1 (shapeCast S1x64 (QG m c) shapeCasts_S64_S1x64)) shapeCasts_S16x64_S1024) shapeCasts_S1024_S1x1024 := rfl
theorem V_kg : (V m c main_v70 : S1x256.Idx → EReal) = shapeCast S1x256 (shapeCast S256 (broadcastInDim S4x64 ![0, 1] bcast_S1x64_S4x64_0_1 (shapeCast S1x64 (KG m c) shapeCasts_S64_S1x64)) shapeCasts_S4x64_S256) shapeCasts_S256_S1x256 := rfl

/-! ## Read at an index -/

variable (w : FVec Ideal S1024x1280 .f32) (b : FVec Ideal S1280 .f32) (g : FVec Ideal S64 .f32)

theorem weight_apply (k : Fin 1024) (l : Fin 1536) : @Eq EReal ((concatenate S1024x1536 1 [⟨S1024x1024, extractStridedSlice S1024x1024 ![0, 0] w slices_S1024x1280_S1024x1024_0_0⟩, ⟨S1024x256, doubled (extractStridedSlice S1024x128 ![0, 1024] w slices_S1024x1280_S1024x128_0_1024)⟩, ⟨S1024x256, doubled (extractStridedSlice S1024x128 ![0, 1152] w slices_S1024x1280_S1024x128_0_1152)⟩] concatenates_S1024x1024_S1024x256_S1024x256_S1024x1536_d1) (ix2 k l)) (w (ix2 k (col l))) := by
  unfold doubled
  pointwise
  have hl := l.isLt
  split_ifs <;> exact congrArg (fun z => w (ix2 k z)) (col_eq l _ (by dsimp only; omega))

theorem bias_apply (l : Fin 1536) : @Eq EReal ((shapeCast S1x1536 (concatenate S1536 0 [⟨S1024, extractStridedSlice S1024 ![0] b slices_S1280_S1024_0⟩, ⟨S256, doubled1 (extractStridedSlice S128 ![1024] b slices_S1280_S128_1024)⟩, ⟨S256, doubled1 (extractStridedSlice S128 ![1152] b slices_S1280_S128_1152)⟩] concatenates_S1024_S256_S256_S1536_d0) shapeCasts_S1536_S1x1536) (ix2 0 l)) (b (ix1 (col l))) := by
  unfold doubled1
  pointwise
  have hl := l.isLt
  split_ifs <;> exact congrArg (fun z => b (ix1 z)) (col_eq l _ (by dsimp only; omega))

theorem qg_apply (l : Fin 1024) : @Eq EReal ((shapeCast S1x1024 (shapeCast S1024 (broadcastInDim S16x64 ![0, 1] bcast_S1x64_S16x64_0_1 (shapeCast S1x64 g shapeCasts_S64_S1x64)) shapeCasts_S16x64_S1024) shapeCasts_S1024_S1x1024) (ix2 0 l)) (g (ix1 (⟨l.val % 64, by omega⟩ : Fin 64))) := by
  pointwise

theorem kg_apply (l : Fin 256) : @Eq EReal ((shapeCast S1x256 (shapeCast S256 (broadcastInDim S4x64 ![0, 1] bcast_S1x64_S4x64_0_1 (shapeCast S1x64 g shapeCasts_S64_S1x64)) shapeCasts_S4x64_S256) shapeCasts_S256_S1x256) (ix2 0 l)) (g (ix1 (⟨l.val % 64, by omega⟩ : Fin 64))) := by
  pointwise

theorem pos_apply (p : IVec S2x16384 32) (i : Fin 32768) :
    shapeCast S32768x1 p shapeCasts_S2x16384_S32768x1 (ix2 i 0) = p (ix2 (⟨i.val / 16384, by omega⟩ : Fin 2) (⟨i.val % 16384, by omega⟩ : Fin 16384)) := by
  pointwise

theorem gain_apply (g : FVec Ideal S1024 .f32) (l : Fin 1024) : @Eq EReal (shapeCast S1x1024 g shapeCasts_S1024_S1x1024 (ix2 0 l)) (g (ix1 l)) := by
  pointwise

theorem same_word16 : ∀ a b : Fin 16, IntOp.cmpi .eq (IntOp.addi (BitVec.ofNat 32 a.val) 0#32) (BitVec.ofNat 32 b.val) = if a.val = b.val then 1#1 else 0#1 := by
  decide +kernel
theorem same_word4 : ∀ a b : Fin 4, IntOp.cmpi .eq (IntOp.addi (BitVec.ofNat 32 a.val) 0#32) (BitVec.ofNat 32 b.val) = if a.val = b.val then 1#1 else 0#1 := by
  decide +kernel

theorem uitofp_ite (p : Prop) [Decidable p] : FloatOps.uitofp (F := Ideal) .f32 (if p then 1#1 else 0#1) = (if p then 1 else 0 : EReal) := by
  by_cases h : p
  · rw [if_pos h, if_pos h]; show (((1 : ℕ) : ℝ) : EReal) = 1; simp
  · rw [if_neg h, if_neg h]; show (((0 : ℕ) : ℝ) : EReal) = 0; simp

theorem pq_apply (e l : Fin 1024) :
    @Eq EReal (Host.divf same16 (broadcastInDim S1024x1024 ![] bcast_S_S1024x1024 (constant S_ .f32 0x42800000#32)) (ix2 e l))
      (Ideal.div (if e.val / 64 = l.val / 64 then 1 else 0) (Ideal.ofBits .f32 0x42800000#32)) := by
  unfold same16
  pointwise
  refine congrArg (fun z : EReal => Ideal.div z (Ideal.ofBits .f32 0x42800000#32)) ?_
  exact (congrArg (FloatOps.uitofp (F := Ideal) .f32) (same_word16 ⟨e.val / 64, by omega⟩ ⟨l.val / 64, by omega⟩)).trans (uitofp_ite _)

theorem pk_apply (e l : Fin 256) :
    @Eq EReal (Host.divf same4 (broadcastInDim S256x256 ![] bcast_S_S256x256 (constant S_ .f32 0x42800000#32)) (ix2 e l))
      (Ideal.div (if e.val / 64 = l.val / 64 then 1 else 0) (Ideal.ofBits .f32 0x42800000#32)) := by
  unfold same4
  pointwise
  refine congrArg (fun z : EReal => Ideal.div z (Ideal.ofBits .f32 0x42800000#32)) ?_
  exact (congrArg (FloatOps.uitofp (F := Ideal) .f32) (same_word4 ⟨e.val / 64, by omega⟩ ⟨l.val / 64, by omega⟩)).trans (uitofp_ite _)

end Cert.SwaIn

end
-- ==== Proof.SwaIn.Blocks.lean ====
/-
  The sliding-window attention's input projection on its grid: each window's block at a point.
-/
module

public import proofs.«01_k».proof.Proof.SwaIn.Body
public import proofs.«01_k».proof.Proof.SwaIn.Host

@[expose] public section

set_option maxRecDepth 16384

noncomputable section

namespace Cert.SwaIn

open Idealize.ShloMosaic Idealize.ShloMosaic.TcCoe Idealize.SL.Sem Cert.Kernel4Ideal Cert.Kernel4Ideal.Gen Cert.Kernel4Ideal.Value

variable (m : (ℓ : Loc nD τ sig) → Buf (Elt Ideal) ℓ) (c : Dev nD)

/-- Where each window's block lies at a point. -/
theorem places : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0) :=
  (by decide +kernel : ∀ t : Fin grid0.N, _)

/-- Every point writes its blocks back. -/
theorem writes10 : ∀ q : Fin 128, win0_10.flush (⟨q.val, lt_of_lt_of_eq q.isLt N_0.symm⟩ : Fin grid0.N) = true := by decide +kernel
theorem writes11 : ∀ q : Fin 128, win0_11.flush (⟨q.val, lt_of_lt_of_eq q.isLt N_0.symm⟩ : Fin grid0.N) = true := by decide +kernel
theorem writes12 : ∀ q : Fin 128, win0_12.flush (⟨q.val, lt_of_lt_of_eq q.isLt N_0.symm⟩ : Fin grid0.N) = true := by decide +kernel

theorem block0 (t : Fin cfg0.N) (r : Fin 256) (l : Fin 1024) (i : Fin 32768) (hi : i.val = t.val * 256 + r.val) :
    @Eq EReal ((iblk m c 0 t : Vec Ideal S256x1024 .f32) (ix2 r l)) (X m c (ix2 i l)) := by
  obtain ⟨⟨h0, h1⟩, _⟩ := places t
  unfold iblk
  rw [View.read_apply]
  show V m c main_arg0 _ = _
  rw [V_main_arg0]
  refine congrArg (X m c) (funext fun a => Fin.ext ?_)
  match a with
  | ⟨0, _⟩ => show win0_0.index t (0 : Fin 2) * 256 + 1 * r.val = i.val; omega
  | ⟨1, _⟩ => show win0_0.index t (1 : Fin 2) * 1024 + 1 * l.val = l.val; omega

theorem block1 (t : Fin cfg0.N) (r : Fin 256) (i : Fin 32768) (hi : i.val = t.val * 256 + r.val) :
    (iblk m c 1 t : Vec Ideal S256x1 .i32) (ix2 r 0) = P m c (ix2 (⟨i.val / 16384, by omega⟩ : Fin 2) (⟨i.val % 16384, by omega⟩ : Fin 16384)) := by
  obtain ⟨_, ⟨h0, h1⟩, _⟩ := places t
  refine Eq.trans ?_ (pos_apply (P m c) i)
  rw [← V_pos]
  unfold iblk
  rw [View.read_apply]
  show V m c main_v39 _ = _
  refine congrArg (V m c main_v39) (funext fun a => Fin.ext ?_)
  match a with
  | ⟨0, _⟩ => show win0_1.index t (0 : Fin 2) * 256 + 1 * r.val = i.val; omega
  | ⟨1, _⟩ => show win0_1.index t (1 : Fin 2) * 1 + 1 * 0 = 0; omega

theorem block2 (t : Fin cfg0.N) (l : Fin 1024) :
    @Eq EReal ((iblk m c 2 t : Vec Ideal S1x1024 .f32) (ix2 0 l)) (G m c (ix1 l)) := by
  obtain ⟨_, _, ⟨h0, h1⟩, _⟩ := places t
  refine Eq.trans ?_ (gain_apply (G m c) l)
  rw [← V_gain]
  unfold iblk
  rw [View.read_apply]
  show V m c main_v40 _ = _
  refine congrArg (V m c main_v40) (funext fun a => Fin.ext ?_)
  match a with
  | ⟨0, _⟩ => show win0_2.index t (0 : Fin 2) * 1 + 1 * 0 = 0; omega
  | ⟨1, _⟩ => show win0_2.index t (1 : Fin 2) * 1024 + 1 * l.val = l.val; omega

theorem block3 (t : Fin cfg0.N) (k : Fin 1024) (l : Fin 1536) :
    @Eq EReal ((iblk m c 3 t : Vec Ideal S1024x1536 .bf16) (ix2 k l)) (W m c (ix2 k (col l))) := by
  obtain ⟨_, _, _, ⟨h0, h1⟩, _⟩ := places t
  refine Eq.trans ?_ (weight_apply (W m c) k l)
  rw [← V_weight]
  unfold iblk
  rw [View.read_apply]
  show V m c main_v13 _ = _
  refine congrArg (V m c main_v13) (funext fun a => Fin.ext ?_)
  match a with
  | ⟨0, _⟩ => show win0_3.index t (0 : Fin 2) * 1024 + 1 * k.val = k.val; omega
  | ⟨1, _⟩ => show win0_3.index t (1 : Fin 2) * 1536 + 1 * l.val = l.val; omega

theorem block4 (t : Fin cfg0.N) (l : Fin 1536) :
    @Eq EReal ((iblk m c 4 t : Vec Ideal S1x1536 .f32) (ix2 0 l)) (B m c (ix1 (col l))) := by
  obtain ⟨_, _, _, _, ⟨h0, h1⟩, _⟩ := places t
  refine Eq.trans ?_ (bias_apply (B m c) l)
  rw [← V_bias]
  unfold iblk
  rw [View.read_apply]
  show V m c main_v21 _ = _
  refine congrArg (V m c main_v21) (funext fun a => Fin.ext ?_)
  match a with
  | ⟨0, _⟩ => show win0_4.index t (0 : Fin 2) * 1 + 1 * 0 = 0; omega
  | ⟨1, _⟩ => show win0_4.index t (1 : Fin 2) * 1536 + 1 * l.val = l.val; omega

theorem block5 (t : Fin cfg0.N) (k : Fin 1024) (l : Fin 1024) :
    @Eq EReal ((iblk m c 5 t : Vec Ideal S1024x1024 .bf16) (ix2 k l)) (Ideal.div (if k.val / 64 = l.val / 64 then 1 else 0) (Ideal.ofBits .f32 0x42800000#32)) := by
  obtain ⟨_, _, _, _, _, ⟨h0, h1⟩, _⟩ := places t
  refine Eq.trans ?_ (pq_apply k l)
  rw [← V_pq m c]
  unfold iblk
  rw [View.read_apply]
  show V m c main_v51 _ = _
  refine congrArg (V m c main_v51) (funext fun a => Fin.ext ?_)
  match a with
  | ⟨0, _⟩ => show win0_5.index t (0 : Fin 2) * 1024 + 1 * k.val = k.val; omega
  | ⟨1, _⟩ => show win0_5.index t (1 : Fin 2) * 1024 + 1 * l.val = l.val; omega

theorem block6 (t : Fin cfg0.N) (k : Fin 256) (l : Fin 256) :
    @Eq EReal ((iblk m c 6 t : Vec Ideal S256x256 .bf16) (ix2 k l)) (Ideal.div (if k.val / 64 = l.val / 64 then 1 else 0) (Ideal.ofBits .f32 0x42800000#32)) := by
  obtain ⟨_, _, _, _, _, _, ⟨h0, h1⟩, _⟩ := places t
  refine Eq.trans ?_ (pk_apply k l)
  rw [← V_pk m c]
  unfold iblk
  rw [View.read_apply]
  show V m c main_v62 _ = _
  refine congrArg (V m c main_v62) (funext fun a => Fin.ext ?_)
  match a with
  | ⟨0, _⟩ => show win0_6.index t (0 : Fin 2) * 256 + 1 * k.val = k.val; omega
  | ⟨1, _⟩ => show win0_6.index t (1 : Fin 2) * 256 + 1 * l.val = l.val; omega

theorem block7 (t : Fin cfg0.N) (l : Fin 1024) :
    @Eq EReal ((iblk m c 7 t : Vec Ideal S1x1024 .f32) (ix2 0 l)) (QG m c (ix1 (⟨l.val % 64, by omega⟩ : Fin 64))) := by
  obtain ⟨_, _, _, _, _, _, _, ⟨h0, h1⟩, _⟩ := places t
  refine Eq.trans ?_ (qg_apply (QG m c) l)
  rw [← V_qg]
  unfold iblk
  rw [View.read_apply]
  show V m c main_v66 _ = _
  refine congrArg (V m c main_v66) (funext fun a => Fin.ext ?_)
  match a with
  | ⟨0, _⟩ => show win0_7.index t (0 : Fin 2) * 1 + 1 * 0 = 0; omega
  | ⟨1, _⟩ => show win0_7.index t (1 : Fin 2) * 1024 + 1 * l.val = l.val; omega

theorem block8 (t : Fin cfg0.N) (l : Fin 256) :
    @Eq EReal ((iblk m c 8 t : Vec Ideal S1x256 .f32) (ix2 0 l)) (KG m c (ix1 (⟨l.val % 64, by omega⟩ : Fin 64))) := by
  obtain ⟨_, _, _, _, _, _, _, _, ⟨h0, h1⟩, _⟩ := places t
  refine Eq.trans ?_ (kg_apply (KG m c) l)
  rw [← V_kg]
  unfold iblk
  rw [View.read_apply]
  show V m c main_v70 _ = _
  refine congrArg (V m c main_v70) (funext fun a => Fin.ext ?_)
  match a with
  | ⟨0, _⟩ => show win0_8.index t (0 : Fin 2) * 1 + 1 * 0 = 0; omega
  | ⟨1, _⟩ => show win0_8.index t (1 : Fin 2) * 256 + 1 * l.val = l.val; omega

theorem block9 (t : Fin cfg0.N) (l : Fin 128) :
    @Eq EReal ((iblk m c 9 t : Vec Ideal S1x128 .f32) (ix2 0 l)) (if l.val % 64 < 16 then rate ⟨l.val % 8, by omega⟩ else 0) := by
  obtain ⟨_, _, _, _, _, _, _, _, _, ⟨h0, h1⟩, _⟩ := places t
  refine Eq.trans ?_ (spread_apply l)
  rw [← V_freq m c]
  unfold iblk
  rw [View.read_apply]
  show V m c main_v38 _ = _
  refine congrArg (V m c main_v38) (funext fun a => Fin.ext ?_)
  match a with
  | ⟨0, _⟩ => show win0_9.index t (0 : Fin 2) * 1 + 1 * 0 = 0; omega
  | ⟨1, _⟩ => show win0_9.index t (1 : Fin 2) * 128 + 1 * l.val = l.val; omega

end Cert.SwaIn

end
-- ==== Proof.SwaIn.Grid.lean ====
/-
  The sliding-window attention's input projection: its three result arrays after the run.
-/
module

public import proofs.«01_k».proof.Proof.SwaIn.Blocks

@[expose] public section

set_option maxRecDepth 16384

noncomputable section

namespace Cert.SwaIn

open Idealize.ShloMosaic Idealize.ShloMosaic.TcCoe Idealize.SL.Sem Cert.Kernel4Ideal Cert.Kernel4Ideal.Gen Cert.Kernel4Ideal.Value

variable (m : (ℓ : Loc nD τ sig) → Buf (Elt Ideal) ℓ) (c : Dev nD)

/-- A row of a point's block times the weight with the heads laid out twice. -/
theorem row_block (t : Fin cfg0.N) (r : Fin 256) (i : Fin 32768) (hi : i.val = t.val * 256 + r.val) (l : Fin 1536) :
    @Eq EReal (k0_pay3 (iblk m c 0 t : Vec Ideal S256x1024 .f32) (iblk m c 2 t : Vec Ideal S1x1024 .f32) (iblk m c 3 t : Vec Ideal S1024x1536 .bf16) (iblk m c 4 t : Vec Ideal S1x1536 .f32) (ix2 r l))
      (wide (X m c) (G m c) (W m c) (B m c) i (col l)) := by
  refine (row_apply _ _ _ _ _ _).trans ?_
  unfold wide
  refine congrArg₂ (fun a b : EReal => a + b) (Finset.sum_congr rfl fun k _ => congrArg₂ (fun a b : EReal => a * b) ?_ (block3 m c t k l)) (block4 m c t l)
  exact congrArg₂ (fun a b => GlaIn.normed a b k) (funext fun j => block0 m c t r j i hi) (funext fun j => block2 m c t j)

theorem place_block (t : Fin cfg0.N) (r : Fin 256) (i : Fin 32768) (hi : i.val = t.val * 256 + r.val) :
    @Eq EReal (FloatOps.sitofp (F := Ideal) .f32 ((iblk m c 1 t : Vec Ideal S256x1 .i32) (ix2 r 0))) (place (P m c) i) :=
  congrArg (FloatOps.sitofp (F := Ideal) .f32) (block1 m c t r i hi)

theorem queries_flushed (t : Fin cfg0.N) (tame : Tame (X m c) (G m c) (W m c) (B m c)) :
    (dats m 0 c).flushed 10 t = ((cfg0.win 10).blk t).view.read (Elt Ideal) (queries (X m c) (P m c) (G m c) (W m c) (B m c) (QG m c)) := by
  obtain ⟨_, _, _, _, _, _, _, _, _, _, ⟨h0, h1⟩, _⟩ := places t
  have ht := lt_of_lt_of_eq t.isLt (show cfg0.N = 128 from N_0)
  rw [flushed10]
  funext y
  have hy0 : (y 0).val < 256 := (y 0).isLt
  have hy1 : (y 1).val < 1024 := (y 1).isLt
  have hx : (cfg0.win 10).xinj (grid0.coords t) y = ix2 (⟨(y 0).val, hy0⟩ : Fin 256) (⟨(y 1).val, hy1⟩ : Fin 1024) := by
    funext a
    match a with
    | ⟨0, _⟩ => rfl
    | ⟨1, _⟩ => rfl
  have he : ((cfg0.win 10).blk t).view.emb y = ix2 (⟨t.val * 256 + (y 0).val, by omega⟩ : Fin 32768) (⟨(y 1).val, hy1⟩ : Fin 1024) := by
    refine funext fun a => Fin.ext ?_
    match a with
    | ⟨0, _⟩ => show win0_10.index t (0 : Fin 2) * 256 + 1 * (y 0).val = t.val * 256 + (y 0).val; omega
    | ⟨1, _⟩ => show win0_10.index t (1 : Fin 2) * 1024 + 1 * (y 1).val = (y 1).val; omega
  show @Eq EReal (out0_10 (F := Ideal) _ _ _ _ _ _ _ _ _ _ ((cfg0.win 10).xinj (grid0.coords t) y)) (queries (X m c) (P m c) (G m c) (W m c) (B m c) (QG m c) (((cfg0.win 10).blk t).view.emb y))
  rw [hx, he]
  exact queries_point (X m c) (P m c) (G m c) (W m c) (B m c) (QG m c) _ _ _ _ _ _ _ _ _ _ ⟨t.val * 256 + (y 0).val, by omega⟩ ⟨(y 0).val, hy0⟩ (row_block m c t ⟨(y 0).val, hy0⟩ _ rfl) (place_block m c t ⟨(y 0).val, hy0⟩ _ rfl) (block5 m c t) (block7 m c t) (block9 m c t) tame ⟨(y 1).val, hy1⟩

theorem queries_mem (t : Fin cfg0.N) (i : S32768x1024.Idx) :
    i ∈ ((cfg0.win 10).blk t).view.set ↔ ∀ a : Fin 2, win0_10.index t a * S256x1024.size a ≤ (i a).val ∧ (i a).val < win0_10.index t a * S256x1024.size a + S256x1024.size a := by
  show i ∈ ((View.whole main_v71_0).slice (win0_10.rect t)).set ↔ _
  rw [View.set_slice_whole, Rect.mem_set_unit]
  exact Iff.rfl

theorem queries_result (tame : Tame (X m c) (G m c) (W m c) (B m c)) : (dats m 0 c).arrAt 10 cfg0.N = queries (X m c) (P m c) (G m c) (W m c) (B m c) (QG m c) :=
  (dats m 0 c).arrAt_eq_of_cover 10 _ (fun t _ => queries_flushed m c t tame) (fun i => by
    have hi0 : (i 0).val < 32768 := (i 0).isLt
    have hi1 : (i 1).val < 1024 := (i 1).isLt
    refine ⟨⟨(i 0).val / 256, lt_of_lt_of_eq (by omega) N_0.symm⟩, writes10 ⟨(i 0).val / 256, by omega⟩, ?_⟩
    obtain ⟨_, _, _, _, _, _, _, _, _, _, ⟨h0, h1⟩, _⟩ := places ⟨(i 0).val / 256, lt_of_lt_of_eq (by omega) N_0.symm⟩
    rw [queries_mem]
    intro a
    match a with
    | ⟨0, _⟩ => show win0_10.index _ (0 : Fin 2) * 256 ≤ (i 0).val ∧ (i 0).val < win0_10.index _ (0 : Fin 2) * 256 + 256; rw [h0]; show (i 0).val / 256 * 256 ≤ _ ∧ _ < (i 0).val / 256 * 256 + 256; omega
    | ⟨1, _⟩ => show win0_10.index _ (1 : Fin 2) * 1024 ≤ (i 1).val ∧ (i 1).val < win0_10.index _ (1 : Fin 2) * 1024 + 1024; rw [h1]; omega)

theorem keys_flushed (t : Fin cfg0.N) (tame : Tame (X m c) (G m c) (W m c) (B m c)) :
    (dats m 0 c).flushed 11 t = ((cfg0.win 11).blk t).view.read (Elt Ideal) (keys (X m c) (P m c) (G m c) (W m c) (B m c) (KG m c)) := by
  obtain ⟨_, _, _, _, _, _, _, _, _, _, _, ⟨h0, h1⟩, _⟩ := places t
  have ht := lt_of_lt_of_eq t.isLt (show cfg0.N = 128 from N_0)
  rw [flushed11]
  funext y
  have hy0 : (y 0).val < 256 := (y 0).isLt
  have hy1 : (y 1).val < 256 := (y 1).isLt
  have hx : (cfg0.win 11).xinj (grid0.coords t) y = ix2 (⟨(y 0).val, hy0⟩ : Fin 256) (⟨(y 1).val, hy1⟩ : Fin 256) := by
    funext a
    match a with
    | ⟨0, _⟩ => rfl
    | ⟨1, _⟩ => rfl
  have he : ((cfg0.win 11).blk t).view.emb y = ix2 (⟨t.val * 256 + (y 0).val, by omega⟩ : Fin 32768) (⟨(y 1).val, hy1⟩ : Fin 256) := by
    refine funext fun a => Fin.ext ?_
    match a with
    | ⟨0, _⟩ => show win0_11.index t (0 : Fin 2) * 256 + 1 * (y 0).val = t.val * 256 + (y 0).val; omega
    | ⟨1, _⟩ => show win0_11.index t (1 : Fin 2) * 256 + 1 * (y 1).val = (y 1).val; omega
  show @Eq EReal (out0_11 (F := Ideal) _ _ _ _ _ _ _ _ _ _ ((cfg0.win 11).xinj (grid0.coords t) y)) (keys (X m c) (P m c) (G m c) (W m c) (B m c) (KG m c) (((cfg0.win 11).blk t).view.emb y))
  rw [hx, he]
  exact keys_point (X m c) (P m c) (G m c) (W m c) (B m c) (KG m c) _ _ _ _ _ _ _ _ _ _ ⟨t.val * 256 + (y 0).val, by omega⟩ ⟨(y 0).val, hy0⟩ (row_block m c t ⟨(y 0).val, hy0⟩ _ rfl) (place_block m c t ⟨(y 0).val, hy0⟩ _ rfl) (block6 m c t) (block8 m c t) (block9 m c t) tame ⟨(y 1).val, hy1⟩

theorem keys_mem (t : Fin cfg0.N) (i : S32768x256.Idx) :
    i ∈ ((cfg0.win 11).blk t).view.set ↔ ∀ a : Fin 2, win0_11.index t a * S256x256.size a ≤ (i a).val ∧ (i a).val < win0_11.index t a * S256x256.size a + S256x256.size a := by
  show i ∈ ((View.whole main_v71_1).slice (win0_11.rect t)).set ↔ _
  rw [View.set_slice_whole, Rect.mem_set_unit]
  exact Iff.rfl

theorem keys_result (tame : Tame (X m c) (G m c) (W m c) (B m c)) : (dats m 0 c).arrAt 11 cfg0.N = keys (X m c) (P m c) (G m c) (W m c) (B m c) (KG m c) :=
  (dats m 0 c).arrAt_eq_of_cover 11 _ (fun t _ => keys_flushed m c t tame) (fun i => by
    have hi0 : (i 0).val < 32768 := (i 0).isLt
    have hi1 : (i 1).val < 256 := (i 1).isLt
    refine ⟨⟨(i 0).val / 256, lt_of_lt_of_eq (by omega) N_0.symm⟩, writes11 ⟨(i 0).val / 256, by omega⟩, ?_⟩
    obtain ⟨_, _, _, _, _, _, _, _, _, _, _, ⟨h0, h1⟩, _⟩ := places ⟨(i 0).val / 256, lt_of_lt_of_eq (by omega) N_0.symm⟩
    rw [keys_mem]
    intro a
    match a with
    | ⟨0, _⟩ => show win0_11.index _ (0 : Fin 2) * 256 ≤ (i 0).val ∧ (i 0).val < win0_11.index _ (0 : Fin 2) * 256 + 256; rw [h0]; show (i 0).val / 256 * 256 ≤ _ ∧ _ < (i 0).val / 256 * 256 + 256; omega
    | ⟨1, _⟩ => show win0_11.index _ (1 : Fin 2) * 256 ≤ (i 1).val ∧ (i 1).val < win0_11.index _ (1 : Fin 2) * 256 + 256; rw [h1]; omega)

theorem values_flushed (t : Fin cfg0.N) :
    (dats m 0 c).flushed 12 t = ((cfg0.win 12).blk t).view.read (Elt Ideal) (values (X m c) (G m c) (W m c) (B m c)) := by
  obtain ⟨_, _, _, _, _, _, _, _, _, _, _, _, ⟨h0, h1⟩⟩ := places t
  have ht := lt_of_lt_of_eq t.isLt (show cfg0.N = 128 from N_0)
  rw [flushed12]
  funext y
  have hy0 : (y 0).val < 256 := (y 0).isLt
  have hy1 : (y 1).val < 256 := (y 1).isLt
  have hx : (cfg0.win 12).xinj (grid0.coords t) y = ix2 (⟨(y 0).val, hy0⟩ : Fin 256) (⟨(y 1).val, hy1⟩ : Fin 256) := by
    funext a
    match a with
    | ⟨0, _⟩ => rfl
    | ⟨1, _⟩ => rfl
  have he : ((cfg0.win 12).blk t).view.emb y = ix2 (⟨t.val * 256 + (y 0).val, by omega⟩ : Fin 32768) (⟨(y 1).val, hy1⟩ : Fin 256) := by
    refine funext fun a => Fin.ext ?_
    match a with
    | ⟨0, _⟩ => show win0_12.index t (0 : Fin 2) * 256 + 1 * (y 0).val = t.val * 256 + (y 0).val; omega
    | ⟨1, _⟩ => show win0_12.index t (1 : Fin 2) * 256 + 1 * (y 1).val = (y 1).val; omega
  show @Eq EReal (out0_12 (F := Ideal) _ _ _ _ _ _ _ _ _ _ ((cfg0.win 12).xinj (grid0.coords t) y)) (values (X m c) (G m c) (W m c) (B m c) (((cfg0.win 12).blk t).view.emb y))
  rw [hx, he]
  exact values_point (X m c) (G m c) (W m c) (B m c) _ _ _ _ _ _ _ _ _ _ ⟨t.val * 256 + (y 0).val, by omega⟩ ⟨(y 0).val, hy0⟩ (row_block m c t ⟨(y 0).val, hy0⟩ _ rfl) ⟨(y 1).val, hy1⟩

theorem values_mem (t : Fin cfg0.N) (i : S32768x256.Idx) :
    i ∈ ((cfg0.win 12).blk t).view.set ↔ ∀ a : Fin 2, win0_12.index t a * S256x256.size a ≤ (i a).val ∧ (i a).val < win0_12.index t a * S256x256.size a + S256x256.size a := by
  show i ∈ ((View.whole main_v71_2).slice (win0_12.rect t)).set ↔ _
  rw [View.set_slice_whole, Rect.mem_set_unit]
  exact Iff.rfl

theorem values_result : (dats m 0 c).arrAt 12 cfg0.N = values (X m c) (G m c) (W m c) (B m c) :=
  (dats m 0 c).arrAt_eq_of_cover 12 _ (fun t _ => values_flushed m c t) (fun i => by
    have hi0 : (i 0).val < 32768 := (i 0).isLt
    have hi1 : (i 1).val < 256 := (i 1).isLt
    refine ⟨⟨(i 0).val / 256, lt_of_lt_of_eq (by omega) N_0.symm⟩, writes12 ⟨(i 0).val / 256, by omega⟩, ?_⟩
    obtain ⟨_, _, _, _, _, _, _, _, _, _, _, _, ⟨h0, h1⟩⟩ := places ⟨(i 0).val / 256, lt_of_lt_of_eq (by omega) N_0.symm⟩
    rw [values_mem]
    intro a
    match a with
    | ⟨0, _⟩ => show win0_12.index _ (0 : Fin 2) * 256 ≤ (i 0).val ∧ (i 0).val < win0_12.index _ (0 : Fin 2) * 256 + 256; rw [h0]; show (i 0).val / 256 * 256 ≤ _ ∧ _ < (i 0).val / 256 * 256 + 256; omega
    | ⟨1, _⟩ => show win0_12.index _ (1 : Fin 2) * 256 ≤ (i 1).val ∧ (i 1).val < win0_12.index _ (1 : Fin 2) * 256 + 256; rw [h1]; omega)

end Cert.SwaIn

end
-- ==== Proof.SwaIn.Tie.lean ====
/-
  The sliding-window attention's input projection against its reference, where the rows and the projections to queries
  and keys are finite.
-/
module

public import Idealize.ShloMosaic.Lib.Pipeline.Value
public import proofs.«01_k».proof.Defs
public import proofs.«01_k».proof.Proof.SwaIn.Read
public import proofs.«01_k».proof.Proof.SwaIn.Grid

@[expose] public section

set_option maxRecDepth 16384

noncomputable section

namespace Cert.SwaIn

open Idealize.ShloMosaic Idealize.ShloMosaic.TcCoe Idealize.SL.Sem

theorem inf_bits : Ideal.ofBits .f32 0x7F800000#32 = (⊤ : EReal) := by
  simp [Ideal.ofBits, Ideal.ieee]

theorem finite_of_word {z : EReal} (h : BitVec.ofBool (decide (max z (-z) < Ideal.ofBits .f32 0x7F800000#32)) = 1#1) : Finite z := by
  rw [inf_bits] at h
  refine finite_of_abs_lt ?_
  by_contra hn
  rw [decide_eq_false hn] at h
  exact absurd h (by decide)

/-- The precondition, read at the rows, the gain, the weight and the bias. -/
theorem tame_of [Cert.Pre_finite_projection.Facts] (x : FVec Ideal Cert.Pre_finite_projection.S32768x1024 .f32) (p : IVec Cert.Pre_finite_projection.S2x16384 32)
    (g : FVec Ideal Cert.Pre_finite_projection.S1024 .f32) (w : FVec Ideal Cert.Pre_finite_projection.S1024x1280 .f32) (b : FVec Ideal Cert.Pre_finite_projection.S1280 .f32)
    (qg kg : FVec Ideal Cert.Pre_finite_projection.S64 .f32) (h : Cert.Pre_finite_projection.fn (F := Ideal) x p g w b qg kg = fun _ => 1#1) : Tame x g w b := by
  unfold Cert.Pre_finite_projection.fn at h
  refine ⟨fun i j => ?_, fun j => ?_, fun k l hl => ?_, fun l hl => ?_⟩
  · have e := congrFun h (ix2 (⟨i.val, by omega⟩ : Fin 35073) j)
    refine finite_of_word (Eq.trans ?_ e)
    pointwise
    rfl
  · have e := congrFun h (ix2 (⟨32768, by omega⟩ : Fin 35073) j)
    refine finite_of_word (Eq.trans ?_ e)
    pointwise
    rfl
  · have e := (concatenate_apply_piece 0 _ _ (ix2 (⟨32769 + l.val, by omega⟩ : Fin 35073) k) 2 (by show 2 < 4; decide) Cert.Pre_finite_projection.S1152x1024 _ rfl rfl 32769 rfl
      (ix2 (⟨l.val, hl⟩ : Fin 1152) k) (fun a ha => match a with | ⟨0, _⟩ => absurd rfl ha | ⟨1, _⟩ => rfl) rfl).symm.trans (congrFun h (ix2 (⟨32769 + l.val, by omega⟩ : Fin 35073) k))
    refine finite_of_word (Eq.trans ?_ e)
    clear e h
    pointwise
    rfl
  · have e := (concatenate_apply_piece 0 _ _ (ix2 (⟨33921 + l.val, by omega⟩ : Fin 35073) (0 : Fin 1024)) 3 (by show 3 < 4; decide) Cert.Pre_finite_projection.S1152x1024 _ rfl rfl 33921 rfl
      (ix2 (⟨l.val, hl⟩ : Fin 1152) (0 : Fin 1024)) (fun a ha => match a with | ⟨0, _⟩ => absurd rfl ha | ⟨1, _⟩ => rfl) rfl).symm.trans (congrFun h (ix2 (⟨33921 + l.val, by omega⟩ : Fin 35073) (0 : Fin 1024)))
    refine finite_of_word (Eq.trans ?_ e)
    clear e h
    pointwise
    rfl

end Cert.SwaIn

end
-- ==== Proof.SwaAttn.Spec.lean ====
/-
  The sliding-window attention: what it computes.
-/
module

public import Idealize.ShloMosaic.Lib.Pointwise
public import Idealize.ShloMosaic.Lib.ValueIdxCore

@[expose] public section

set_option maxRecDepth 16384

noncomputable section

namespace Cert.SwaAttn

open Idealize.ShloMosaic

/-- The score of a key outside the window. -/
def low : EReal := Ideal.ofBits .f32 0xFF800000#32

theorem low_eq : low = ⊥ := by
  simp [low, Ideal.ofBits, Ideal.ieee]

/-- The largest of a row's scores and the sink. -/
def top (f : Fin 256 → EReal) (s : EReal) : EReal := max (Finset.univ.fold max low f) s

/-- The softmax's denominator: the sink joins it. -/
def whole (f : Fin 256 → EReal) (s : EReal) : EReal := (∑ k : Fin 256, Ideal.exp (f k - top f s)) + Ideal.exp (s - top f s)

/-- A key's share. -/
def share (f : Fin 256 → EReal) (s : EReal) (k : Fin 256) : EReal := Ideal.div (Ideal.exp (f k - top f s)) (whole f s)

/-- The keys a query sees: the band of 128 behind it, in the first block only that block's. -/
def Seen (n : Fin 128) (r : Fin 128) (k : Fin 256) : Prop := k.val ≤ r.val + 128 ∧ r.val < k.val ∧ (n.val = 0 → 128 ≤ k.val)

instance (n : Fin 128) (r : Fin 128) (k : Fin 256) : Decidable (Seen n r k) := by unfold Seen; infer_instance

/-- A row's output: the values weighed by the shares of the scores. -/
def attended (see : Fin 256 → Prop) [DecidablePred see] (q : Fin 64 → EReal) (key : Fin 256 → Fin 64 → EReal) (val : Fin 256 → EReal) (s : EReal) : EReal :=
  ∑ k : Fin 256, share (fun k => if see k then ∑ d : Fin 64, q d * key k d else low) s k * val k

theorem first_half (q k : Fin 128 → EReal) :
    (∑ e : Fin 128, (if e.val < 64 then q e else 0) * k e) = ∑ d : Fin 64, q ⟨d.val, by omega⟩ * k ⟨d.val, by omega⟩ := by
  refine (Fin.sum_univ_add (a := 64) (b := 64) _).trans ?_
  refine (congrArg₂ (fun a b : EReal => a + b) (Finset.sum_congr rfl fun d _ => ?_) (Finset.sum_eq_zero fun d _ => ?_)).trans (add_zero _)
  · rw [if_pos (show (Fin.castAdd 64 d).val < 64 from d.isLt)]; rfl
  · rw [if_neg (show ¬ (Fin.natAdd 64 d).val < 64 from by simp), zero_mul]

theorem second_half (q k : Fin 128 → EReal) :
    (∑ e : Fin 128, (if e.val < 64 then 0 else q e) * k e) = ∑ d : Fin 64, q ⟨64 + d.val, by omega⟩ * k ⟨64 + d.val, by omega⟩ := by
  refine (Fin.sum_univ_add (a := 64) (b := 64) _).trans ?_
  refine (congrArg₂ (fun a b : EReal => a + b) (Finset.sum_eq_zero fun d _ => ?_) (Finset.sum_congr rfl fun d _ => ?_)).trans (zero_add _)
  · rw [if_pos (show (Fin.castAdd 64 d).val < 64 from d.isLt), zero_mul]
  · rw [if_neg (show ¬ (Fin.natAdd 64 d).val < 64 from by simp)]; rfl

theorem exp_nonneg (x : EReal) : 0 ≤ Ideal.exp x := by
  induction x with
  | bot => exact le_refl _
  | top => exact le_top
  | coe r => exact EReal.coe_nonneg.2 (Real.exp_pos r).le

theorem low_sub (x : EReal) : Ideal.exp (low - x) = 0 := by
  rw [low_eq, EReal.bot_sub]; rfl

/-- Where the denominator is zero every share is the quotient of zero by zero. -/
theorem share_of_zero (f : Fin 256 → EReal) (s : EReal) (h : whole f s = 0) (k : Fin 256) : share f s k = ⊥ := by
  have hs : (∑ k : Fin 256, Ideal.exp (f k - top f s)) = 0 := by
    refine le_antisymm ?_ (Finset.sum_nonneg fun _ _ => exp_nonneg _)
    exact (le_add_of_nonneg_right (exp_nonneg _)).trans_eq h
  have hk : Ideal.exp (f k - top f s) = 0 := (Finset.sum_eq_zero_iff_of_nonneg fun _ _ => exp_nonneg _).1 hs k (Finset.mem_univ _)
  unfold share
  rw [h, hk, Ideal.div, if_pos rfl, if_neg (lt_irrefl _)]

/-- An unseen key's share is zero unless the denominator is. -/
theorem share_of_unseen (f : Fin 256 → EReal) (s : EReal) (h : whole f s ≠ 0) (k : Fin 256) (hk : f k = low) : share f s k = 0 := by
  unfold share
  rw [hk, low_sub, Ideal.div, if_neg h, zero_mul]

theorem bot_mul_cases (x : EReal) : (⊥ : EReal) * x = ⊥ ∨ (⊥ : EReal) * x = 0 ∨ (⊥ : EReal) * x = ⊤ := by
  rcases lt_trichotomy x 0 with h | h | h
  · exact .inr (.inr (EReal.bot_mul_of_neg h))
  · exact .inr (.inl (by rw [h, mul_zero]))
  · exact .inl (EReal.bot_mul_of_pos h)

/-- Sums of infinities and zeros are such again; doubling one keeps it. -/
theorem sum_cases {ι : Type} (t : Finset ι) (f : ι → EReal) (h : ∀ i, f i = ⊥ ∨ f i = 0 ∨ f i = ⊤) :
    (∑ i ∈ t, f i) = ⊥ ∨ (∑ i ∈ t, f i) = 0 ∨ (∑ i ∈ t, f i) = ⊤ := by
  classical
  induction t using Finset.induction_on with
  | empty => exact .inr (.inl Finset.sum_empty)
  | insert a t ha ih =>
    rw [Finset.sum_insert ha]
    rcases h a with e | e | e <;> rcases ih with e' | e' | e' <;> rw [e, e'] <;> simp

theorem double {x : EReal} (h : x = ⊥ ∨ x = 0 ∨ x = ⊤) : x + x = x := by
  rcases h with e | e | e <;> rw [e] <;> simp

/-- In the first block, the values of the absent block before it do not matter: the block itself may stand in its place. -/
theorem first_block (f : Fin 256 → EReal) (s : EReal) (hf : ∀ k : Fin 256, k.val < 128 → f k = low) (v w : Fin 256 → EReal)
    (hv : ∀ k : Fin 128, v ⟨k.val, by omega⟩ = v ⟨128 + k.val, by omega⟩) (hw : ∀ k : Fin 128, w ⟨k.val, by omega⟩ = 0)
    (hvw : ∀ k : Fin 128, w ⟨128 + k.val, by omega⟩ = v ⟨128 + k.val, by omega⟩) :
    (∑ k : Fin 256, share f s k * v k) = ∑ k : Fin 256, share f s k * w k := by
  have split (u : Fin 256 → EReal) : (∑ k : Fin 256, share f s k * u k)
      = (∑ k : Fin 128, share f s ⟨k.val, by omega⟩ * u ⟨k.val, by omega⟩) + ∑ k : Fin 128, share f s ⟨128 + k.val, by omega⟩ * u ⟨128 + k.val, by omega⟩ :=
    Fin.sum_univ_add (a := 128) (b := 128) _
  rw [split v, split w]
  have z : (∑ k : Fin 128, share f s ⟨k.val, by omega⟩ * w ⟨k.val, by omega⟩) = 0 := Finset.sum_eq_zero fun k _ => by rw [hw k, mul_zero]
  have y : (∑ k : Fin 128, share f s ⟨128 + k.val, by omega⟩ * w ⟨128 + k.val, by omega⟩) = ∑ k : Fin 128, share f s ⟨128 + k.val, by omega⟩ * v ⟨128 + k.val, by omega⟩ :=
    Finset.sum_congr rfl fun k _ => by rw [hvw k]
  rw [z, zero_add, y]
  by_cases h : whole f s = 0
  · have e : (∑ k : Fin 128, share f s ⟨k.val, by omega⟩ * v ⟨k.val, by omega⟩) = ∑ k : Fin 128, share f s ⟨128 + k.val, by omega⟩ * v ⟨128 + k.val, by omega⟩ :=
      Finset.sum_congr rfl fun k _ => by rw [share_of_zero f s h, share_of_zero f s h, hv k]
    rw [e]
    exact double (sum_cases _ _ fun k => by rw [share_of_zero f s h]; exact bot_mul_cases _)
  · rw [Finset.sum_eq_zero fun k _ => by rw [share_of_unseen f s h _ (hf _ k.isLt), zero_mul], zero_add]

end Cert.SwaAttn

end
-- ==== Proof.SwaAttn.Ops.lean ====
/-
  The sliding-window attention's reference, its operations read at an index.
-/
module

public import proofs.«01_k».proof.Proof.Gen.Reference5Ideal.Run
public import proofs.«01_k».proof.Proof.SwaAttn.Spec
public import Idealize.ShloMosaic.Lib.Pointwise
public import Idealize.ShloMosaic.Lib.ValueIdxCore

@[expose] public section

set_option maxRecDepth 16384

noncomputable section

namespace Cert.SwaAttn.Ref

open Idealize.ShloMosaic Idealize.ShloMosaic.TcCoe Idealize.SL.Sem Cert.Reference5Ideal Cert.Reference5Ideal.Gen Cert.Reference5Ideal.Value

section Towers

variable (a : FVec Ideal S16 .f32) (q : FVec Ideal S2x16384x1024 .bf16) (k : FVec Ideal S2x16384x256 .bf16) (h : FVec Ideal S2x128x128x2x64 .f32)
  (w : FVec Ideal S2x128x256x2x64 .f32) (b : IVec S2x2x8x128x128x256 1) (z p : FVec Ideal S2x2x8x128x128x256 .f32)

/-- The first copy of each head, in blocks. -/
def heads : FVec Ideal S2x128x128x2x64 .f32 :=
  (shapeCast _ (shapeCast _ (extractStridedSlice S2x16384x2x1x64 ![0, 0, 0, 0, 0] (shapeCast _ (extf .f32 k bitsLt_bf16_f32) shapeCasts_S2x16384x256_S2x16384x2x2x64) slices_S2x16384x2x2x64_S2x16384x2x1x64_0_0_0_0_0) shapeCasts_S2x16384x2x1x64_S2x16384x2x64) shapeCasts_S2x16384x2x64_S2x128x128x2x64)

theorem heads_apply (u : Fin 2) (n r : Fin 128) (j : Fin 2) (d : Fin 64) :
    @Eq EReal (heads k (ix5 u n r j d)) (k (ix3 u (⟨n.val * 128 + r.val, by omega⟩ : Fin 16384) (⟨j.val * 128 + d.val, by omega⟩ : Fin 256))) := by
  pointwise [heads]

/-- The block before each block, zeros before the first. -/
def shifted : FVec Ideal S2x128x128x2x64 .f32 :=
  (pad S2x128x128x2x64 ![0, 1, 0, 0, 0] ![0, 0, 0, 0, 0] ![0, 0, 0, 0, 0] (extractStridedSlice S2x127x128x2x64 ![0, 0, 0, 0, 0] h slices_S2x128x128x2x64_S2x127x128x2x64_0_0_0_0_0) (sitofp .f32 (constantI S_ 32 0#32)) pads_S2x127x128x2x64_S2x128x128x2x64_000_100_000_000_000 h_S_)

/-- The block before and the block itself. -/
def window : FVec Ideal S2x128x256x2x64 .f32 :=
  (concatenate S2x128x256x2x64 2 [⟨S2x128x128x2x64, (shifted h)⟩, ⟨S2x128x128x2x64, h⟩] concatenates_S2x128x128x2x64_S2x128x128x2x64_S2x128x256x2x64_d2)

theorem shifted_apply (u : Fin 2) (n r : Fin 128) (j : Fin 2) (d : Fin 64) :
    @Eq EReal (shifted h (ix5 u n r j d)) (if n.val = 0 then 0 else h (ix5 u (⟨n.val - 1, by omega⟩ : Fin 128) r j d)) := by
  pointwise [shifted]
  by_cases e : n.val = 0
  · rw [dif_neg (fun y => by omega), if_pos e]
    show ((((0#32 : BitVec 32).toInt : ℝ)) : EReal) = 0
    simp
  · rw [dif_pos ⟨by omega, by omega⟩, if_neg e]

theorem window_left (u : Fin 2) (n r : Fin 128) (j : Fin 2) (d : Fin 64) :
    window h (ix5 u n (⟨r.val, by omega⟩ : Fin 256) j d) = shifted h (ix5 u n r j d) :=
  concatenate_apply_piece 2 _ _ (ix5 u n (⟨r.val, by omega⟩ : Fin 256) j d) 0 (by show 0 < 2; decide) S2x128x128x2x64 _ rfl rfl 0 rfl
    (ix5 u n r j d) (fun a ha => match a with | ⟨0, _⟩ => rfl | ⟨1, _⟩ => rfl | ⟨2, _⟩ => absurd rfl ha | ⟨3, _⟩ => rfl | ⟨4, _⟩ => rfl) (by show 0 + r.val = r.val; omega)

theorem window_right (u : Fin 2) (n r : Fin 128) (j : Fin 2) (d : Fin 64) :
    window h (ix5 u n (⟨128 + r.val, by omega⟩ : Fin 256) j d) = h (ix5 u n r j d) :=
  concatenate_apply_piece 2 _ _ (ix5 u n (⟨128 + r.val, by omega⟩ : Fin 256) j d) 1 (by show 1 < 2; decide) S2x128x128x2x64 _ rfl rfl 128 rfl
    (ix5 u n r j d) (fun a ha => match a with | ⟨0, _⟩ => rfl | ⟨1, _⟩ => rfl | ⟨2, _⟩ => absurd rfl ha | ⟨3, _⟩ => rfl | ⟨4, _⟩ => rfl) rfl

/-- The window's mask. -/
def mask : IVec S2x2x8x128x128x256 1 :=
  (broadcastInDim S2x2x8x128x128x256 ![3, 4, 5] bcast_S128x128x256_S2x2x8x128x128x256_3_4_5 (andi (broadcastInDim S128x128x256 ![0, 1, 2] bcast_S1x128x256_S128x128x256_0_1_2 (broadcastInDim S1x128x256 ![1, 2] bcast_S128x256_S1x128x256_1_2 (andi (cmpi .sge (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32))) (cmpi .slt (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))))) (broadcastInDim S128x128x256 ![0, 1, 2] bcast_S128x1x256_S128x128x256_0_1_2 (broadcastInDim S128x1x256 ![0, 2] bcast_S128x256_S128x1x256_0_2 (cmpi .sge (subi (addi (broadcastInDim S128x256 ![0, 1] bcast_S128x1_S128x256_0_1 (muli (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32))) (broadcastInDim S128x256 ![] bcast_S_S128x256 (constantI S_ 32 0#32)))))))

/-- The masked scores. -/
def scored : FVec Ideal S2x2x8x128x128x256 .f32 :=
  (select b (transpose S2x2x8x128x128x256 [0, 1, 5, 2, 4, 3] (Host.dotGeneral dot_S2x128x256x2x64_S2x128x128x2x8x64_S2x2x128x256x128x8_4_5_2_24_031_031 none w (shapeCast _ (extf .f32 q bitsLt_bf16_f32) shapeCasts_S2x16384x1024_S2x128x128x2x8x64)) transposes_S2x2x128x256x128x8_S2x2x8x128x128x256_0_1_5_2_4_3) (broadcastInDim S2x2x8x128x128x256 ![] bcast_S_S2x2x8x128x128x256 (id (constant S_ .f32 0xFF800000#32))))

theorem scored_ref (u j : Fin 2) (g : Fin 8) (n r : Fin 128) (e : Fin 256) :
    @Eq EReal (scored q w b (ix6 u j g n r e)) (Scalar.select (b (ix6 u j g n r e)) (∑ d : Fin 64, w (ix5 u n e j d) * q (ix3 u (⟨n.val * 128 + r.val, by omega⟩ : Fin 16384) (⟨j.val * 512 + g.val * 64 + d.val, by omega⟩ : Fin 1024))) low) := by
  pointwise [scored, low]
  rfl

/-- The sinks on every row. -/
def sunk : FVec Ideal S2x2x8x128x128 .f32 :=
  (broadcastInDim S2x2x8x128x128 ![0, 1, 2, 3, 4] bcast_S1x2x8x1x1_S2x2x8x128x128_0_1_2_3_4 (broadcastInDim S1x2x8x1x1 ![1, 2] bcast_S2x8_S1x2x8x1x1_1_2 (shapeCast _ a shapeCasts_S16_S2x8)))

theorem sunk_apply (u j : Fin 2) (g : Fin 8) (n r : Fin 128) : @Eq EReal (sunk a (ix5 u j g n r)) (a (ix1 (⟨j.val * 8 + g.val, by omega⟩ : Fin 16))) := by
  pointwise [sunk]

/-- The entries of a row of scores, among all the scores. -/
theorem row_of (u j : Fin 2) (g : Fin 8) (n r : Fin 128) (i : S2x2x8x128x128x256.Idx) :
    (reducesTo_S2x2x8x128x128x256_S2x2x8x128x128_d5).drop i = ix5 u j g n r ↔ ∃ e : Fin 256, ix6 u j g n r e = i := by
  constructor
  · intro y
    refine ⟨i 5, funext fun a => Fin.ext ?_⟩
    match a with
    | ⟨0, _⟩ => exact (congrArg Fin.val (congrFun y (0 : Fin 5))).symm
    | ⟨1, _⟩ => exact (congrArg Fin.val (congrFun y (1 : Fin 5))).symm
    | ⟨2, _⟩ => exact (congrArg Fin.val (congrFun y (2 : Fin 5))).symm
    | ⟨3, _⟩ => exact (congrArg Fin.val (congrFun y (3 : Fin 5))).symm
    | ⟨4, _⟩ => exact (congrArg Fin.val (congrFun y (4 : Fin 5))).symm
    | ⟨5, _⟩ => rfl
  · rintro ⟨e, rfl⟩
    refine funext fun a => Fin.ext ?_
    match a with
    | ⟨0, _⟩ => rfl
    | ⟨1, _⟩ => rfl
    | ⟨2, _⟩ => rfl
    | ⟨3, _⟩ => rfl
    | ⟨4, _⟩ => rfl

/-- Each row's largest score. -/
def greatest : FVec Ideal S2x2x8x128x128 .f32 :=
  (Host.reduce FloatOps.maximumf z (constant S_ .f32 0xFF800000#32) reducesTo_S2x2x8x128x128x256_S2x2x8x128x128_d5 h_S_)

theorem greatest_apply (u j : Fin 2) (g : Fin 8) (n r : Fin 128) :
    @Eq EReal (greatest z (ix5 u j g n r)) (Finset.univ.fold max low fun e : Fin 256 => z (ix6 u j g n r e)) :=
  (Host.reduce_eq_fold (α := EReal) max z _ _ _ _).trans
    (Finset.fold_filter_eq_fold_of_fiber (α := EReal) max _ (fun e : Fin 256 => ix6 u j g n r e) (fun _ _ e => congrFun e (5 : Fin 6)) (row_of u j g n r) _ z)

/-- Each row's total. -/
def total : FVec Ideal S2x2x8x128x128 .f32 :=
  (Host.reduceAdd z (constant S_ .f32 0x00000000#32) reducesTo_S2x2x8x128x128x256_S2x2x8x128x128_d5 h_S_)

theorem total_apply (u j : Fin 2) (g : Fin 8) (n r : Fin 128) :
    @Eq EReal (total z (ix5 u j g n r)) (∑ e : Fin 256, z (ix6 u j g n r e)) := by
  refine Eq.trans (b := Ideal.ofBits .f32 0x00000000#32 + ∑ i ∈ Finset.univ.filter (fun i => (reducesTo_S2x2x8x128x128x256_S2x2x8x128x128_d5).drop i = ix5 u j g n r), z i) rfl ?_
  rw [Finset.sum_filter_eq_sum_of_fiber _ (fun e : Fin 256 => ix6 u j g n r e) (fun _ _ e => congrFun e (5 : Fin 6)) (row_of u j g n r) z]
  simp [Ideal.ofBits, Ideal.ieee]

theorem larger (x y : FVec Ideal S2x2x8x128x128 .f32) (i : S2x2x8x128x128.Idx) : @Eq EReal (maximumf x y i) (max (x i) (y i)) := rfl

/-- The largest of the scores and the sink. -/
def largest : FVec Ideal S2x2x8x128x128 .f32 :=
  (maximumf (greatest z) (sunk a))

theorem largest_apply (u j : Fin 2) (g : Fin 8) (n r : Fin 128) :
    @Eq EReal (largest a z (ix5 u j g n r)) (top (fun e => z (ix6 u j g n r e)) (sunk a (ix5 u j g n r))) := by
  unfold largest top
  rw [larger, greatest_apply]

/-- The exponentials. -/
def lifted : FVec Ideal S2x2x8x128x128x256 .f32 :=
  (Host.exp (subf z (broadcastInDim S2x2x8x128x128x256 ![0, 1, 2, 3, 4, 5] bcast_S2x2x8x128x128x1_S2x2x8x128x128x256_0_1_2_3_4_5 (broadcastInDim S2x2x8x128x128x1 ![0, 1, 2, 3, 4] bcast_S2x2x8x128x128_S2x2x8x128x128x1_0_1_2_3_4 (largest a z)))))

theorem lifted_apply (u j : Fin 2) (g : Fin 8) (n r : Fin 128) (e : Fin 256) :
    @Eq EReal (lifted a z (ix6 u j g n r e)) (Ideal.exp (z (ix6 u j g n r e) - largest a z (ix5 u j g n r))) := by
  pointwise [lifted]

/-- The shares. -/
def parts : FVec Ideal S2x2x8x128x128x256 .f32 :=
  (Host.divf (lifted a z) (broadcastInDim S2x2x8x128x128x256 ![0, 1, 2, 3, 4, 5] bcast_S2x2x8x128x128x1_S2x2x8x128x128x256_0_1_2_3_4_5 (broadcastInDim S2x2x8x128x128x1 ![0, 1, 2, 3, 4] bcast_S2x2x8x128x128_S2x2x8x128x128x1_0_1_2_3_4 (addf (total (lifted a z)) (Host.exp (subf (sunk a) (largest a z)))))))

theorem parts_ref (u j : Fin 2) (g : Fin 8) (n r : Fin 128) (e : Fin 256) :
    @Eq EReal (parts a z (ix6 u j g n r e)) (Ideal.div (lifted a z (ix6 u j g n r e)) ((∑ f : Fin 256, lifted a z (ix6 u j g n r f)) + Ideal.exp (sunk a (ix5 u j g n r) - largest a z (ix5 u j g n r)))) := by
  pointwise [parts]
  rw [total_apply]

theorem parts_apply (u j : Fin 2) (g : Fin 8) (n r : Fin 128) (e : Fin 256) :
    @Eq EReal (parts a z (ix6 u j g n r e)) (share (fun e => z (ix6 u j g n r e)) (sunk a (ix5 u j g n r)) e) := by
  rw [parts_ref]
  simp only [lifted_apply, largest_apply]
  rfl

/-- The values weighed by the shares. -/
def gathered : FVec Ideal S2x16384x1024 .bf16 :=
truncf .bf16 (shapeCast _ (transpose S2x128x128x2x8x64 [0, 1, 5, 2, 4, 3] (Host.dotGeneral dot_S2x128x256x2x64_S2x2x8x128x128x256_S2x128x2x64x8x128_2_5_4_24_013_031 none w p) transposes_S2x128x2x64x8x128_S2x128x128x2x8x64_0_1_5_2_4_3) shapeCasts_S2x128x128x2x8x64_S2x16384x1024) bitsLt_bf16_f32

theorem gathered_apply (u : Fin 2) (s : Fin 16384) (l : Fin 1024) :
    @Eq EReal (gathered w p (ix3 u s l)) (∑ e : Fin 256, w (ix5 u (⟨s.val / 128, by omega⟩ : Fin 128) e (⟨l.val / 512, by omega⟩ : Fin 2) (⟨l.val % 64, by omega⟩ : Fin 64)) * p (ix6 u (⟨l.val / 512, by omega⟩ : Fin 2) (⟨l.val / 64 % 8, by omega⟩ : Fin 8) (⟨s.val / 128, by omega⟩ : Fin 128) (⟨s.val % 128, by omega⟩ : Fin 128) e)) := by
  pointwise [gathered]

end Towers

theorem mask_ref (u j : Fin 2) (g : Fin 8) (n r : Fin 128) (e : Fin 256) : mask (ix6 u j g n r e) =
    IntOp.andi (IntOp.andi (IntOp.cmpi .sge (IntOp.subi (IntOp.addi (BitVec.ofNat 32 r.val) 128#32) (BitVec.ofNat 32 e.val)) 0#32) (IntOp.cmpi .slt (IntOp.subi (IntOp.addi (BitVec.ofNat 32 r.val) 128#32) (BitVec.ofNat 32 e.val)) 128#32))
      (IntOp.cmpi .sge (IntOp.subi (IntOp.addi (IntOp.muli (BitVec.ofNat 32 n.val) 128#32) (BitVec.ofNat 32 e.val)) 128#32) 0#32) := by
  pointwise [mask]

theorem behind_word : ∀ (r : Fin 128) (e : Fin 256), IntOp.andi (IntOp.cmpi .sge (IntOp.subi (IntOp.addi (BitVec.ofNat 32 r.val) 128#32) (BitVec.ofNat 32 e.val)) 0#32) (IntOp.cmpi .slt (IntOp.subi (IntOp.addi (BitVec.ofNat 32 r.val) 128#32) (BitVec.ofNat 32 e.val)) 128#32)
    = BitVec.ofBool (decide (e.val ≤ r.val + 128 ∧ r.val < e.val)) := by decide +kernel

theorem inside_word : ∀ (n : Fin 128) (e : Fin 256), IntOp.cmpi .sge (IntOp.subi (IntOp.addi (IntOp.muli (BitVec.ofNat 32 n.val) 128#32) (BitVec.ofNat 32 e.val)) 128#32) 0#32
    = BitVec.ofBool (decide (n.val = 0 → 128 ≤ e.val)) := by decide +kernel

theorem both_word (x y : Bool) : IntOp.andi (BitVec.ofBool x) (BitVec.ofBool y) = BitVec.ofBool (x && y) := by
  revert x y
  decide

theorem seen_apply (u j : Fin 2) (g : Fin 8) (n r : Fin 128) (e : Fin 256) : mask (ix6 u j g n r e) = BitVec.ofBool (decide (Seen n r e)) := by
  rw [mask_ref, behind_word, inside_word, both_word]
  refine congrArg BitVec.ofBool ?_
  rw [← Bool.decide_and]
  refine decide_eq_decide.2 ?_
  unfold Seen
  tauto

theorem select_bool (x : Bool) (y z : EReal) : Scalar.select (BitVec.ofBool x) y z = if x = true then y else z := by
  cases x <;> rfl

end Cert.SwaAttn.Ref

end
-- ==== Proof.SwaAttn.Body.lean ====
/-
  The sliding-window attention: a point's body, a pair of heads at a time.
-/
module

public import proofs.«01_k».proof.Proof.Gen.Kernel5Ideal.Value
public import proofs.«01_k».proof.Proof.SwaAttn.Spec
public import Idealize.ShloMosaic.Lib.Pointwise
public import Idealize.ShloMosaic.Lib.ValueIdxCore

@[expose] public section

set_option maxRecDepth 16384

noncomputable section

namespace Cert.SwaAttn

open Idealize.ShloMosaic Idealize.ShloMosaic.TcCoe Idealize.SL.Sem Cert.Kernel5Ideal Cert.Kernel5Ideal.Gen Cert.Kernel5Ideal.Value

section Tile

variable (mask : IVec S128x256 1) (lane : IVec S128x128 1) (qm : FVec Ideal S128x128 .bf16) (k2 v2 : FVec Ideal S256x128 .bf16) (sink : Elt Ideal .f32)

/-- A block's masked scores. -/
def scored : FVec Ideal S128x256 .f32 :=
  select mask (matmul dot_S128x128_S256x128_S128x256_1_1_0_0_n_n none qm k2 (constant S128x256 .f32 0x00000000#32)) (broadcast S128x256 (Scalar.ofBits .f32 0xFF800000#32 : Ideal .f32))

/-- The largest of a row's scores and the sink. -/
def tops (s : FVec Ideal S128x256 .f32) : FVec Ideal S128x1 .f32 :=
  maximumf (shapeCast S128x1 (multiReduction .maximumf [1] S128 s 0xFF800000#32 reduces_S128x256_S128 (.inl rfl) rfl) shapeCasts_S128_S128x1) (broadcast S128x1 sink)

/-- The scores' exponentials. -/
def raised (s : FVec Ideal S128x256 .f32) : FVec Ideal S128x256 .f32 :=
  exp (subf s (broadcastTo S128x256 (tops sink s) broadcasts_S128x1_S128x256))

/-- The softmax with the sink in its denominator. -/
def shares (s : FVec Ideal S128x256 .f32) : FVec Ideal S128x256 .f32 :=
  divf (raised sink s) (broadcastTo S128x256 (addf (shapeCast S128x1 (multiReduction .add [1] S128 (raised sink s) 0x00000000#32 reduces_S128x256_S128 (.inl rfl) rfl) shapeCasts_S128_S128x1) (exp (subf (broadcast S128x1 sink) (tops sink s)))) broadcasts_S128x1_S128x256)

/-- One head's output over a block. -/
def headOut : FVec Ideal S128x128 .f32 :=
  matmul dot_S128x256_S256x128_S128x128_1_0_0_1_n_n none (truncf .bf16 (shares sink (scored mask qm k2)) bitsLt_bf16_f32) v2 (constant S128x128 .f32 0x00000000#32)

/-- Two heads' outputs side by side. -/
def paired (q : Vec Ideal S1x128x128 .bf16) (s0 s1 : Elt Ideal .f32) : FVec Ideal S1x128x128 .bf16 :=
  shapeCast S1x128x128 (truncf .bf16 (select lane
    (headOut mask (select lane (shapeCast S128x128 q shapeCasts_S1x128x128_S128x128) (broadcast S128x128 (Scalar.ofBits .bf16 0x0000#16 : Ideal .bf16))) k2 v2 s0)
    (headOut mask (select (xori lane (constantI S128x128 1 1#1)) (shapeCast S128x128 q shapeCasts_S1x128x128_S128x128) (broadcast S128x128 (Scalar.ofBits .bf16 0x0000#16 : Ideal .bf16))) k2 v2 s1)) bitsLt_bf16_f32) shapeCasts_S128x128_S1x128x128

end Tile

section Reads

variable (mask : IVec S128x256 1) (lane : IVec S128x128 1) (qm : FVec Ideal S128x128 .bf16) (k2 v2 : FVec Ideal S256x128 .bf16) (sink : Elt Ideal .f32)

theorem select_ite {α : Type} (b : BitVec 1) (p : Prop) [Decidable p] (h : b = BitVec.ofBool (decide p)) (x y : α) : Scalar.select b x y = if p then x else y := by
  by_cases hp : p
  · rw [if_pos hp, h, decide_eq_true hp]; rfl
  · rw [if_neg hp, h, decide_eq_false hp]; rfl

theorem lane_word : ∀ l : Fin 128, IntOp.cmpi CmpIPredicate.slt (BitVec.ofNat 32 l.val) 64#32 = BitVec.ofBool (decide (l.val < 64)) := by decide +kernel

theorem lane_word' : ∀ l : Fin 128, IntOp.xori (IntOp.cmpi CmpIPredicate.slt (BitVec.ofNat 32 l.val) 64#32) 1#1 = BitVec.ofBool (decide (¬ l.val < 64)) := by decide +kernel

theorem band_word : ∀ (r : Fin 128) (k : Fin 256), IntOp.andi
        (IntOp.cmpi CmpIPredicate.sge (IntOp.subi (IntOp.addi (BitVec.ofNat 32 r.val) 128#32) (BitVec.ofNat 32 k.val)) 0#32)
        (IntOp.cmpi CmpIPredicate.slt (IntOp.subi (IntOp.addi (BitVec.ofNat 32 r.val) 128#32) (BitVec.ofNat 32 k.val))
          128#32) = BitVec.ofBool (decide (k.val ≤ r.val + 128 ∧ r.val < k.val)) := by decide +kernel

theorem first_word : ∀ (n : Fin 128) (k : Fin 256), IntOp.cmpi CmpIPredicate.sge (BitVec.ofNat 32 k.val)
        (Scalar.select (Scalar.cmpi CmpIPredicate.sgt (BitVec.ofNat 32 n.val) 0#32) 0#32 128#32) = BitVec.ofBool (decide (n.val = 0 → 128 ≤ k.val)) := by decide +kernel

theorem and_word (p q : Prop) [Decidable p] [Decidable q] : IntOp.andi (BitVec.ofBool (decide p)) (BitVec.ofBool (decide q)) = BitVec.ofBool (decide (p ∧ q)) := by
  by_cases hp : p <;> by_cases hq : q <;> simp [hp, hq, IntOp.andi]

theorem mask_apply (i : grid0.Coords) (n : Fin 128) (hn : (i 1).val = n.val) (r : Fin 128) (k : Fin 256) : (k0_pay3 i (ix2 r k) : BitVec 1) = BitVec.ofBool (decide (Seen n r k)) := by
  pointwise [k0_pay3]
  rw [band_word, hn, first_word, and_word]
  exact congrArg BitVec.ofBool (decide_eq_decide.2 ⟨fun h => ⟨h.1.1, h.1.2, h.2⟩, fun h => ⟨⟨h.1, h.2.1⟩, h.2.2⟩⟩)

theorem scored_apply (r : Fin 128) (k : Fin 256) :
    @Eq EReal (scored mask qm k2 (ix2 r k)) (Scalar.select (mask (ix2 r k)) (∑ e : Fin 128, qm (ix2 r e) * k2 (ix2 k e)) low) := by
  pointwise [scored, low]

theorem shares_apply (s : FVec Ideal S128x256 .f32) (r : Fin 128) (k : Fin 256) :
    @Eq EReal (shares sink s (ix2 r k)) (share (fun k => s (ix2 r k)) sink k) := by
  pointwise [shares, raised, tops, share, whole, top, low]

theorem headOut_apply (r : Fin 128) (l : Fin 128) :
    @Eq EReal (headOut mask qm k2 v2 sink (ix2 r l)) (∑ k : Fin 256, shares sink (scored mask qm k2) (ix2 r k) * v2 (ix2 k l)) := by
  pointwise [headOut]

theorem masked0_apply (q : Vec Ideal S1x128x128 .bf16) (r : Fin 128) (l : Fin 128) :
    @Eq EReal (select (k0_pay4 : IVec S128x128 1) (shapeCast S128x128 q shapeCasts_S1x128x128_S128x128) (broadcast S128x128 (Scalar.ofBits .bf16 0x0000#16 : Ideal .bf16)) (ix2 r l)) (if l.val < 64 then q (ix3 0 r l) else 0) := by
  pointwise [k0_pay4]
  exact select_ite _ _ (lane_word l) _ _

theorem masked1_apply (q : Vec Ideal S1x128x128 .bf16) (r : Fin 128) (l : Fin 128) :
    @Eq EReal (select (xori (k0_pay4 : IVec S128x128 1) (constantI S128x128 1 1#1)) (shapeCast S128x128 q shapeCasts_S1x128x128_S128x128) (broadcast S128x128 (Scalar.ofBits .bf16 0x0000#16 : Ideal .bf16)) (ix2 r l)) (if l.val < 64 then 0 else q (ix3 0 r l)) := by
  pointwise [k0_pay4]
  refine (select_ite _ _ (lane_word' l) _ _).trans ?_
  exact ite_not _ _ _

theorem paired_apply (q : Vec Ideal S1x128x128 .bf16) (s0 s1 : Elt Ideal .f32) (r : Fin 128) (l : Fin 128) :
    @Eq EReal (paired mask k0_pay4 k2 v2 q s0 s1 (ix3 0 r l)) (if l.val < 64 then headOut mask (select k0_pay4 (shapeCast S128x128 q shapeCasts_S1x128x128_S128x128) (broadcast S128x128 (Scalar.ofBits .bf16 0x0000#16 : Ideal .bf16))) k2 v2 s0 (ix2 r l) else headOut mask (select (xori k0_pay4 (constantI S128x128 1 1#1)) (shapeCast S128x128 q shapeCasts_S1x128x128_S128x128) (broadcast S128x128 (Scalar.ofBits .bf16 0x0000#16 : Ideal .bf16))) k2 v2 s1 (ix2 r l)) := by
  refine Eq.trans ?_ (select_ite _ _ (lane_word l) _ _)
  have e : (k0_pay4 (ix2 r l) : BitVec 1) = IntOp.cmpi CmpIPredicate.slt (BitVec.ofNat 32 l.val) 64#32 := by pointwise [k0_pay4]
  rw [← e]
  generalize (k0_pay4 : IVec S128x128 1) = lane
  pointwise [paired]

/-- A pair of heads at an index: the lower half of the lanes is the first head, the upper half the second. -/
theorem paired_eq (i : grid0.Coords) (n : Fin 128) (hn : (i 1).val = n.val) (q : Vec Ideal S1x128x128 .bf16) (s0 s1 : Elt Ideal .f32) (r : Fin 128) (l : Fin 128) :
    @Eq EReal (paired (k0_pay3 i) k0_pay4 k2 v2 q s0 s1 (ix3 0 r l))
      (if l.val < 64 then attended (Seen n r) (fun d => q (ix3 0 r (⟨d.val, by omega⟩ : Fin 128))) (fun k d => k2 (ix2 k (⟨d.val, by omega⟩ : Fin 128))) (fun k => v2 (ix2 k l)) s0
        else attended (Seen n r) (fun d => q (ix3 0 r (⟨64 + d.val, by omega⟩ : Fin 128))) (fun k d => k2 (ix2 k (⟨64 + d.val, by omega⟩ : Fin 128))) (fun k => v2 (ix2 k l)) s1) := by
  rw [paired_apply]
  refine if_congr Iff.rfl ?_ ?_
  · rw [headOut_apply]
    unfold attended
    refine Finset.sum_congr rfl fun k _ => congrArg (fun a : EReal => a * v2 (ix2 k l)) ?_
    rw [shares_apply]
    refine congrArg (fun f => share f s0 k) (funext fun k => ?_)
    rw [scored_apply, select_ite _ _ (mask_apply i n hn r k)]
    refine if_congr Iff.rfl ?_ rfl
    refine Eq.trans (Finset.sum_congr rfl fun e _ => ?_) (first_half (fun e => q (ix3 0 r e)) (fun e => k2 (ix2 k e)))
    rw [masked0_apply]
  · rw [headOut_apply]
    unfold attended
    refine Finset.sum_congr rfl fun k _ => congrArg (fun a : EReal => a * v2 (ix2 k l)) ?_
    rw [shares_apply]
    refine congrArg (fun f => share f s1 k) (funext fun k => ?_)
    rw [scored_apply, select_ite _ _ (mask_apply i n hn r k)]
    refine if_congr Iff.rfl ?_ rfl
    refine Eq.trans (Finset.sum_congr rfl fun e _ => ?_) (second_half (fun e => q (ix3 0 r e)) (fun e => k2 (ix2 k e)))
    rw [masked1_apply]

end Reads

end Cert.SwaAttn

end
-- ==== Proof.SwaAttn.Tile.lean ====
/-
  The sliding-window attention: what a point writes.
-/
module

public import proofs.«01_k».proof.Proof.Gen.Kernel5Ideal.Value
public import proofs.«01_k».proof.Proof.SwaAttn.Body
public import Idealize.ShloMosaic.Lib.Pointwise
public import Idealize.ShloMosaic.Lib.WholeRead
public import Idealize.ShloMosaic.Lib.ValueIdxCore

@[expose] public section

set_option maxRecDepth 16384

noncomputable section

namespace Cert.SwaAttn

open Idealize.ShloMosaic Idealize.ShloMosaic.TcCoe Idealize.SL.Sem Cert.Kernel5Ideal Cert.Kernel5Ideal.Gen Cert.Kernel5Ideal.Value

section Keys

variable (p c : Vec Ideal S1x128x256 .bf16)

/-- The block before and the block itself, one after the other. -/
def joined (k : Fin 256) (e : Fin 256) : EReal :=
  if h : k.val < 128 then p (ix3 0 (⟨k.val, h⟩ : Fin 128) e) else c (ix3 0 (⟨k.val - 128, by omega⟩ : Fin 128) e)

theorem stack_apply (k e : Fin 256) : @Eq EReal (k0_pay1 p c (ix2 k e)) (joined p c k e) := by
  pointwise [k0_pay1, joined]

theorem stack_apply' (k e : Fin 256) : @Eq EReal (k0_pay2 p c (ix2 k e)) (joined p c k e) := stack_apply p c k e

theorem left_apply (v : FVec Ideal S256x256 .bf16) (k : Fin 256) (e : Fin 128) :
    @Eq EReal (extractStridedSlice S256x128 ![0, 0] v slices_S256x256_o0_0_S256x128 (ix2 k e)) (v (ix2 k (⟨0 * 128 + e.val, by omega⟩ : Fin 256))) := by
  pointwise

theorem right_apply (v : FVec Ideal S256x256 .bf16) (k : Fin 256) (e : Fin 128) :
    @Eq EReal (k0_pay26 v (ix2 k e)) (v (ix2 k (⟨1 * 128 + e.val, by omega⟩ : Fin 256))) := by
  pointwise [k0_pay26]

end Keys

/-- What a point computes at a row and a lane. -/
def tile (n : Fin 128) (x0 : Vec Ideal S16 .f32) (x1 : Vec Ideal S1x128x1024 .bf16) (x2 x3 x4 x5 : Vec Ideal S1x128x256 .bf16) (r : Fin 128) (l : Fin 1024) : EReal :=
  attended (Seen n r) (fun d => x1 (ix3 0 r (⟨l.val / 64 * 64 + d.val, by omega⟩ : Fin 1024)))
    (fun k d => joined x3 x2 k ⟨l.val / 512 * 128 + l.val % 128 / 64 * 64 + d.val, by omega⟩)
    (fun k => joined x5 x4 k ⟨l.val / 512 * 128 + l.val % 128, by omega⟩) (x0 (ix1 (⟨l.val / 64, by omega⟩ : Fin 16)))

/-- A pair of heads is its lanes of what the point computes. -/
theorem piece_at (n : Fin 128) (x0 : Vec Ideal S16 .f32) (x1 : Vec Ideal S1x128x1024 .bf16) (x2 x3 x4 x5 : Vec Ideal S1x128x256 .bf16)
    (i : grid0.Coords) (hn : (i 1).val = n.val) (g j : ℕ) (hg : g < 8) (hj : j = g / 4) (k2 v2 : FVec Ideal S256x128 .bf16)
    (hk : ∀ (k : Fin 256) (e : Fin 128), @Eq EReal (k2 (ix2 k e)) (joined x3 x2 k ⟨j * 128 + e.val, by omega⟩))
    (hv : ∀ (k : Fin 256) (e : Fin 128), @Eq EReal (v2 (ix2 k e)) (joined x5 x4 k ⟨j * 128 + e.val, by omega⟩))
    (q : Vec Ideal S1x128x128 .bf16) (hq : ∀ r l : Fin 128, @Eq EReal (q (ix3 0 r l)) (x1 (ix3 0 r (⟨g * 128 + l.val, by omega⟩ : Fin 1024))))
    (s0 s1 : Elt Ideal .f32) (h0 : @Eq EReal s0 (x0 (ix1 (⟨2 * g, by omega⟩ : Fin 16)))) (h1 : @Eq EReal s1 (x0 (ix1 (⟨2 * g + 1, by omega⟩ : Fin 16))))
    (r l : Fin 128) : @Eq EReal (paired (k0_pay3 i) k0_pay4 k2 v2 q s0 s1 (ix3 0 r l)) (tile n x0 x1 x2 x3 x4 x5 r ⟨g * 128 + l.val, by omega⟩) := by
  rw [paired_eq k2 v2 i n hn]
  unfold tile
  have hl := l.isLt
  split_ifs with h
  · congr 1
    · funext d; rw [hq]; congr 3; show g * 128 + d.val = _; dsimp only; omega
    · funext k d; rw [hk]; congr 1; apply Fin.ext; show j * 128 + d.val = _; dsimp only; omega
    · funext k; rw [hv]; congr 1; apply Fin.ext; show j * 128 + l.val = _; dsimp only; omega
    · rw [h0]; congr 2; apply Fin.ext; show 2 * g = _; dsimp only; omega
  · congr 1
    · funext d; rw [hq]; congr 3; show g * 128 + (64 + d.val) = _; dsimp only; omega
    · funext k d; rw [hk]; congr 1; apply Fin.ext; show j * 128 + (64 + d.val) = _; dsimp only; omega
    · funext k; rw [hv]; congr 1; apply Fin.ext; show j * 128 + l.val = _; dsimp only; omega
    · rw [h1]; congr 2; apply Fin.ext; show 2 * g + 1 = _; dsimp only; omega

variable (c : Dev nD) (i : grid0.Coords) (arg2 : Memref sig .tc .smem S16 .f32) (harg2 : arg2.IsWhole) (arg3 : Memref sig .tc .vmem S1x128x1024 .bf16) (harg3 : arg3.IsWhole) (arg4 : Memref sig .tc .vmem S1x128x256 .bf16) (harg4 : arg4.IsWhole) (arg5 : Memref sig .tc .vmem S1x128x256 .bf16) (harg5 : arg5.IsWhole) (arg6 : Memref sig .tc .vmem S1x128x256 .bf16) (harg6 : arg6.IsWhole) (arg7 : Memref sig .tc .vmem S1x128x256 .bf16) (harg7 : arg7.IsWhole) (arg8 : Memref sig .tc .vmem S1x128x1024 .bf16) (harg8 : arg8.IsWhole)
    (x0 : Vec Ideal S16 .f32) (x1 : Vec Ideal S1x128x1024 .bf16) (x2 : Vec Ideal S1x128x256 .bf16) (x3 : Vec Ideal S1x128x256 .bf16) (x4 : Vec Ideal S1x128x256 .bf16) (x5 : Vec Ideal S1x128x256 .bf16)
/-- The pieces a point writes: eight pairs of heads. -/
theorem pieces : (kernelRun0_A (F := Ideal) c i arg2 harg2 arg3 harg3 arg4 harg4 arg5 harg5 arg6 harg6 arg7 harg7 arg8 harg8 x0 x1 x2 x3 x4 x5).1 = [
    ⟨Rect.unit (s := S1x128x1024) ![0, 0, 896] ![1, 128, 128] inb_S1x128x1024_S1x128x128_0_0_896, paired (k0_pay3 i) k0_pay4 (k0_pay26 (k0_pay1 (View.readAt (Elt Ideal) arg5.view (Rect.unit (s := S1x128x256) ![0, 0, 0] S1x128x256.size inb_S1x128x256_S1x128x256_0_0_0).toLoadRect (harg5.unread x3)) (View.readAt (Elt Ideal) arg4.view (Rect.unit (s := S1x128x256) ![0, 0, 0] S1x128x256.size inb_S1x128x256_S1x128x256_0_0_0).toLoadRect (harg4.unread x2)))) (k0_pay27 (k0_pay2 (View.readAt (Elt Ideal) arg7.view (Rect.unit (s := S1x128x256) ![0, 0, 0] S1x128x256.size inb_S1x128x256_S1x128x256_0_0_0).toLoadRect (harg7.unread x5)) (View.readAt (Elt Ideal) arg6.view (Rect.unit (s := S1x128x256) ![0, 0, 0] S1x128x256.size inb_S1x128x256_S1x128x256_0_0_0).toLoadRect (harg6.unread x4)))) (View.readAt (Elt Ideal) arg3.view (Rect.unit (s := S1x128x1024) ![0, 0, 896] S1x128x128.size inb_S1x128x1024_S1x128x128_0_0_896).toLoadRect (harg3.unread x1)) (View.readAt (Elt Ideal) arg2.view (Rect.unit (s := S16) ![14] S1.size inb_S16_S1_14).toLoadRect (harg2.unread x0) (Shape.Idx.first (Nat.lt_of_lt_of_eq Nat.one_pos numel1_S1.symm))) (View.readAt (Elt Ideal) arg2.view (Rect.unit (s := S16) ![15] S1.size inb_S16_S1_15).toLoadRect (harg2.unread x0) (Shape.Idx.first (Nat.lt_of_lt_of_eq Nat.one_pos numel1_S1.symm)))⟩,
    ⟨Rect.unit (s := S1x128x1024) ![0, 0, 768] ![1, 128, 128] inb_S1x128x1024_S1x128x128_0_0_768, paired (k0_pay3 i) k0_pay4 (k0_pay26 (k0_pay1 (View.readAt (Elt Ideal) arg5.view (Rect.unit (s := S1x128x256) ![0, 0, 0] S1x128x256.size inb_S1x128x256_S1x128x256_0_0_0).toLoadRect (harg5.unread x3)) (View.readAt (Elt Ideal) arg4.view (Rect.unit (s := S1x128x256) ![0, 0, 0] S1x128x256.size inb_S1x128x256_S1x128x256_0_0_0).toLoadRect (harg4.unread x2)))) (k0_pay27 (k0_pay2 (View.readAt (Elt Ideal) arg7.view (Rect.unit (s := S1x128x256) ![0, 0, 0] S1x128x256.size inb_S1x128x256_S1x128x256_0_0_0).toLoadRect (harg7.unread x5)) (View.readAt (Elt Ideal) arg6.view (Rect.unit (s := S1x128x256) ![0, 0, 0] S1x128x256.size inb_S1x128x256_S1x128x256_0_0_0).toLoadRect (harg6.unread x4)))) (View.readAt (Elt Ideal) arg3.view (Rect.unit (s := S1x128x1024) ![0, 0, 768] S1x128x128.size inb_S1x128x1024_S1x128x128_0_0_768).toLoadRect (harg3.unread x1)) (View.readAt (Elt Ideal) arg2.view (Rect.unit (s := S16) ![12] S1.size inb_S16_S1_12).toLoadRect (harg2.unread x0) (Shape.Idx.first (Nat.lt_of_lt_of_eq Nat.one_pos numel1_S1.symm))) (View.readAt (Elt Ideal) arg2.view (Rect.unit (s := S16) ![13] S1.size inb_S16_S1_13).toLoadRect (harg2.unread x0) (Shape.Idx.first (Nat.lt_of_lt_of_eq Nat.one_pos numel1_S1.symm)))⟩,
    ⟨Rect.unit (s := S1x128x1024) ![0, 0, 640] ![1, 128, 128] inb_S1x128x1024_S1x128x128_0_0_640, paired (k0_pay3 i) k0_pay4 (k0_pay26 (k0_pay1 (View.readAt (Elt Ideal) arg5.view (Rect.unit (s := S1x128x256) ![0, 0, 0] S1x128x256.size inb_S1x128x256_S1x128x256_0_0_0).toLoadRect (harg5.unread x3)) (View.readAt (Elt Ideal) arg4.view (Rect.unit (s := S1x128x256) ![0, 0, 0] S1x128x256.size inb_S1x128x256_S1x128x256_0_0_0).toLoadRect (harg4.unread x2)))) (k0_pay27 (k0_pay2 (View.readAt (Elt Ideal) arg7.view (Rect.unit (s := S1x128x256) ![0, 0, 0] S1x128x256.size inb_S1x128x256_S1x128x256_0_0_0).toLoadRect (harg7.unread x5)) (View.readAt (Elt Ideal) arg6.view (Rect.unit (s := S1x128x256) ![0, 0, 0] S1x128x256.size inb_S1x128x256_S1x128x256_0_0_0).toLoadRect (harg6.unread x4)))) (View.readAt (Elt Ideal) arg3.view (Rect.unit (s := S1x128x1024) ![0, 0, 640] S1x128x128.size inb_S1x128x1024_S1x128x128_0_0_640).toLoadRect (harg3.unread x1)) (View.readAt (Elt Ideal) arg2.view (Rect.unit (s := S16) ![10] S1.size inb_S16_S1_10).toLoadRect (harg2.unread x0) (Shape.Idx.first (Nat.lt_of_lt_of_eq Nat.one_pos numel1_S1.symm))) (View.readAt (Elt Ideal) arg2.view (Rect.unit (s := S16) ![11] S1.size inb_S16_S1_11).toLoadRect (harg2.unread x0) (Shape.Idx.first (Nat.lt_of_lt_of_eq Nat.one_pos numel1_S1.symm)))⟩,
    ⟨Rect.unit (s := S1x128x1024) ![0, 0, 512] ![1, 128, 128] inb_S1x128x1024_S1x128x128_0_0_512, paired (k0_pay3 i) k0_pay4 (k0_pay26 (k0_pay1 (View.readAt (Elt Ideal) arg5.view (Rect.unit (s := S1x128x256) ![0, 0, 0] S1x128x256.size inb_S1x128x256_S1x128x256_0_0_0).toLoadRect (harg5.unread x3)) (View.readAt (Elt Ideal) arg4.view (Rect.unit (s := S1x128x256) ![0, 0, 0] S1x128x256.size inb_S1x128x256_S1x128x256_0_0_0).toLoadRect (harg4.unread x2)))) (k0_pay27 (k0_pay2 (View.readAt (Elt Ideal) arg7.view (Rect.unit (s := S1x128x256) ![0, 0, 0] S1x128x256.size inb_S1x128x256_S1x128x256_0_0_0).toLoadRect (harg7.unread x5)) (View.readAt (Elt Ideal) arg6.view (Rect.unit (s := S1x128x256) ![0, 0, 0] S1x128x256.size inb_S1x128x256_S1x128x256_0_0_0).toLoadRect (harg6.unread x4)))) (View.readAt (Elt Ideal) arg3.view (Rect.unit (s := S1x128x1024) ![0, 0, 512] S1x128x128.size inb_S1x128x1024_S1x128x128_0_0_512).toLoadRect (harg3.unread x1)) (View.readAt (Elt Ideal) arg2.view (Rect.unit (s := S16) ![8] S1.size inb_S16_S1_8).toLoadRect (harg2.unread x0) (Shape.Idx.first (Nat.lt_of_lt_of_eq Nat.one_pos numel1_S1.symm))) (View.readAt (Elt Ideal) arg2.view (Rect.unit (s := S16) ![9] S1.size inb_S16_S1_9).toLoadRect (harg2.unread x0) (Shape.Idx.first (Nat.lt_of_lt_of_eq Nat.one_pos numel1_S1.symm)))⟩,
    ⟨Rect.unit (s := S1x128x1024) ![0, 0, 384] ![1, 128, 128] inb_S1x128x1024_S1x128x128_0_0_384, paired (k0_pay3 i) k0_pay4 (k0_pay5 (View.readAt (Elt Ideal) arg5.view (Rect.unit (s := S1x128x256) ![0, 0, 0] S1x128x256.size inb_S1x128x256_S1x128x256_0_0_0).toLoadRect (harg5.unread x3)) (View.readAt (Elt Ideal) arg4.view (Rect.unit (s := S1x128x256) ![0, 0, 0] S1x128x256.size inb_S1x128x256_S1x128x256_0_0_0).toLoadRect (harg4.unread x2))) (k0_pay6 (View.readAt (Elt Ideal) arg7.view (Rect.unit (s := S1x128x256) ![0, 0, 0] S1x128x256.size inb_S1x128x256_S1x128x256_0_0_0).toLoadRect (harg7.unread x5)) (View.readAt (Elt Ideal) arg6.view (Rect.unit (s := S1x128x256) ![0, 0, 0] S1x128x256.size inb_S1x128x256_S1x128x256_0_0_0).toLoadRect (harg6.unread x4))) (View.readAt (Elt Ideal) arg3.view (Rect.unit (s := S1x128x1024) ![0, 0, 384] S1x128x128.size inb_S1x128x1024_S1x128x128_0_0_384).toLoadRect (harg3.unread x1)) (View.readAt (Elt Ideal) arg2.view (Rect.unit (s := S16) ![6] S1.size inb_S16_S1_6).toLoadRect (harg2.unread x0) (Shape.Idx.first (Nat.lt_of_lt_of_eq Nat.one_pos numel1_S1.symm))) (View.readAt (Elt Ideal) arg2.view (Rect.unit (s := S16) ![7] S1.size inb_S16_S1_7).toLoadRect (harg2.unread x0) (Shape.Idx.first (Nat.lt_of_lt_of_eq Nat.one_pos numel1_S1.symm)))⟩,
    ⟨Rect.unit (s := S1x128x1024) ![0, 0, 256] ![1, 128, 128] inb_S1x128x1024_S1x128x128_0_0_256, paired (k0_pay3 i) k0_pay4 (k0_pay5 (View.readAt (Elt Ideal) arg5.view (Rect.unit (s := S1x128x256) ![0, 0, 0] S1x128x256.size inb_S1x128x256_S1x128x256_0_0_0).toLoadRect (harg5.unread x3)) (View.readAt (Elt Ideal) arg4.view (Rect.unit (s := S1x128x256) ![0, 0, 0] S1x128x256.size inb_S1x128x256_S1x128x256_0_0_0).toLoadRect (harg4.unread x2))) (k0_pay6 (View.readAt (Elt Ideal) arg7.view (Rect.unit (s := S1x128x256) ![0, 0, 0] S1x128x256.size inb_S1x128x256_S1x128x256_0_0_0).toLoadRect (harg7.unread x5)) (View.readAt (Elt Ideal) arg6.view (Rect.unit (s := S1x128x256) ![0, 0, 0] S1x128x256.size inb_S1x128x256_S1x128x256_0_0_0).toLoadRect (harg6.unread x4))) (View.readAt (Elt Ideal) arg3.view (Rect.unit (s := S1x128x1024) ![0, 0, 256] S1x128x128.size inb_S1x128x1024_S1x128x128_0_0_256).toLoadRect (harg3.unread x1)) (View.readAt (Elt Ideal) arg2.view (Rect.unit (s := S16) ![4] S1.size inb_S16_S1_4).toLoadRect (harg2.unread x0) (Shape.Idx.first (Nat.lt_of_lt_of_eq Nat.one_pos numel1_S1.symm))) (View.readAt (Elt Ideal) arg2.view (Rect.unit (s := S16) ![5] S1.size inb_S16_S1_5).toLoadRect (harg2.unread x0) (Shape.Idx.first (Nat.lt_of_lt_of_eq Nat.one_pos numel1_S1.symm)))⟩,
    ⟨Rect.unit (s := S1x128x1024) ![0, 0, 128] ![1, 128, 128] inb_S1x128x1024_S1x128x128_0_0_128, paired (k0_pay3 i) k0_pay4 (k0_pay5 (View.readAt (Elt Ideal) arg5.view (Rect.unit (s := S1x128x256) ![0, 0, 0] S1x128x256.size inb_S1x128x256_S1x128x256_0_0_0).toLoadRect (harg5.unread x3)) (View.readAt (Elt Ideal) arg4.view (Rect.unit (s := S1x128x256) ![0, 0, 0] S1x128x256.size inb_S1x128x256_S1x128x256_0_0_0).toLoadRect (harg4.unread x2))) (k0_pay6 (View.readAt (Elt Ideal) arg7.view (Rect.unit (s := S1x128x256) ![0, 0, 0] S1x128x256.size inb_S1x128x256_S1x128x256_0_0_0).toLoadRect (harg7.unread x5)) (View.readAt (Elt Ideal) arg6.view (Rect.unit (s := S1x128x256) ![0, 0, 0] S1x128x256.size inb_S1x128x256_S1x128x256_0_0_0).toLoadRect (harg6.unread x4))) (View.readAt (Elt Ideal) arg3.view (Rect.unit (s := S1x128x1024) ![0, 0, 128] S1x128x128.size inb_S1x128x1024_S1x128x128_0_0_128).toLoadRect (harg3.unread x1)) (View.readAt (Elt Ideal) arg2.view (Rect.unit (s := S16) ![2] S1.size inb_S16_S1_2).toLoadRect (harg2.unread x0) (Shape.Idx.first (Nat.lt_of_lt_of_eq Nat.one_pos numel1_S1.symm))) (View.readAt (Elt Ideal) arg2.view (Rect.unit (s := S16) ![3] S1.size inb_S16_S1_3).toLoadRect (harg2.unread x0) (Shape.Idx.first (Nat.lt_of_lt_of_eq Nat.one_pos numel1_S1.symm)))⟩,
    ⟨Rect.unit (s := S1x128x1024) ![0, 0, 0] ![1, 128, 128] inb_S1x128x1024_S1x128x128_0_0_0, paired (k0_pay3 i) k0_pay4 (k0_pay5 (View.readAt (Elt Ideal) arg5.view (Rect.unit (s := S1x128x256) ![0, 0, 0] S1x128x256.size inb_S1x128x256_S1x128x256_0_0_0).toLoadRect (harg5.unread x3)) (View.readAt (Elt Ideal) arg4.view (Rect.unit (s := S1x128x256) ![0, 0, 0] S1x128x256.size inb_S1x128x256_S1x128x256_0_0_0).toLoadRect (harg4.unread x2))) (k0_pay6 (View.readAt (Elt Ideal) arg7.view (Rect.unit (s := S1x128x256) ![0, 0, 0] S1x128x256.size inb_S1x128x256_S1x128x256_0_0_0).toLoadRect (harg7.unread x5)) (View.readAt (Elt Ideal) arg6.view (Rect.unit (s := S1x128x256) ![0, 0, 0] S1x128x256.size inb_S1x128x256_S1x128x256_0_0_0).toLoadRect (harg6.unread x4))) (View.readAt (Elt Ideal) arg3.view (Rect.unit (s := S1x128x1024) ![0, 0, 0] S1x128x128.size inb_S1x128x1024_S1x128x128_0_0_0).toLoadRect (harg3.unread x1)) (View.readAt (Elt Ideal) arg2.view (Rect.unit (s := S16) ![0] S1.size inb_S16_S1_0).toLoadRect (harg2.unread x0) (Shape.Idx.first (Nat.lt_of_lt_of_eq Nat.one_pos numel1_S1.symm))) (View.readAt (Elt Ideal) arg2.view (Rect.unit (s := S16) ![1] S1.size inb_S16_S1_1).toLoadRect (harg2.unread x0) (Shape.Idx.first (Nat.lt_of_lt_of_eq Nat.one_pos numel1_S1.symm)))⟩] := by
  unfold kernelRun0_A
  rfl

theorem load_pair {o : ℕ} (inb : ∀ a : Fin 3, (![0, 0, o] : Fin 3 → ℕ) a + S1x128x128.size a ≤ S1x128x1024.size a) (g : ℕ) (ho : o = g * 128) (hg : g < 8) (r l : Fin 128) :
    @Eq EReal (View.readAt (Elt Ideal) arg3.view (Rect.unit (s := S1x128x1024) ![0, 0, o] S1x128x128.size inb).toLoadRect (harg3.unread x1) (ix3 0 r l)) (x1 (ix3 0 r (⟨g * 128 + l.val, by omega⟩ : Fin 1024))) := by
  rw [harg3.readAt_unread]
  refine congrArg x1 (funext fun a => Fin.ext ?_)
  match a with
  | ⟨0, _⟩ => rfl
  | ⟨1, _⟩ => show 0 + 1 * r.val = r.val; omega
  | ⟨2, _⟩ => show o + 1 * l.val = g * 128 + l.val; omega

theorem load_sink {o : ℕ} (inb : ∀ a : Fin 1, (![o] : Fin 1 → ℕ) a + S1.size a ≤ S16.size a) (ho : o < 16) (h : 0 < (Rect.unit (s := S16) ![o] S1.size inb).toLoadRect.shape.numel) :
    @Eq EReal (View.readAt (Elt Ideal) arg2.view (Rect.unit (s := S16) ![o] S1.size inb).toLoadRect (harg2.unread x0) (Shape.Idx.first h)) (x0 (ix1 (⟨o, ho⟩ : Fin 16))) := by
  rw [harg2.readAt_unread]
  refine congrArg x0 (funext fun a => Fin.ext ?_)
  match a with
  | ⟨0, _⟩ => show o + 1 * 0 = o; omega

theorem load_all (M : Memref sig .tc .vmem S1x128x256 .bf16) (hM : M.IsWhole) (x : Vec Ideal S1x128x256 .bf16) :
    View.readAt (Elt Ideal) M.view (Rect.unit (s := S1x128x256) ![0, 0, 0] S1x128x256.size inb_S1x128x256_S1x128x256_0_0_0).toLoadRect (hM.unread x) = x := by
  funext y
  rw [hM.readAt_unread]
  refine congrArg x (funext fun a => Fin.ext ?_)
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

theorem piece_place {o : ℕ} (n : Fin 128) (inb : ∀ a : Fin 3, (![0, 0, o] : Fin 3 → ℕ) a + (![1, 128, 128] : Fin 3 → ℕ) a ≤ S1x128x1024.size a) (g : ℕ) (ho : o = g * 128) (hg : g < 8) (w : FVec Ideal S1x128x128 .bf16)
    (hw : ∀ r l : Fin 128, @Eq EReal (w (ix3 0 r l)) (tile n x0 x1 x2 x3 x4 x5 r ⟨g * 128 + l.val, by omega⟩)) (y : (Rect.unit (s := S1x128x1024) ![0, 0, o] ![1, 128, 128] inb).shape.Idx) :
    @Eq EReal (w y) (tile n x0 x1 x2 x3 x4 x5 ((Rect.unit (s := S1x128x1024) ![0, 0, o] ![1, 128, 128] inb).emb y 1) ((Rect.unit (s := S1x128x1024) ![0, 0, o] ![1, 128, 128] inb).emb y 2)) := by
  have h1 : (y 1).val < 128 := (y 1).isLt
  have h2 : (y 2).val < 128 := (y 2).isLt
  have e : y = ix3 (0 : Fin 1) (⟨(y 1).val, h1⟩ : Fin 128) (⟨(y 2).val, h2⟩ : Fin 128) := by
    funext a
    match a with
    | ⟨0, _⟩ => exact Subsingleton.elim (α := Fin 1) _ _
    | ⟨1, _⟩ => rfl
    | ⟨2, _⟩ => rfl
  refine (congrArg w e).trans ((hw _ _).trans ?_)
  refine congrArg₂ (tile n x0 x1 x2 x3 x4 x5) (Fin.ext ?_) (Fin.ext ?_)
  · show (y 1).val = 0 + 1 * (y 1).val; omega
  · show g * 128 + (y 2).val = o + 1 * (y 2).val; omega

/-- One stored piece, its loads read. -/
theorem piece_ok {o a b : ℕ} (n : Fin 128) (hn : (i 1).val = n.val) (inb inb' : ∀ a : Fin 3, (![0, 0, o] : Fin 3 → ℕ) a + (![1, 128, 128] : Fin 3 → ℕ) a ≤ S1x128x1024.size a)
    (g j : ℕ) (ho : o = g * 128) (hg : g < 8) (hj : j = g / 4) (k2 v2 : FVec Ideal S256x128 .bf16)
    (hk : ∀ (k : Fin 256) (e : Fin 128), @Eq EReal (k2 (ix2 k e)) (joined x3 x2 k ⟨j * 128 + e.val, by omega⟩))
    (hv : ∀ (k : Fin 256) (e : Fin 128), @Eq EReal (v2 (ix2 k e)) (joined x5 x4 k ⟨j * 128 + e.val, by omega⟩))
    (ia : ∀ k : Fin 1, (![a] : Fin 1 → ℕ) k + S1.size k ≤ S16.size k) (ha : a = 2 * g) (pa : 0 < (Rect.unit (s := S16) ![a] S1.size ia).toLoadRect.shape.numel)
    (ib : ∀ k : Fin 1, (![b] : Fin 1 → ℕ) k + S1.size k ≤ S16.size k) (hb : b = 2 * g + 1) (pb : 0 < (Rect.unit (s := S16) ![b] S1.size ib).toLoadRect.shape.numel)
    (y : (Rect.unit (s := S1x128x1024) ![0, 0, o] ![1, 128, 128] inb).shape.Idx) :
    @Eq EReal (paired (k0_pay3 i) k0_pay4 k2 v2 (View.readAt (Elt Ideal) arg3.view (Rect.unit (s := S1x128x1024) ![0, 0, o] S1x128x128.size inb').toLoadRect (harg3.unread x1))
        (View.readAt (Elt Ideal) arg2.view (Rect.unit (s := S16) ![a] S1.size ia).toLoadRect (harg2.unread x0) (Shape.Idx.first pa))
        (View.readAt (Elt Ideal) arg2.view (Rect.unit (s := S16) ![b] S1.size ib).toLoadRect (harg2.unread x0) (Shape.Idx.first pb)) y)
      (tile n x0 x1 x2 x3 x4 x5 ((Rect.unit (s := S1x128x1024) ![0, 0, o] ![1, 128, 128] inb).emb y 1) ((Rect.unit (s := S1x128x1024) ![0, 0, o] ![1, 128, 128] inb).emb y 2)) := by
  subst ha hb
  exact piece_place x0 x1 x2 x3 x4 x5 n inb g ho hg _ (piece_at n x0 x1 x2 x3 x4 x5 i hn g j hg hj k2 v2 hk hv _ (load_pair arg3 harg3 x1 inb' g ho hg) _ _ (load_sink arg2 harg2 x0 ia (by omega) pa) (load_sink arg2 harg2 x0 ib (by omega) pb)) y

end Cert.SwaAttn

end
-- ==== Proof.SwaAttn.Out.lean ====
module

public import proofs.«01_k».proof.Proof.Gen.Kernel5Ideal.Value
public import proofs.«01_k».proof.Proof.SwaAttn.Tile
public import Idealize.ShloMosaic.Lib.Pointwise
public import Idealize.ShloMosaic.Lib.ValueIdxCore

@[expose] public section

set_option maxRecDepth 16384

noncomputable section

namespace Cert.SwaAttn

open Idealize.ShloMosaic Idealize.ShloMosaic.TcCoe Idealize.SL.Sem Cert.Kernel5Ideal Cert.Kernel5Ideal.Gen Cert.Kernel5Ideal.Value

variable (c : Dev nD) (i : grid0.Coords) (arg2 : Memref sig .tc .smem S16 .f32) (harg2 : arg2.IsWhole) (arg3 : Memref sig .tc .vmem S1x128x1024 .bf16) (harg3 : arg3.IsWhole) (arg4 : Memref sig .tc .vmem S1x128x256 .bf16) (harg4 : arg4.IsWhole) (arg5 : Memref sig .tc .vmem S1x128x256 .bf16) (harg5 : arg5.IsWhole) (arg6 : Memref sig .tc .vmem S1x128x256 .bf16) (harg6 : arg6.IsWhole) (arg7 : Memref sig .tc .vmem S1x128x256 .bf16) (harg7 : arg7.IsWhole) (arg8 : Memref sig .tc .vmem S1x128x1024 .bf16) (harg8 : arg8.IsWhole)
    (x0 : Vec Ideal S16 .f32) (x1 : Vec Ideal S1x128x1024 .bf16) (x2 : Vec Ideal S1x128x256 .bf16) (x3 : Vec Ideal S1x128x256 .bf16) (x4 : Vec Ideal S1x128x256 .bf16) (x5 : Vec Ideal S1x128x256 .bf16)

theorem keys_left (k : Fin 256) (e : Fin 128) : @Eq EReal (k0_pay5 (View.readAt (Elt Ideal) arg5.view (Rect.unit (s := S1x128x256) ![0, 0, 0] S1x128x256.size inb_S1x128x256_S1x128x256_0_0_0).toLoadRect (harg5.unread x3)) (View.readAt (Elt Ideal) arg4.view (Rect.unit (s := S1x128x256) ![0, 0, 0] S1x128x256.size inb_S1x128x256_S1x128x256_0_0_0).toLoadRect (harg4.unread x2)) (ix2 k e)) (joined x3 x2 k ⟨0 * 128 + e.val, by omega⟩) := by
  rw [load_all, load_all]; exact (left_apply _ k e).trans (stack_apply _ _ _ _)
theorem values_left (k : Fin 256) (e : Fin 128) : @Eq EReal (k0_pay6 (View.readAt (Elt Ideal) arg7.view (Rect.unit (s := S1x128x256) ![0, 0, 0] S1x128x256.size inb_S1x128x256_S1x128x256_0_0_0).toLoadRect (harg7.unread x5)) (View.readAt (Elt Ideal) arg6.view (Rect.unit (s := S1x128x256) ![0, 0, 0] S1x128x256.size inb_S1x128x256_S1x128x256_0_0_0).toLoadRect (harg6.unread x4)) (ix2 k e)) (joined x5 x4 k ⟨0 * 128 + e.val, by omega⟩) := by
  rw [load_all, load_all]; exact (left_apply _ k e).trans (stack_apply' _ _ _ _)
theorem keys_right (k : Fin 256) (e : Fin 128) : @Eq EReal (k0_pay26 (k0_pay1 (View.readAt (Elt Ideal) arg5.view (Rect.unit (s := S1x128x256) ![0, 0, 0] S1x128x256.size inb_S1x128x256_S1x128x256_0_0_0).toLoadRect (harg5.unread x3)) (View.readAt (Elt Ideal) arg4.view (Rect.unit (s := S1x128x256) ![0, 0, 0] S1x128x256.size inb_S1x128x256_S1x128x256_0_0_0).toLoadRect (harg4.unread x2))) (ix2 k e)) (joined x3 x2 k ⟨1 * 128 + e.val, by omega⟩) := by
  rw [load_all, load_all]; exact (right_apply _ k e).trans (stack_apply _ _ _ _)
theorem values_right (k : Fin 256) (e : Fin 128) : @Eq EReal (k0_pay27 (k0_pay2 (View.readAt (Elt Ideal) arg7.view (Rect.unit (s := S1x128x256) ![0, 0, 0] S1x128x256.size inb_S1x128x256_S1x128x256_0_0_0).toLoadRect (harg7.unread x5)) (View.readAt (Elt Ideal) arg6.view (Rect.unit (s := S1x128x256) ![0, 0, 0] S1x128x256.size inb_S1x128x256_S1x128x256_0_0_0).toLoadRect (harg6.unread x4))) (ix2 k e)) (joined x5 x4 k ⟨1 * 128 + e.val, by omega⟩) := by
  rw [load_all, load_all]; exact (right_apply _ k e).trans (stack_apply' _ _ _ _)

/-- What a point leaves in its block. -/
theorem out_apply (n : Fin 128) (hn : (i 1).val = n.val) (r : Fin 128) (l : Fin 1024) :
    @Eq EReal (out0_A_6 (F := Ideal) c i arg2 harg2 arg3 harg3 arg4 harg4 arg5 harg5 arg6 harg6 arg7 harg7 arg8 harg8 x0 x1 x2 x3 x4 x5 (ix3 0 r l)) (tile n x0 x1 x2 x3 x4 x5 r l) := by
  unfold out0_A_6
  refine View.read_writes_apply_of_pieces VO0_6 _ (fun y : S1x128x1024.Idx => (tile n x0 x1 x2 x3 x4 x5 (y 1) (y 2) : EReal)) _ ?_ (ix3 0 r l) (cover0_A_6 c i arg2 harg2 arg3 harg3 arg4 harg4 arg5 harg5 arg6 harg6 arg7 harg7 arg8 harg8 x0 x1 x2 x3 x4 x5 _)
  rw [pieces]
  refine List.forall_mem_cons.2 ⟨piece_ok i arg2 harg2 arg3 harg3 x0 x1 x2 x3 x4 x5 n hn inb_S1x128x1024_S1x128x128_0_0_896 _ 7 1 rfl (by omega) rfl _ _ (keys_right arg4 harg4 arg5 harg5 x2 x3) (values_right arg6 harg6 arg7 harg7 x4 x5) _ rfl _ _ rfl _, ?_⟩
  refine List.forall_mem_cons.2 ⟨piece_ok i arg2 harg2 arg3 harg3 x0 x1 x2 x3 x4 x5 n hn inb_S1x128x1024_S1x128x128_0_0_768 _ 6 1 rfl (by omega) rfl _ _ (keys_right arg4 harg4 arg5 harg5 x2 x3) (values_right arg6 harg6 arg7 harg7 x4 x5) _ rfl _ _ rfl _, ?_⟩
  refine List.forall_mem_cons.2 ⟨piece_ok i arg2 harg2 arg3 harg3 x0 x1 x2 x3 x4 x5 n hn inb_S1x128x1024_S1x128x128_0_0_640 _ 5 1 rfl (by omega) rfl _ _ (keys_right arg4 harg4 arg5 harg5 x2 x3) (values_right arg6 harg6 arg7 harg7 x4 x5) _ rfl _ _ rfl _, ?_⟩
  refine List.forall_mem_cons.2 ⟨piece_ok i arg2 harg2 arg3 harg3 x0 x1 x2 x3 x4 x5 n hn inb_S1x128x1024_S1x128x128_0_0_512 _ 4 1 rfl (by omega) rfl _ _ (keys_right arg4 harg4 arg5 harg5 x2 x3) (values_right arg6 harg6 arg7 harg7 x4 x5) _ rfl _ _ rfl _, ?_⟩
  refine List.forall_mem_cons.2 ⟨piece_ok i arg2 harg2 arg3 harg3 x0 x1 x2 x3 x4 x5 n hn inb_S1x128x1024_S1x128x128_0_0_384 _ 3 0 rfl (by omega) rfl _ _ (keys_left arg4 harg4 arg5 harg5 x2 x3) (values_left arg6 harg6 arg7 harg7 x4 x5) _ rfl _ _ rfl _, ?_⟩
  refine List.forall_mem_cons.2 ⟨piece_ok i arg2 harg2 arg3 harg3 x0 x1 x2 x3 x4 x5 n hn inb_S1x128x1024_S1x128x128_0_0_256 _ 2 0 rfl (by omega) rfl _ _ (keys_left arg4 harg4 arg5 harg5 x2 x3) (values_left arg6 harg6 arg7 harg7 x4 x5) _ rfl _ _ rfl _, ?_⟩
  refine List.forall_mem_cons.2 ⟨piece_ok i arg2 harg2 arg3 harg3 x0 x1 x2 x3 x4 x5 n hn inb_S1x128x1024_S1x128x128_0_0_128 _ 1 0 rfl (by omega) rfl _ _ (keys_left arg4 harg4 arg5 harg5 x2 x3) (values_left arg6 harg6 arg7 harg7 x4 x5) _ rfl _ _ rfl _, ?_⟩
  refine List.forall_mem_cons.2 ⟨piece_ok i arg2 harg2 arg3 harg3 x0 x1 x2 x3 x4 x5 n hn inb_S1x128x1024_S1x128x128_0_0_0 _ 0 0 rfl (by omega) rfl _ _ (keys_left arg4 harg4 arg5 harg5 x2 x3) (values_left arg6 harg6 arg7 harg7 x4 x5) _ rfl _ _ rfl _, ?_⟩
  exact fun _ h => absurd h List.not_mem_nil

end Cert.SwaAttn

end
-- ==== Proof.SwaAttn.Grid.lean ====
/-
  The sliding-window attention: its result array after the run.
-/
module

public import proofs.«01_k».proof.Proof.Gen.Kernel5Ideal.Value
public import proofs.«01_k».proof.Proof.SwaAttn.Out
public import Idealize.ShloMosaic.Lib.Pointwise
public import Idealize.ShloMosaic.Lib.ValueIdxCore

@[expose] public section

set_option maxRecDepth 16384

noncomputable section

namespace Cert.SwaAttn

open Idealize.ShloMosaic Idealize.ShloMosaic.TcCoe Idealize.SL.Sem Cert.Kernel5Ideal Cert.Kernel5Ideal.Gen Cert.Kernel5Ideal.Value

/-- The row of the array that a key of a block's window is. -/
def row (n : Fin 128) (k : Fin 256) : Fin 16384 := ⟨if k.val < 128 then (n.val - 1) * 128 + k.val else n.val * 128 + (k.val - 128), by split_ifs <;> omega⟩

/-- The attention at a row and a lane, the first copies of the keys and values read. -/
def line (S : (⟨1, ![16]⟩ : Shape).Idx → EReal) (Q : (⟨3, ![2, 16384, 1024]⟩ : Shape).Idx → EReal) (K V : (⟨3, ![2, 16384, 256]⟩ : Shape).Idx → EReal)
    (u : Fin 2) (s : Fin 16384) (l : Fin 1024) : EReal :=
  attended (Seen ⟨s.val / 128, by omega⟩ ⟨s.val % 128, by omega⟩) (fun d => Q (ix3 u s (⟨l.val / 64 * 64 + d.val, by omega⟩ : Fin 1024)))
    (fun k d => K (ix3 u (row ⟨s.val / 128, by omega⟩ k) (⟨l.val / 512 * 128 + d.val, by omega⟩ : Fin 256)))
    (fun k => V (ix3 u (row ⟨s.val / 128, by omega⟩ k) (⟨l.val / 512 * 128 + l.val % 64, by omega⟩ : Fin 256)))
    (S (ix1 (⟨l.val / 64, by omega⟩ : Fin 16)))

/-- The attention's result. -/
def answer (S : (⟨1, ![16]⟩ : Shape).Idx → EReal) (Q : (⟨3, ![2, 16384, 1024]⟩ : Shape).Idx → EReal) (K V : (⟨3, ![2, 16384, 256]⟩ : Shape).Idx → EReal) :
    (⟨3, ![2, 16384, 1024]⟩ : Shape).Idx → EReal := fun y => line S Q K V (y 0) (y 1) (y 2)

/-- The two copies of each head hold the same. -/
def Agree (A : (⟨3, ![2, 16384, 256]⟩ : Shape).Idx → EReal) : Prop :=
  ∀ (u : Fin 2) (s : Fin 16384) (j : Fin 2) (d : Fin 64),
    A (ix3 u s (⟨j.val * 128 + d.val, by omega⟩ : Fin 256)) = A (ix3 u s (⟨j.val * 128 + 64 + d.val, by omega⟩ : Fin 256))

theorem Agree.copy {A : (⟨3, ![2, 16384, 256]⟩ : Shape).Idx → EReal} (h : Agree A) (u : Fin 2) (s : Fin 16384) (e f : Fin 256) (j d b : ℕ) (hj : j < 2) (hd : d < 64) (hb : b < 2)
    (he : e.val = j * 128 + b * 64 + d) (hf : f.val = j * 128 + d) : A (ix3 u s e) = A (ix3 u s f) := by
  have ef : A (ix3 u s f) = A (ix3 u s (⟨j * 128 + d, by omega⟩ : Fin 256)) := congrArg (fun e => A (ix3 u s e)) (Fin.ext hf)
  obtain h0 | h1 : b = 0 ∨ b = 1 := by omega
  · exact congrArg (fun e => A (ix3 u s e)) (Fin.ext (by omega))
  · have ee : A (ix3 u s e) = A (ix3 u s (⟨j * 128 + 64 + d, by omega⟩ : Fin 256)) := congrArg (fun e => A (ix3 u s e)) (Fin.ext (by show e.val = j * 128 + 64 + d; omega))
    exact ee.trans ((h u s ⟨j, hj⟩ ⟨d, hd⟩).symm.trans ef.symm)

variable (m : (ℓ : Loc nD τ sig) → Buf (Elt Ideal) ℓ) (c : Dev nD)

/-- The arguments. -/
def S : FVec Ideal S16 .f32 := m ((c : Thread nD τ).loc main_arg0)
def Q : FVec Ideal S2x16384x1024 .bf16 := m ((c : Thread nD τ).loc main_arg1)
def K : FVec Ideal S2x16384x256 .bf16 := m ((c : Thread nD τ).loc main_arg2)
def V' : FVec Ideal S2x16384x256 .bf16 := m ((c : Thread nD τ).loc main_arg3)

/-- Where each window's block lies at a point. -/
theorem places : ∀ t : Fin cfg0.N, (win0_0.index t (0 : Fin 1) = 0)
    ∧ (win0_1.index t (0 : Fin 3) = t.val / 128 ∧ win0_1.index t (1 : Fin 3) = t.val % 128 ∧ win0_1.index t (2 : Fin 3) = 0)
    ∧ (win0_2.index t (0 : Fin 3) = t.val / 128 ∧ win0_2.index t (1 : Fin 3) = t.val % 128 ∧ win0_2.index t (2 : Fin 3) = 0)
    ∧ (win0_3.index t (0 : Fin 3) = t.val / 128 ∧ win0_3.index t (1 : Fin 3) = t.val % 128 - 1 ∧ win0_3.index t (2 : Fin 3) = 0)
    ∧ (win0_4.index t (0 : Fin 3) = t.val / 128 ∧ win0_4.index t (1 : Fin 3) = t.val % 128 ∧ win0_4.index t (2 : Fin 3) = 0)
    ∧ (win0_5.index t (0 : Fin 3) = t.val / 128 ∧ win0_5.index t (1 : Fin 3) = t.val % 128 - 1 ∧ win0_5.index t (2 : Fin 3) = 0)
    ∧ (win0_6.index t (0 : Fin 3) = t.val / 128 ∧ win0_6.index t (1 : Fin 3) = t.val % 128 ∧ win0_6.index t (2 : Fin 3) = 0) :=
  (by decide +kernel : ∀ t : Fin grid0.N, _)

theorem coord : ∀ t : Fin cfg0.N, (grid0.coords t 1).val = t.val % 128 := (by decide +kernel : ∀ t : Fin grid0.N, _)

/-- Every point writes its block back. -/
theorem writes6 : ∀ q : Fin 256, win0_6.flush (⟨q.val, lt_of_lt_of_eq q.isLt N_0.symm⟩ : Fin grid0.N) = true := by decide +kernel

theorem block0 (t : Fin cfg0.N) (l : Fin 16) : @Eq EReal ((iblk m c 0 t : Vec Ideal S16 .f32) (ix1 l)) (S m c (ix1 l)) := by
  obtain ⟨h0, _⟩ := places t
  unfold iblk
  rw [View.read_apply]
  show V m c main_arg0 _ = _
  rw [V_main_arg0]
  refine congrArg (S m c) (funext fun a => Fin.ext ?_)
  match a with
  | ⟨0, _⟩ => show win0_0.index t (0 : Fin 1) * 16 + 1 * l.val = l.val; omega

theorem block1 (t : Fin cfg0.N) (r : Fin 128) (l : Fin 1024) (u : Fin 2) (s : Fin 16384) (hu : u.val = t.val / 128) (hs : s.val = (t.val % 128) * 128 + r.val) :
    @Eq EReal ((iblk m c 1 t : Vec Ideal S1x128x1024 .bf16) (ix3 0 r l)) (Q m c (ix3 u s l)) := by
  obtain ⟨_, ⟨h0, h1, h2⟩, _⟩ := places t
  unfold iblk
  rw [View.read_apply]
  show V m c main_arg1 _ = _
  rw [V_main_arg1]
  refine congrArg (Q m c) (funext fun a => Fin.ext ?_)
  match a with
  | ⟨0, _⟩ => show win0_1.index t (0 : Fin 3) * 1 + 1 * 0 = u.val; omega
  | ⟨1, _⟩ => show win0_1.index t (1 : Fin 3) * 128 + 1 * r.val = s.val; rw [h1]; omega
  | ⟨2, _⟩ => show win0_1.index t (2 : Fin 3) * 1024 + 1 * l.val = l.val; omega

theorem block2 (t : Fin cfg0.N) (r : Fin 128) (l : Fin 256) (u : Fin 2) (s : Fin 16384) (hu : u.val = t.val / 128) (hs : s.val = (t.val % 128) * 128 + r.val) :
    @Eq EReal ((iblk m c 2 t : Vec Ideal S1x128x256 .bf16) (ix3 0 r l)) (K m c (ix3 u s l)) := by
  obtain ⟨_, _, ⟨h0, h1, h2⟩, _⟩ := places t
  unfold iblk
  rw [View.read_apply]
  show V m c main_arg2 _ = _
  rw [V_main_arg2]
  refine congrArg (K m c) (funext fun a => Fin.ext ?_)
  match a with
  | ⟨0, _⟩ => show win0_2.index t (0 : Fin 3) * 1 + 1 * 0 = u.val; omega
  | ⟨1, _⟩ => show win0_2.index t (1 : Fin 3) * 128 + 1 * r.val = s.val; rw [h1]; omega
  | ⟨2, _⟩ => show win0_2.index t (2 : Fin 3) * 256 + 1 * l.val = l.val; omega

theorem block3 (t : Fin cfg0.N) (r : Fin 128) (l : Fin 256) (u : Fin 2) (s : Fin 16384) (hu : u.val = t.val / 128) (hs : s.val = (t.val % 128 - 1) * 128 + r.val) :
    @Eq EReal ((iblk m c 3 t : Vec Ideal S1x128x256 .bf16) (ix3 0 r l)) (K m c (ix3 u s l)) := by
  obtain ⟨_, _, _, ⟨h0, h1, h2⟩, _⟩ := places t
  unfold iblk
  rw [View.read_apply]
  show V m c main_arg2 _ = _
  rw [V_main_arg2]
  refine congrArg (K m c) (funext fun a => Fin.ext ?_)
  match a with
  | ⟨0, _⟩ => show win0_3.index t (0 : Fin 3) * 1 + 1 * 0 = u.val; omega
  | ⟨1, _⟩ => show win0_3.index t (1 : Fin 3) * 128 + 1 * r.val = s.val; rw [h1]; omega
  | ⟨2, _⟩ => show win0_3.index t (2 : Fin 3) * 256 + 1 * l.val = l.val; omega

theorem block4 (t : Fin cfg0.N) (r : Fin 128) (l : Fin 256) (u : Fin 2) (s : Fin 16384) (hu : u.val = t.val / 128) (hs : s.val = (t.val % 128) * 128 + r.val) :
    @Eq EReal ((iblk m c 4 t : Vec Ideal S1x128x256 .bf16) (ix3 0 r l)) (V' m c (ix3 u s l)) := by
  obtain ⟨_, _, _, _, ⟨h0, h1, h2⟩, _⟩ := places t
  unfold iblk
  rw [View.read_apply]
  show V m c main_arg3 _ = _
  rw [V_main_arg3]
  refine congrArg (V' m c) (funext fun a => Fin.ext ?_)
  match a with
  | ⟨0, _⟩ => show win0_4.index t (0 : Fin 3) * 1 + 1 * 0 = u.val; omega
  | ⟨1, _⟩ => show win0_4.index t (1 : Fin 3) * 128 + 1 * r.val = s.val; rw [h1]; omega
  | ⟨2, _⟩ => show win0_4.index t (2 : Fin 3) * 256 + 1 * l.val = l.val; omega

theorem block5 (t : Fin cfg0.N) (r : Fin 128) (l : Fin 256) (u : Fin 2) (s : Fin 16384) (hu : u.val = t.val / 128) (hs : s.val = (t.val % 128 - 1) * 128 + r.val) :
    @Eq EReal ((iblk m c 5 t : Vec Ideal S1x128x256 .bf16) (ix3 0 r l)) (V' m c (ix3 u s l)) := by
  obtain ⟨_, _, _, _, _, ⟨h0, h1, h2⟩, _⟩ := places t
  unfold iblk
  rw [View.read_apply]
  show V m c main_arg3 _ = _
  rw [V_main_arg3]
  refine congrArg (V' m c) (funext fun a => Fin.ext ?_)
  match a with
  | ⟨0, _⟩ => show win0_5.index t (0 : Fin 3) * 1 + 1 * 0 = u.val; omega
  | ⟨1, _⟩ => show win0_5.index t (1 : Fin 3) * 128 + 1 * r.val = s.val; rw [h1]; omega
  | ⟨2, _⟩ => show win0_5.index t (2 : Fin 3) * 256 + 1 * l.val = l.val; omega

/-- The window's keys are rows of the array. -/
theorem keys_at (t : Fin cfg0.N) (u : Fin 2) (n : Fin 128) (hu : u.val = t.val / 128) (hn : n.val = t.val % 128) (k e : Fin 256) :
    @Eq EReal (joined (iblk m c 3 t : Vec Ideal S1x128x256 .bf16) (iblk m c 2 t : Vec Ideal S1x128x256 .bf16) k e) (K m c (ix3 u (row n k) e)) := by
  unfold joined
  split_ifs with h
  · exact block3 m c t _ e u _ hu (by show (if k.val < 128 then _ else _) = _; rw [if_pos h, hn])
  · exact block2 m c t _ e u _ hu (by show (if k.val < 128 then _ else _) = _; rw [if_neg h, hn])

theorem values_at (t : Fin cfg0.N) (u : Fin 2) (n : Fin 128) (hu : u.val = t.val / 128) (hn : n.val = t.val % 128) (k e : Fin 256) :
    @Eq EReal (joined (iblk m c 5 t : Vec Ideal S1x128x256 .bf16) (iblk m c 4 t : Vec Ideal S1x128x256 .bf16) k e) (V' m c (ix3 u (row n k) e)) := by
  unfold joined
  split_ifs with h
  · exact block5 m c t _ e u _ hu (by show (if k.val < 128 then _ else _) = _; rw [if_pos h, hn])
  · exact block4 m c t _ e u _ hu (by show (if k.val < 128 then _ else _) = _; rw [if_neg h, hn])

theorem tile_block (hK : Agree (K m c)) (hV : Agree (V' m c)) (t : Fin cfg0.N) (u : Fin 2) (n r : Fin 128) (s : Fin 16384) (hu : u.val = t.val / 128) (hn : n.val = t.val % 128) (hs : s.val = n.val * 128 + r.val) (l : Fin 1024) :
    @Eq EReal (tile n (iblk m c 0 t : Vec Ideal S16 .f32) (iblk m c 1 t : Vec Ideal S1x128x1024 .bf16) (iblk m c 2 t : Vec Ideal S1x128x256 .bf16) (iblk m c 3 t : Vec Ideal S1x128x256 .bf16) (iblk m c 4 t : Vec Ideal S1x128x256 .bf16) (iblk m c 5 t : Vec Ideal S1x128x256 .bf16) r l)
      (line (S m c) (Q m c) (K m c) (V' m c) u s l) := by
  have hl := l.isLt
  have en : (⟨s.val / 128, by omega⟩ : Fin 128) = n := Fin.ext (by show s.val / 128 = n.val; omega)
  have er : (⟨s.val % 128, by omega⟩ : Fin 128) = r := Fin.ext (by show s.val % 128 = r.val; omega)
  unfold tile line
  rw [block0]
  simp only [en, er]
  have eq : (fun d : Fin 64 => (iblk m c 1 t : Vec Ideal S1x128x1024 .bf16) (ix3 0 r (⟨l.val / 64 * 64 + d.val, by omega⟩ : Fin 1024))) = fun d => Q m c (ix3 u s (⟨l.val / 64 * 64 + d.val, by omega⟩ : Fin 1024)) :=
    funext fun d => block1 m c t r _ u s hu (by rw [hs, hn])
  have ek : (fun (k : Fin 256) (d : Fin 64) => joined (iblk m c 3 t : Vec Ideal S1x128x256 .bf16) (iblk m c 2 t : Vec Ideal S1x128x256 .bf16) k ⟨l.val / 512 * 128 + l.val % 128 / 64 * 64 + d.val, by omega⟩)
      = fun k d => K m c (ix3 u (row n k) (⟨l.val / 512 * 128 + d.val, by omega⟩ : Fin 256)) :=
    funext fun k => funext fun d => (keys_at m c t u n hu hn k _).trans (hK.copy u _ _ _ (l.val / 512) d.val (l.val % 128 / 64) (by omega) d.isLt (by omega) rfl rfl)
  have ev : (fun k : Fin 256 => joined (iblk m c 5 t : Vec Ideal S1x128x256 .bf16) (iblk m c 4 t : Vec Ideal S1x128x256 .bf16) k ⟨l.val / 512 * 128 + l.val % 128, by omega⟩)
      = fun k => V' m c (ix3 u (row n k) (⟨l.val / 512 * 128 + l.val % 64, by omega⟩ : Fin 256)) :=
    funext fun k => (values_at m c t u n hu hn k _).trans (hV.copy u _ _ _ (l.val / 512) (l.val % 64) (l.val % 128 / 64) (by omega) (by omega) (by omega) (by show l.val / 512 * 128 + l.val % 128 = _; omega) rfl)
  exact congr (congr (congr (congrArg (attended (Seen n r)) eq) ek) ev) rfl

theorem flushed_eq (hK : Agree (K m c)) (hV : Agree (V' m c)) (t : Fin cfg0.N) :
    (dats m 0 c).flushed 6 t = ((cfg0.win 6).blk t).view.read (Elt Ideal) (answer (S m c) (Q m c) (K m c) (V' m c)) := by
  obtain ⟨_, _, _, _, _, _, ⟨h0, h1, h2⟩⟩ := places t
  have ht := lt_of_lt_of_eq t.isLt (show cfg0.N = 256 from N_0)
  rw [flushed6_A]
  funext y
  have hy0 : (y 0).val < 1 := (y 0).isLt
  have hy1 : (y 1).val < 128 := (y 1).isLt
  have hy2 : (y 2).val < 1024 := (y 2).isLt
  have hx : (cfg0.win 6).xinj (grid0.coords t) y = ix3 (0 : Fin 1) (⟨(y 1).val, hy1⟩ : Fin 128) (⟨(y 2).val, hy2⟩ : Fin 1024) := by
    funext a
    match a with
    | ⟨0, _⟩ => exact Subsingleton.elim (α := Fin 1) _ _
    | ⟨1, _⟩ => rfl
    | ⟨2, _⟩ => rfl
  have he : ((cfg0.win 6).blk t).view.emb y = ix3 (⟨t.val / 128, by omega⟩ : Fin 2) (⟨t.val % 128 * 128 + (y 1).val, by omega⟩ : Fin 16384) (⟨(y 2).val, hy2⟩ : Fin 1024) := by
    refine funext fun a => Fin.ext ?_
    match a with
    | ⟨0, _⟩ => show win0_6.index t (0 : Fin 3) * 1 + 1 * (y 0).val = t.val / 128; omega
    | ⟨1, _⟩ => show win0_6.index t (1 : Fin 3) * 128 + 1 * (y 1).val = t.val % 128 * 128 + (y 1).val; omega
    | ⟨2, _⟩ => show win0_6.index t (2 : Fin 3) * 1024 + 1 * (y 2).val = (y 2).val; omega
  show @Eq EReal (out0_A_6 (F := Ideal) _ _ _ _ _ _ _ _ _ _ _ _ _ _ _ _ _ _ _ _ _ _ ((cfg0.win 6).xinj (grid0.coords t) y)) (answer (S m c) (Q m c) (K m c) (V' m c) (((cfg0.win 6).blk t).view.emb y))
  rw [hx, he]
  refine (out_apply c (grid0.coords t) _ _ _ _ _ _ _ _ _ _ _ _ _ _ _ _ _ _ _ _ ⟨t.val % 128, by omega⟩ (coord t) _ _).trans ?_
  exact tile_block m c hK hV t ⟨t.val / 128, by omega⟩ ⟨t.val % 128, by omega⟩ ⟨(y 1).val, hy1⟩ ⟨t.val % 128 * 128 + (y 1).val, by omega⟩ rfl rfl rfl ⟨(y 2).val, hy2⟩

theorem block_mem (t : Fin cfg0.N) (i : S2x16384x1024.Idx) :
    i ∈ ((cfg0.win 6).blk t).view.set ↔ ∀ a : Fin 3, win0_6.index t a * S1x128x1024.size a ≤ (i a).val ∧ (i a).val < win0_6.index t a * S1x128x1024.size a + S1x128x1024.size a := by
  show i ∈ ((View.whole main_v0).slice (win0_6.rect t)).set ↔ _
  rw [View.set_slice_whole, Rect.mem_set_unit]
  exact Iff.rfl

/-- The result array after the run. -/
theorem result (hK : Agree (K m c)) (hV : Agree (V' m c)) : (dats m 0 c).arrAt 6 cfg0.N = answer (S m c) (Q m c) (K m c) (V' m c) :=
  (dats m 0 c).arrAt_eq_of_cover 6 _ (fun t _ => flushed_eq m c hK hV t) (fun i => by
    have hi0 : (i 0).val < 2 := (i 0).isLt
    have hi1 : (i 1).val < 16384 := (i 1).isLt
    have hi2 : (i 2).val < 1024 := (i 2).isLt
    refine ⟨⟨(i 0).val * 128 + (i 1).val / 128, lt_of_lt_of_eq (by omega) N_0.symm⟩, writes6 ⟨(i 0).val * 128 + (i 1).val / 128, by omega⟩, ?_⟩
    obtain ⟨_, _, _, _, _, _, ⟨h0, h1, h2⟩⟩ := places ⟨(i 0).val * 128 + (i 1).val / 128, lt_of_lt_of_eq (by omega) N_0.symm⟩
    rw [block_mem]
    intro a
    match a with
    | ⟨0, _⟩ => show win0_6.index _ (0 : Fin 3) * 1 ≤ (i 0).val ∧ (i 0).val < win0_6.index _ (0 : Fin 3) * 1 + 1; rw [h0]; dsimp only; omega
    | ⟨1, _⟩ => show win0_6.index _ (1 : Fin 3) * 128 ≤ (i 1).val ∧ (i 1).val < win0_6.index _ (1 : Fin 3) * 128 + 128; rw [h1]; dsimp only; omega
    | ⟨2, _⟩ => show win0_6.index _ (2 : Fin 3) * 1024 ≤ (i 2).val ∧ (i 2).val < win0_6.index _ (2 : Fin 3) * 1024 + 1024; rw [h2]; omega)

end Cert.SwaAttn

end
-- ==== Proof.SwaAttn.Read.lean ====
/-
  The sliding-window attention's reference, its result.
-/
module

public import proofs.«01_k».proof.Proof.Gen.Reference5Ideal.Run
public import proofs.«01_k».proof.Proof.SwaAttn.Ops
public import proofs.«01_k».proof.Proof.SwaAttn.Grid
public import Idealize.ShloMosaic.Lib.Pointwise
public import Idealize.ShloMosaic.Lib.ValueIdxCore

@[expose] public section

set_option maxRecDepth 16384

noncomputable section

namespace Cert.SwaAttn.Ref

open Idealize.ShloMosaic Idealize.ShloMosaic.TcCoe Idealize.SL.Sem Cert.Reference5Ideal Cert.Reference5Ideal.Gen Cert.Reference5Ideal.Value

section Towers

variable (a : FVec Ideal S16 .f32) (q : FVec Ideal S2x16384x1024 .bf16) (k v : FVec Ideal S2x16384x256 .bf16)

theorem window_row (u : Fin 2) (n : Fin 128) (e : Fin 256) (j : Fin 2) (d : Fin 64) (he : n.val = 0 → 128 ≤ e.val) :
    @Eq EReal (window (heads k) (ix5 u n e j d)) (k (ix3 u (row n e) (⟨j.val * 128 + d.val, by omega⟩ : Fin 256))) := by
  by_cases h : e.val < 128
  · refine (window_left (heads k) u n ⟨e.val, h⟩ j d).trans ((shifted_apply (heads k) u n ⟨e.val, h⟩ j d).trans ?_)
    rw [if_neg (fun y => absurd (he y) (by omega))]
    refine (heads_apply k u _ _ j d).trans (congrArg (fun s => k (ix3 u s (⟨j.val * 128 + d.val, by omega⟩ : Fin 256))) (Fin.ext ?_))
    show (n.val - 1) * 128 + e.val = (if e.val < 128 then _ else _)
    rw [if_pos h]
  · have hx : e = (⟨128 + (⟨e.val - 128, by omega⟩ : Fin 128).val, by dsimp only; omega⟩ : Fin 256) := Fin.ext (by dsimp only; omega)
    refine (congrArg (fun e => window (heads k) (ix5 u n e j d)) hx).trans ((window_right (heads k) u n ⟨e.val - 128, by omega⟩ j d).trans ?_)
    refine (heads_apply k u _ _ j d).trans (congrArg (fun s => k (ix3 u s (⟨j.val * 128 + d.val, by omega⟩ : Fin 256))) (Fin.ext ?_))
    show n.val * 128 + (e.val - 128) = (if e.val < 128 then _ else _)
    rw [if_neg h]

theorem window_none (u : Fin 2) (n : Fin 128) (e : Fin 128) (j : Fin 2) (d : Fin 64) (hn : n.val = 0) :
    @Eq EReal (window (heads k) (ix5 u n (⟨e.val, by omega⟩ : Fin 256) j d)) 0 :=
  (window_left (heads k) u n e j d).trans ((shifted_apply (heads k) u n e j d).trans (if_pos hn))

/-- The scores as the reference computes them. -/
def marks : FVec Ideal S2x2x8x128x128x256 .f32 := scored q (window (heads k)) mask

/-- A query's score of a key. -/
def mark (u j : Fin 2) (g : Fin 8) (n r : Fin 128) (e : Fin 256) : EReal :=
  if Seen n r e then ∑ d : Fin 64, q (ix3 u (⟨n.val * 128 + r.val, by omega⟩ : Fin 16384) (⟨j.val * 512 + g.val * 64 + d.val, by omega⟩ : Fin 1024)) * k (ix3 u (row n e) (⟨j.val * 128 + d.val, by omega⟩ : Fin 256)) else low

theorem marks_apply (u j : Fin 2) (g : Fin 8) (n r : Fin 128) (e : Fin 256) : @Eq EReal (marks q k (ix6 u j g n r e)) (mark q k u j g n r e) := by
  unfold marks mark
  refine (scored_ref q _ _ u j g n r e).trans ?_
  rw [seen_apply, select_bool]
  by_cases h : Seen n r e
  · rw [if_pos (decide_eq_true h), if_pos h]
    refine Finset.sum_congr rfl fun d _ => ?_
    rw [mul_comm, window_row k u n e j d h.2.2]
  · rw [if_neg (fun y => h (of_decide_eq_true y)), if_neg h]

theorem gathered_row (u j : Fin 2) (g : Fin 8) (n r : Fin 128) (d : Fin 64) :
    (∑ e : Fin 256, window (heads v) (ix5 u n e j d) * parts a (marks q k) (ix6 u j g n r e) : EReal)
      = ∑ e : Fin 256, share (mark q k u j g n r) (a (ix1 (⟨j.val * 8 + g.val, by omega⟩ : Fin 16))) e * v (ix3 u (row n e) (⟨j.val * 128 + d.val, by omega⟩ : Fin 256)) := by
  have shares (e : Fin 256) : @Eq EReal (parts a (marks q k) (ix6 u j g n r e)) (share (mark q k u j g n r) (a (ix1 (⟨j.val * 8 + g.val, by omega⟩ : Fin 16))) e) := by
    refine (parts_apply a (marks q k) u j g n r e).trans ?_
    rw [sunk_apply]
    exact congrArg (fun f => share f _ e) (funext fun e => marks_apply q k u j g n r e)
  have flip : (∑ e : Fin 256, window (heads v) (ix5 u n e j d) * parts a (marks q k) (ix6 u j g n r e) : EReal)
      = ∑ e : Fin 256, share (mark q k u j g n r) (a (ix1 (⟨j.val * 8 + g.val, by omega⟩ : Fin 16))) e * window (heads v) (ix5 u n e j d) :=
    Finset.sum_congr rfl fun e _ => by rw [shares e, mul_comm]
  refine flip.trans ?_
  by_cases h : n.val = 0
  · refine (first_block (mark q k u j g n r) _ (fun e he => if_neg fun y => absurd (y.2.2 h) (by omega)) (fun e => v (ix3 u (row n e) (⟨j.val * 128 + d.val, by omega⟩ : Fin 256))) (fun e => window (heads v) (ix5 u n e j d))
      (fun e => congrArg (fun s => v (ix3 u s (⟨j.val * 128 + d.val, by omega⟩ : Fin 256))) (Fin.ext ?_)) (fun e => window_none v u n e j d h) (fun e => window_row v u n _ j d fun _ => ?_)).symm
    · show (if e.val < 128 then (n.val - 1) * 128 + e.val else _) = (if 128 + e.val < 128 then _ else n.val * 128 + (128 + e.val - 128))
      rw [if_pos e.isLt, if_neg (by omega), h]
      omega
    · show 128 ≤ 128 + e.val
      omega
  · exact Finset.sum_congr rfl fun e _ => congrArg (fun x : EReal => share (mark q k u j g n r) _ e * x) (window_row v u n e j d fun y => absurd y h)

theorem tower : (gathered (window (heads v)) (parts a (marks q k)) : S2x16384x1024.Idx → EReal) = answer a q k v := by
  refine funext fun i => ?_
  obtain ⟨u, s, l, rfl⟩ : ∃ (u : Fin 2) (s : Fin 16384) (l : Fin 1024), i = ix3 u s l := ⟨i 0, i 1, i 2, eq_ix3 i⟩
  refine (gathered_apply _ _ u s l).trans ((gathered_row a q k v u _ _ _ _ _).trans ?_)
  show _ = line a q k v u s l
  unfold line attended
  have hq (d : Fin 64) : (ix3 u (⟨s.val / 128 * 128 + s.val % 128, by omega⟩ : Fin 16384) (⟨l.val / 512 * 512 + l.val / 64 % 8 * 64 + d.val, by omega⟩ : Fin 1024)) = ix3 u s (⟨l.val / 64 * 64 + d.val, by omega⟩ : Fin 1024) :=
    congr (congrArg (ix3 u) (Fin.ext (by dsimp only; omega))) (Fin.ext (by dsimp only; omega))
  have hs : (⟨l.val / 512 * 8 + l.val / 64 % 8, by omega⟩ : Fin 16) = ⟨l.val / 64, by omega⟩ := Fin.ext (by dsimp only; omega)
  unfold mark
  simp only [hq, hs]

end Towers

variable (m : (ℓ : Loc nD τ sig) → Buf (Elt Ideal) ℓ) (c : Dev nD)

/-- The arguments as launched. -/
abbrev RS : FVec Ideal S16 .f32 := m ((c.tc : Thread nD τ).loc main_arg0)
abbrev RQ : FVec Ideal S2x16384x1024 .bf16 := m ((c.tc : Thread nD τ).loc main_arg1)
abbrev RK : FVec Ideal S2x16384x256 .bf16 := m ((c.tc : Thread nD τ).loc main_arg2)
abbrev RV : FVec Ideal S2x16384x256 .bf16 := m ((c.tc : Thread nD τ).loc main_arg3)

theorem ref_result : (res_main_v73 m c : S2x16384x1024.Idx → EReal) = answer (RS m c) (RQ m c) (RK m c) (RV m c) :=
  Eq.trans (show (res_main_v73 m c : S2x16384x1024.Idx → EReal) = gathered (window (heads (RV m c))) (parts (RS m c) (marks (RQ m c) (RK m c))) from rfl) (tower _ _ _ _)

end Cert.SwaAttn.Ref

end
-- ==== Proof.SwaAttn.Tie.lean ====
/-
  The sliding-window attention against its reference, where the two copies of each head agree.
-/
module

public import proofs.«01_k».proof.Defs
public import proofs.«01_k».proof.Proof.SwaAttn.Grid
public import Idealize.ShloMosaic.Lib.Pointwise

@[expose] public section

set_option maxRecDepth 16384

noncomputable section

namespace Cert.SwaAttn

open Idealize.ShloMosaic Idealize.ShloMosaic.TcCoe Idealize.SL.Sem

theorem and_left : ∀ {x y : BitVec 1}, IntOp.andi x y = 1#1 → x = 1#1 := by decide

theorem and_right : ∀ {x y : BitVec 1}, IntOp.andi x y = 1#1 → y = 1#1 := by decide

theorem equal_of_word {x y : EReal} (h : BitVec.ofBool (decide (x = y)) = 1#1) : x = y := by
  by_contra hn
  rw [decide_eq_false hn] at h
  exact absurd h (by decide)

/-- The precondition, read at the keys and the values. -/
theorem agree_of [Cert.Pre_copies_agree.Facts] (s : FVec Ideal Cert.Pre_copies_agree.S16 .f32) (q : FVec Ideal Cert.Pre_copies_agree.S2x16384x1024 .bf16)
    (k v : FVec Ideal Cert.Pre_copies_agree.S2x16384x256 .bf16) (h : Cert.Pre_copies_agree.fn (F := Ideal) s q k v = fun _ => 1#1) : Agree k ∧ Agree v := by
  unfold Cert.Pre_copies_agree.fn at h
  have e (u : Fin 2) (s : Fin 16384) (j : Fin 2) (d : Fin 64) := congrFun h (ix4 u s j d)
  refine ⟨fun u s j d => equal_of_word (Eq.trans ?_ (and_left (e u s j d))), fun u s j d => equal_of_word (Eq.trans ?_ (and_right (e u s j d)))⟩
  · pointwise
  · pointwise

end Cert.SwaAttn

end
-- ==== Proof.Out.Swa.lean ====
/-
  The windowed-attention output projection: the kernel's result array, block after block, is the residual plus the
  product and the bias that the reference states.
-/
module

public import proofs.«01_k».proof.Proof.Gen.Kernel6Ideal.Value
public import proofs.«01_k».proof.Proof.Gen.Reference6Ideal.Run
public import Idealize.ShloMosaic.Lib.Pointwise

@[expose] public section

set_option maxRecDepth 16384

noncomputable section

namespace Cert.Out.Swa

open Idealize.ShloMosaic Idealize.ShloMosaic.TcCoe Idealize.SL.Sem Cert.Kernel6Ideal Cert.Kernel6Ideal.Gen Cert.Kernel6Ideal.Value

/-- One result element: the residual plus the row times the column plus the bias. -/
def projected (o : FVec Ideal S32768x1024 .bf16) (w : FVec Ideal S1024x1024 .f32) (b : FVec Ideal S1024 .f32) (x : FVec Ideal S32768x1024 .f32) : FVec Ideal S32768x1024 .f32 :=
  fun i => (x i : EReal) + ((∑ k : Fin 1024, (o (ix2 (i 0) k) : EReal) * (w (ix2 k (i 1)) : EReal)) + (b (ix1 (i 1)) : EReal))

theorem body_apply (x0 : Vec Ideal S256x1024 .bf16) (x1 : Vec Ideal S1024x1024 .bf16) (x2 : Vec Ideal S1x1024 .f32) (x3 : Vec Ideal S256x1024 .f32) (r : Fin 256) (l : Fin 1024) :
    @Eq EReal (out0_4 x0 x1 x2 x3 (ix2 r l)) (x3 (ix2 r l) + ((∑ k : Fin 1024, (x0 (ix2 r k) : EReal) * (x1 (ix2 k l) : EReal)) + x2 (ix2 0 l))) := by
  have hz : (![0, 0] : Fin 2 → Nat) = fun _ => 0 := by funext a; match a with | ⟨0, _⟩ => rfl | ⟨1, _⟩ => rfl
  unfold out0_4
  rw [View.canon_unit_zero hz, View.ld_unit_zero hz, View.ld_unit_zero hz, View.ld_unit_zero hz, View.ld_unit_zero hz]
  pointwise [k0_pay1]

variable (m : (ℓ : Loc nD τ sig) → Buf (Elt Ideal) ℓ) (c : Dev nD)

/-- The arguments as launched. -/
abbrev O : FVec Ideal S32768x1024 .bf16 := m ((c.tc : Thread nD τ).loc main_arg0)
abbrev W : FVec Ideal S1024x1024 .f32 := m ((c.tc : Thread nD τ).loc main_arg1)
abbrev B : FVec Ideal S1024 .f32 := m ((c.tc : Thread nD τ).loc main_arg2)
abbrev X : FVec Ideal S32768x1024 .f32 := m ((c.tc : Thread nD τ).loc main_arg3)

/-- Where each window's block lies at a point. -/
theorem places : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0) :=
  (by decide +kernel : ∀ t : Fin grid0.N, _)

/-- The point that writes back the block holding row `i`. -/
theorem writes : ∀ q : Fin 128, win0_4.flush (⟨q.val, lt_of_lt_of_eq q.isLt N_0.symm⟩ : Fin grid0.N) = true := by decide +kernel

theorem block0 (t : Fin cfg0.N) (r : Fin 256) (l : Fin 1024) (i : Fin 32768) (hi : i.val = t.val * 256 + r.val) :
    (iblk m c 0 t : Vec Ideal S256x1024 .bf16) (ix2 r l) = O m c (ix2 i l) := by
  obtain ⟨⟨h0, h1⟩, _⟩ := places t
  unfold iblk
  rw [View.read_apply]
  show V m c main_arg0 _ = _
  rw [V_main_arg0]
  refine congrArg (O m c) (funext fun a => Fin.ext ?_)
  match a with
  | ⟨0, _⟩ => show win0_0.index t (0 : Fin 2) * 256 + 1 * r.val = i.val; omega
  | ⟨1, _⟩ => show win0_0.index t (1 : Fin 2) * 1024 + 1 * l.val = l.val; omega

theorem V_weight : (V m c main_v0 : S1024x1024.Idx → EReal) = W m c := rfl

theorem block1 (t : Fin cfg0.N) (r : Fin 1024) (l : Fin 1024) :
    @Eq EReal ((iblk m c 1 t : Vec Ideal S1024x1024 .bf16) (ix2 r l)) (W m c (ix2 r l)) := by
  obtain ⟨_, ⟨h0, h1⟩, _⟩ := places t
  rw [← V_weight]
  unfold iblk
  rw [View.read_apply]
  show V m c main_v0 _ = _
  refine congrArg (V m c main_v0) (funext fun a => Fin.ext ?_)
  match a with
  | ⟨0, _⟩ => show win0_1.index t (0 : Fin 2) * 1024 + 1 * r.val = r.val; omega
  | ⟨1, _⟩ => show win0_1.index t (1 : Fin 2) * 1024 + 1 * l.val = l.val; omega

theorem V_bias : (V m c main_v1 : S1x1024.Idx → EReal) = shapeCast S1x1024 (B m c) shapeCasts_S1024_S1x1024 := rfl

theorem block2 (t : Fin cfg0.N) (l : Fin 1024) :
    @Eq EReal ((iblk m c 2 t : Vec Ideal S1x1024 .f32) (ix2 0 l)) (B m c (ix1 l)) := by
  obtain ⟨_, _, ⟨h0, h1⟩, _⟩ := places t
  have e : shapeCast S1x1024 (B m c) shapeCasts_S1024_S1x1024 (ix2 0 l) = B m c (ix1 l) := by
    pointwise
  rw [← e, ← V_bias]
  unfold iblk
  rw [View.read_apply]
  show V m c main_v1 _ = _
  refine congrArg (V m c main_v1) (funext fun a => Fin.ext ?_)
  match a with
  | ⟨0, _⟩ => show win0_2.index t (0 : Fin 2) * 1 + 1 * 0 = 0; omega
  | ⟨1, _⟩ => show win0_2.index t (1 : Fin 2) * 1024 + 1 * l.val = l.val; omega

theorem block3 (t : Fin cfg0.N) (r : Fin 256) (l : Fin 1024) (i : Fin 32768) (hi : i.val = t.val * 256 + r.val) :
    (iblk m c 3 t : Vec Ideal S256x1024 .f32) (ix2 r l) = X m c (ix2 i l) := by
  obtain ⟨_, _, _, ⟨h0, h1⟩, _⟩ := places t
  unfold iblk
  rw [View.read_apply]
  show V m c main_arg3 _ = _
  rw [V_main_arg3]
  refine congrArg (X m c) (funext fun a => Fin.ext ?_)
  match a with
  | ⟨0, _⟩ => show win0_3.index t (0 : Fin 2) * 256 + 1 * r.val = i.val; omega
  | ⟨1, _⟩ => show win0_3.index t (1 : Fin 2) * 1024 + 1 * l.val = l.val; omega

theorem flushed_eq (t : Fin cfg0.N) :
    (dats m 0 c).flushed 4 t = ((cfg0.win 4).blk t).view.read (Elt Ideal) (projected (O m c) (W m c) (B m c) (X m c)) := by
  obtain ⟨_, _, _, _, h0, h1⟩ := places t
  have ht := lt_of_lt_of_eq t.isLt (show cfg0.N = 128 from N_0)
  rw [flushed4]
  funext y
  have hy0 : (y 0).val < 256 := (y 0).isLt
  have hy1 : (y 1).val < 1024 := (y 1).isLt
  have hx : (cfg0.win 4).xinj (grid0.coords t) y = ix2 (⟨(y 0).val, hy0⟩ : Fin 256) (⟨(y 1).val, hy1⟩ : Fin 1024) := by
    funext a
    match a with
    | ⟨0, _⟩ => rfl
    | ⟨1, _⟩ => rfl
  have he : ((cfg0.win 4).blk t).view.emb y = ix2 (⟨t.val * 256 + (y 0).val, by omega⟩ : Fin 32768) (⟨(y 1).val, hy1⟩ : Fin 1024) := by
    refine funext fun a => Fin.ext ?_
    match a with
    | ⟨0, _⟩ => show win0_4.index t (0 : Fin 2) * 256 + 1 * (y 0).val = t.val * 256 + (y 0).val; omega
    | ⟨1, _⟩ => show win0_4.index t (1 : Fin 2) * 1024 + 1 * (y 1).val = (y 1).val; omega
  show @Eq EReal (out0_4 (F := Ideal) _ _ _ _ ((cfg0.win 4).xinj (grid0.coords t) y)) (projected _ _ _ _ (((cfg0.win 4).blk t).view.emb y))
  rw [hx, he]
  refine (body_apply _ _ _ _ _ _).trans ?_
  refine congrArg₂ (· + ·) (block3 m c t _ _ _ rfl) (congrArg₂ (· + ·) (Finset.sum_congr rfl fun k _ => congrArg₂ (· * ·) (block0 m c t _ _ _ rfl) (block1 m c t _ _)) (block2 m c t _))

theorem mem_block (t : Fin cfg0.N) (i : S32768x1024.Idx) :
    i ∈ ((cfg0.win 4).blk t).view.set ↔ ∀ a : Fin 2, win0_4.index t a * S256x1024.size a ≤ (i a).val ∧ (i a).val < win0_4.index t a * S256x1024.size a + S256x1024.size a := by
  show i ∈ ((View.whole main_v2).slice (win0_4.rect t)).set ↔ _
  rw [View.set_slice_whole, Rect.mem_set_unit]
  exact Iff.rfl

/-- The result array after the run. -/
theorem result : (dats m 0 c).arrAt 4 cfg0.N = projected (O m c) (W m c) (B m c) (X m c) :=
  (dats m 0 c).arrAt_eq_of_cover 4 _ (fun t _ => flushed_eq m c t) (fun i => by
    have hi0 : (i 0).val < 32768 := (i 0).isLt
    have hi1 : (i 1).val < 1024 := (i 1).isLt
    refine ⟨⟨(i 0).val / 256, lt_of_lt_of_eq (by omega) N_0.symm⟩, writes ⟨(i 0).val / 256, by omega⟩, ?_⟩
    obtain ⟨_, _, _, _, h0, h1⟩ := places ⟨(i 0).val / 256, lt_of_lt_of_eq (by omega) N_0.symm⟩
    rw [mem_block]
    intro a
    match a with
    | ⟨0, _⟩ => show win0_4.index _ (0 : Fin 2) * 256 ≤ (i 0).val ∧ (i 0).val < win0_4.index _ (0 : Fin 2) * 256 + 256; rw [h0]; show (i 0).val / 256 * 256 ≤ _ ∧ _ < (i 0).val / 256 * 256 + 256; omega
    | ⟨1, _⟩ => show win0_4.index _ (1 : Fin 2) * 1024 ≤ (i 1).val ∧ (i 1).val < win0_4.index _ (1 : Fin 2) * 1024 + 1024; rw [h1]; omega)

/-- The reference's result, read at an index. -/
theorem reference (o : FVec Ideal Cert.Reference6Ideal.S32768x1024 .bf16) (w : FVec Ideal Cert.Reference6Ideal.S1024x1024 .f32) (b : FVec Ideal Cert.Reference6Ideal.S1024 .f32)
    (x : FVec Ideal Cert.Reference6Ideal.S32768x1024 .f32) (h : FTy.bits .bf16 < FTy.bits .f32) (h1) (h2) :
    addf x (addf (Host.dotGeneral (F := Ideal) Cert.Reference6Ideal.dot_S32768x1024_S1024x1024_S32768x1024_1_0_0_1_n_n none (extf .f32 o h) w)
      (broadcastInDim Cert.Reference6Ideal.S32768x1024 ![0, 1] h2 (broadcastInDim Cert.Reference6Ideal.S1x1024 ![1] h1 b))) = projected o w b x := by
  refine funext fun i => ?_
  have hi : i = ix2 (i 0) (i 1) := by
    funext a
    match a with
    | ⟨0, _⟩ => rfl
    | ⟨1, _⟩ => rfl
  rw [hi]
  pointwise [projected]

end Cert.Out.Swa

end
-- ==== Proof.lean ====
/-
  The certificate's claims, each from its program's run and, for the value claims, the calls' equations.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import Idealize.ShloMosaic.Adequacy
public import Idealize.ShloMosaic.Init
public import Idealize.ShloMosaic.Lib.Quiescent
public import proofs.«01_k».proof.Proof.Scan.Tie
public import proofs.«01_k».proof.Proof.GlaIn.Read
public import proofs.«01_k».proof.Proof.GlaIn.Grid
public import proofs.«01_k».proof.Proof.Out.Gla
public import proofs.«01_k».proof.Proof.SwaIn.Tie
public import proofs.«01_k».proof.Proof.SwaAttn.Read
public import proofs.«01_k».proof.Proof.SwaAttn.Tie
public import proofs.«01_k».proof.Proof.Out.Swa

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem quiescent_Reference2Ideal : quiescent_Reference2Ideal := fun m ρ _ =>
  (θ_run Cert.Reference2Ideal.defs _ _).mono (fun r h => ⟨fun c => (h c).2.2.2.2.2, sem_eq_zero_of_no_sems (by decide) r.2⟩)
    (Cert.Reference2Ideal.Value.run (F := Ideal) m ρ)

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem quiescent_Reference4Ideal : quiescent_Reference4Ideal := fun m ρ _ =>
  (θ_run Cert.Reference4Ideal.defs _ _).mono (fun r h => ⟨fun c => (h c).2.2.2, sem_eq_zero_of_no_sems (by decide) r.2⟩)
    (Cert.Reference4Ideal.Value.run (F := Ideal) m ρ)

theorem quiescent_Reference5Ideal : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem quiescent_Reference6Ideal : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem preFacts : Cert.Pre_decays_below_infinity.Facts where
  bcast_S_S2x16384x512 := by decide

theorem algebraic : algebraic_KernelIdeal_ReferenceIdeal_pre_decays_below_infinity (hPre_decays_below_infinity := preFacts) := by
  intro m ρ m' ρ' hpre hagree
  refine ⟨_, Cert.KernelIdeal.Value.run (F := Ideal) m ρ, ?_⟩
  refine (θ_run Cert.ReferenceIdeal.defs _ _).mono (fun _ h c => ⟨(h c).1.trans ?_, (h c).2⟩) (Cert.ReferenceIdeal.Value.run (F := Ideal) m' ρ')
  obtain ⟨h0, h1, h2, h3, h4, h5⟩ := hagree c
  exact Cert.Scan.tie m c m' (fun b s l => @Cert.Scan.below preFacts _ _ _ _ _ _ (hpre c) b s l) h0 h1 h2 h3 h4 h5

theorem algebraic2 : algebraic_Kernel2Ideal_Reference2Ideal := by
  intro m ρ m' ρ' _ hagree
  refine ⟨_, _, _, _, _, Cert.Kernel2Ideal.Value.run_blocks (F := Ideal) m ρ, ?_⟩
  refine (θ_run Cert.Reference2Ideal.defs _ _).mono (fun _ h c => ?_) (Cert.Reference2Ideal.Value.run (F := Ideal) m' ρ')
  obtain ⟨r0, r1, r2, r3, r4, hkept⟩ := h c
  obtain ⟨h0, h1, h2, h3, h4⟩ := hagree c
  have e0 : Cert.GlaIn.RX m' c = Cert.GlaIn.X m c := h0
  have e1 : Cert.GlaIn.RG m' c = Cert.GlaIn.G m c := h1
  have e2 : Cert.GlaIn.RW m' c = Cert.GlaIn.W m c := h2
  have e3 : Cert.GlaIn.RWA m' c = Cert.GlaIn.WA m c := h3
  have e4 : Cert.GlaIn.RBA m' c = Cert.GlaIn.BA m c := h4
  refine ⟨r0.trans ?_, r1.trans ?_, r2.trans ?_, r3.trans ?_, r4.trans ?_, hkept⟩
  · refine (Cert.GlaIn.queries_ref m' c).trans (Eq.trans ?_ (Cert.GlaIn.queries_result m c).symm)
    rw [e0, e1, e2]
  · refine (Cert.GlaIn.keys_ref m' c).trans (Eq.trans ?_ (Cert.GlaIn.keys_result m c).symm)
    rw [e0, e1, e2]
  · refine (Cert.GlaIn.values_ref m' c).trans (Eq.trans ?_ (Cert.GlaIn.values_result m c).symm)
    rw [e0, e1, e2]
  · refine (Cert.GlaIn.gates_ref m' c).trans (Eq.trans ?_ (Cert.GlaIn.gates_result m c).symm)
    rw [e0, e1, e2]
  · refine (Cert.GlaIn.decays_ref m' c).trans (Eq.trans ?_ (Cert.GlaIn.decays_result m c).symm)
    rw [e0, e1, e2, e3, e4]

theorem algebraic3 : algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨(h c).1.trans ?_, (h c).2⟩) (Cert.Reference3Ideal.Value.run (F := Ideal) m' ρ')
  obtain ⟨h0, h1, h2⟩ := hagree c
  refine (Cert.Out.Gla.reference _ _ _ _).trans (Eq.trans ?_ (Cert.Out.Gla.result m c).symm)
  rw [h0, h1, h2]

theorem preFacts4 : Cert.Pre_finite_projection.Facts where
  bcast_S_S32768x1024 := by decide
  bcast_S_S1024 := by decide
  bcast_S1024_S1x1024_1 := by decide
  slices_S1024x1280_S1024x1152_0_0 := by decide
  transposes_S1024x1152_S1152x1024_1_0 := by decide
  bcast_S_S1152x1024 := by decide
  slices_S1280_S1152_0 := by decide
  bcast_S_S1152 := by decide
  bcast_S1152_S1152x1_0 := by decide
  bcast_S1152x1_S1152x1024_0_1 := by decide
  concatenates_S32768x1024_S1x1024_S1152x1024_S1152x1024_S35073x1024_d0 := by decide

theorem algebraic4 : algebraic_Kernel4Ideal_Reference4Ideal_pre_finite_projection (hPre_finite_projection := preFacts4) := by
  intro m ρ m' ρ' hpre hagree
  refine ⟨_, _, _, Cert.Kernel4Ideal.Value.run_blocks (F := Ideal) m ρ, ?_⟩
  refine (θ_run Cert.Reference4Ideal.defs _ _).mono (fun _ h c => ?_) (Cert.Reference4Ideal.Value.run (F := Ideal) m' ρ')
  obtain ⟨r0, r1, r2, hkept⟩ := h c
  obtain ⟨h0, h1, h2, h3, h4, h5, h6⟩ := hagree c
  have e0 : Cert.SwaIn.RX m' c = Cert.SwaIn.X m c := h0
  have e1 : Cert.SwaIn.RP m' c = Cert.SwaIn.P m c := h1
  have e2 : Cert.SwaIn.RG m' c = Cert.SwaIn.G m c := h2
  have e3 : Cert.SwaIn.RW m' c = Cert.SwaIn.W m c := h3
  have e4 : Cert.SwaIn.RB m' c = Cert.SwaIn.B m c := h4
  have e5 : Cert.SwaIn.RQG m' c = Cert.SwaIn.QG m c := h5
  have e6 : Cert.SwaIn.RKG m' c = Cert.SwaIn.KG m c := h6
  have tame : Cert.SwaIn.Tame (Cert.SwaIn.X m c) (Cert.SwaIn.G m c) (Cert.SwaIn.W m c) (Cert.SwaIn.B m c) :=
    @Cert.SwaIn.tame_of preFacts4 _ _ _ _ _ _ _ (hpre c)
  refine ⟨r0.trans ?_, r1.trans ?_, r2.trans ?_, hkept⟩
  · refine (Cert.SwaIn.ref_queries m' c).trans (Eq.trans ?_ (Cert.SwaIn.queries_result m c tame).symm)
    rw [e0, e1, e2, e3, e4, e5]
  · refine (Cert.SwaIn.ref_keys m' c).trans (Eq.trans ?_ (Cert.SwaIn.keys_result m c tame).symm)
    rw [e0, e1, e2, e3, e4, e6]
  · refine (Cert.SwaIn.ref_values m' c).trans (Eq.trans ?_ (Cert.SwaIn.values_result m c).symm)
    rw [e0, e2, e3, e4]
theorem preFacts5 : Cert.Pre_copies_agree.Facts where
  bitsLt_bf16_f32 := by decide
  shapeCasts_S2x16384x256_S2x16384x2x2x64 := by decide
  slices_S2x16384x2x2x64_S2x16384x2x1x64_0_0_0_0_0 := by decide
  shapeCasts_S2x16384x2x1x64_S2x16384x2x64 := by decide
  slices_S2x16384x2x2x64_S2x16384x2x1x64_0_0_0_1_0 := by decide

theorem algebraic5 : algebraic_Kernel5Ideal_Reference5Ideal_pre_copies_agree (hPre_copies_agree := preFacts5) := by
  intro m ρ m' ρ' hpre hagree
  refine ⟨_, Cert.Kernel5Ideal.Value.run_blocks (F := Ideal) m ρ, ?_⟩
  refine (θ_run Cert.Reference5Ideal.defs _ _).mono (fun _ h c => ?_) (Cert.Reference5Ideal.Value.run (F := Ideal) m' ρ')
  obtain ⟨r0, hkept⟩ := h c
  obtain ⟨h0, h1, h2, h3⟩ := hagree c
  have e0 : Cert.SwaAttn.Ref.RS m' c = Cert.SwaAttn.S m c := h0
  have e1 : Cert.SwaAttn.Ref.RQ m' c = Cert.SwaAttn.Q m c := h1
  have e2 : Cert.SwaAttn.Ref.RK m' c = Cert.SwaAttn.K m c := h2
  have e3 : Cert.SwaAttn.Ref.RV m' c = Cert.SwaAttn.V' m c := h3
  obtain ⟨hK, hV⟩ : Cert.SwaAttn.Agree (Cert.SwaAttn.K m c) ∧ Cert.SwaAttn.Agree (Cert.SwaAttn.V' m c) :=
    @Cert.SwaAttn.agree_of preFacts5 _ _ _ _ (hpre c)
  refine ⟨r0.trans ?_, hkept⟩
  refine (Cert.SwaAttn.Ref.ref_result m' c).trans (Eq.trans ?_ (Cert.SwaAttn.result m c hK hV).symm)
  rw [e0, e1, e2, e3]

theorem algebraic6 : algebraic_Kernel6Ideal_Reference6Ideal := by
  intro m ρ m' ρ' _ hagree
  refine ⟨_, Cert.Kernel6Ideal.Value.run_blocks (F := Ideal) m ρ, ?_⟩
  refine (θ_run Cert.Reference6Ideal.defs _ _).mono (fun _ h c => ⟨(h c).1.trans ?_, (h c).2⟩) (Cert.Reference6Ideal.Value.run (F := Ideal) m' ρ')
  obtain ⟨h0, h1, h2, h3⟩ := hagree c
  refine (Cert.Out.Swa.reference _ _ _ _ _ _ _).trans (Eq.trans ?_ (Cert.Out.Swa.result m c).symm)
  rw [h0, h1, h2, h3]

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, preFacts, preFacts4, preFacts5,
  fun m ρ _ => Cert.Kernel.Gen.frame m ρ,
  fun m ρ _ => Cert.KernelIdeal.Gen.frame m ρ,
  fun m ρ _ => Cert.KernelIdeal.Gen.frame m ρ,
  quiescent_ReferenceIdeal,
  fun m ρ _ => quiescent_ReferenceIdeal m ρ trivial,
  fun m ρ _ => Cert.Kernel2.Gen.frame m ρ,
  fun m ρ _ => Cert.Kernel2Ideal.Gen.frame m ρ,
  quiescent_Reference2Ideal,
  fun m ρ _ => Cert.Kernel3.Gen.frame m ρ,
  fun m ρ _ => Cert.Kernel3Ideal.Gen.frame m ρ,
  quiescent_Reference3Ideal,
  fun m ρ _ => Cert.Kernel4.Gen.frame m ρ,
  fun m ρ _ => Cert.Kernel4Ideal.Gen.frame m ρ,
  fun m ρ _ => Cert.Kernel4Ideal.Gen.frame m ρ,
  quiescent_Reference4Ideal,
  fun m ρ _ => quiescent_Reference4Ideal m ρ trivial,
  fun m ρ _ => Cert.Kernel5.Gen.frame m ρ,
  fun m ρ _ => Cert.Kernel5Ideal.Gen.frame m ρ,
  fun m ρ _ => Cert.Kernel5Ideal.Gen.frame m ρ,
  quiescent_Reference5Ideal,
  fun m ρ _ => quiescent_Reference5Ideal m ρ trivial,
  fun m ρ _ => Cert.Kernel6.Gen.frame m ρ,
  fun m ρ _ => Cert.Kernel6Ideal.Gen.frame m ρ,
  quiescent_Reference6Ideal,
  (trivial : preserves_Kernel_KernelIdeal),
  algebraic,
  (trivial : preserves_Kernel2_Kernel2Ideal),
  algebraic2,
  (trivial : preserves_Kernel3_Kernel3Ideal),
  algebraic3,
  (trivial : preserves_Kernel4_Kernel4Ideal),
  algebraic4,
  (trivial : preserves_Kernel5_Kernel5Ideal),
  algebraic5,
  (trivial : preserves_Kernel6_Kernel6Ideal),
  algebraic6⟩

end Cert.Proof

end
